-- ==== Defs.lean ====
def Pre_Kernel [hPre_pooling_indices : Cert.Pre_pooling_indices.Facts] (m : (ℓ : Loc Cert.Kernel.nD Cert.Kernel.τ Cert.Kernel.sig) → Buf (Elt Bits) ℓ) : Prop :=
  ∀ c : Dev Cert.Kernel.nD,
    (Cert.Pre_pooling_indices.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pooling_indices : Cert.Pre_pooling_indices.Facts] (m : (ℓ : Loc Cert.KernelIdeal.nD Cert.KernelIdeal.τ Cert.KernelIdeal.sig) → Buf (Elt Ideal) ℓ) : Prop :=
  ∀ c : Dev Cert.KernelIdeal.nD,
    (Cert.Pre_pooling_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pooling_indices [hPre_pooling_indices : Cert.Pre_pooling_indices.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pooling_indices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pooling_indices : Cert.Pre_pooling_indices.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pooling_indices : Cert.Pre_pooling_indices.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pooling_indices [hReferenceIdeal : Cert.ReferenceIdeal.Facts] [hPre_pooling_indices : Cert.Pre_pooling_indices.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pooling_indices m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pooling_indices : Cert.Pre_pooling_indices.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pooling_indices : Cert.Pre_pooling_indices.Facts),
    quiescent_Kernel (hKernel := hKernel) (hPre_pooling_indices := hPre_pooling_indices)
    ∧ quiescent_KernelIdeal (hKernelIdeal := hKernelIdeal) (hPre_pooling_indices := hPre_pooling_indices)
    ∧ quiescent_ReferenceIdeal (hReferenceIdeal := hReferenceIdeal)
    ∧ quiescent_ReferenceIdeal_pre_pooling_indices (hReferenceIdeal := hReferenceIdeal) (hPre_pooling_indices := hPre_pooling_indices)
    ∧ preserves_Kernel_KernelIdeal
    ∧ algebraic_KernelIdeal_ReferenceIdeal (hKernelIdeal := hKernelIdeal) (hReferenceIdeal := hReferenceIdeal) (hPre_pooling_indices := hPre_pooling_indices)
-- ==== Pre_pooling_indices.lean ====
abbrev S4x96x192x192 : Shape := ⟨4, ![4, 96, 192, 192]⟩
abbrev S_ : Shape := ⟨0, ![]⟩

class Facts : Prop where
  bcast_S_S4x96x192x192 : S_.BroadcastsInDim S4x96x192x192 (![] : Fin 0 → Fin S4x96x192x192.rank)
  reducesTo_S4x96x192x192_S_d0_1_2_3 : S4x96x192x192.ReducesTo [0, 1, 2, 3] S_
  h_S_ : 0 < S_.numel

variable [Facts]

def fn_part1 {F : FTy → Type} [FloatOps F] (main_v15 : IVec S4x96x192x192 1) (main_v17 : IVec S4x96x192x192 1) : IVec S_ 1 :=
  let main_v18 : IVec S4x96x192x192 1 := ori main_v15 main_v17
  let main_c_5 : IVec S_ 1 := constantI S_ 1 1#1
  let main_v19 : IVec S_ 1 := (fun x v => Host.reduce IntOp.andi x v reducesTo_S4x96x192x192_S_d0_1_2_3 h_S_) main_v18 main_c_5
  main_v19

def fn {F : FTy → Type} [FloatOps F] (main_arg0 : FVec F S4x96x192x192 .f32) (main_arg1 : IVec S4x96x192x192 32) : IVec S_ 1 :=
  let main_v0 : IVec S4x96x192x192 32 := iotaInDim S4x96x192x192 32 2
  let main_v1 : IVec S4x96x192x192 32 := iotaInDim S4x96x192x192 32 3
  let main_c : IVec S_ 32 := constantI S_ 32 768#32
  let main_v2 : IVec S4x96x192x192 32 := broadcastInDim S4x96x192x192 ![] bcast_S_S4x96x192x192 main_c
  let main_v3 : IVec S4x96x192x192 32 := muli main_v2 main_v0
  let main_c_0 : IVec S_ 32 := constantI S_ 32 2#32
  let main_v4 : IVec S4x96x192x192 32 := broadcastInDim S4x96x192x192 ![] bcast_S_S4x96x192x192 main_c_0
  let main_v5 : IVec S4x96x192x192 32 := muli main_v4 main_v1
  let main_v6 : IVec S4x96x192x192 32 := addi main_v3 main_v5
  let main_v7 : IVec S4x96x192x192 32 := subi main_arg1 main_v6
  let main_c_1 : IVec S_ 32 := constantI S_ 32 0#32
  let main_v8 : IVec S4x96x192x192 32 := broadcastInDim S4x96x192x192 ![] bcast_S_S4x96x192x192 main_c_1
  let main_v9 : IVec S4x96x192x192 1 := cmpi .eq main_v7 main_v8
  let main_c_2 : IVec S_ 32 := constantI S_ 32 1#32
  let main_v10 : IVec S4x96x192x192 32 := broadcastInDim S4x96x192x192 ![] bcast_S_S4x96x192x192 main_c_2
  let main_v11 : IVec S4x96x192x192 1 := cmpi .eq main_v7 main_v10
  let main_v12 : IVec S4x96x192x192 1 := ori main_v9 main_v11
  let main_c_3 : IVec S_ 32 := constantI S_ 32 384#32
  let main_v13 : IVec S4x96x192x192 32 := broadcastInDim S4x96x192x192 ![] bcast_S_S4x96x192x192 main_c_3
  let main_v14 : IVec S4x96x192x192 1 := cmpi .eq main_v7 main_v13
  let main_v15 : IVec S4x96x192x192 1 := ori main_v12 main_v14
  let main_c_4 : IVec S_ 32 := constantI S_ 32 385#32
  let main_v16 : IVec S4x96x192x192 32 := broadcastInDim S4x96x192x192 ![] bcast_S_S4x96x192x192 main_c_4
  let main_v17 : IVec S4x96x192x192 1 := cmpi .eq main_v7 main_v16
  fn_part1 (F := F) main_v15 main_v17
-- ==== Kernel.lean ====
abbrev S4x96x192x192 : Shape := ⟨4, ![4, 96, 192, 192]⟩
abbrev S96x384x384 : Shape := ⟨3, ![96, 384, 384]⟩
abbrev S32x192 : Shape := ⟨2, ![32, 192]⟩
abbrev S64x384 : Shape := ⟨2, ![64, 384]⟩
abbrev S_ : Shape := ⟨0, ![]⟩
abbrev S16 : Shape := ⟨1, ![16]⟩
abbrev S1x16 : Shape := ⟨2, ![1, 16]⟩
abbrev S1x1x32x192 : Shape := ⟨4, ![1, 1, 32, 192]⟩
abbrev S1x64x384 : Shape := ⟨3, ![1, 64, 384]⟩
abbrev S3x96x384x384 : Shape := ⟨4, ![3, 96, 384, 384]⟩
abbrev S1x1x192x192 : Shape := ⟨4, ![1, 1, 192, 192]⟩
abbrev S1x1x384x384 : Shape := ⟨4, ![1, 1, 384, 384]⟩
abbrev S192x192 : Shape := ⟨2, ![192, 192]⟩
abbrev S192x384 : Shape := ⟨2, ![192, 384]⟩
abbrev S384x192 : Shape := ⟨2, ![384, 192]⟩
abbrev S384x384 : Shape := ⟨2, ![384, 384]⟩
abbrev S1x96x384x384 : Shape := ⟨4, ![1, 96, 384, 384]⟩
abbrev S4x96x384x384 : Shape := ⟨4, ![4, 96, 384, 384]⟩

abbrev nBuf : Table → Nat
  | .hbm => 6
  | .local .tc .vmem => 6
  | .local .scVector .vmem => 8
  | _ => 0

abbrev bufTy : (tb : Table) → Fin (nBuf tb) → BufTy
  | .hbm, ⟨0, _⟩ => ⟨S4x96x192x192, .f32⟩
  | .hbm, ⟨1, _⟩ => ⟨S4x96x192x192, .i32⟩
  | .hbm, ⟨2, _⟩ => ⟨S96x384x384, .f32⟩
  | .hbm, ⟨3, _⟩ => ⟨S3x96x384x384, .f32⟩
  | .hbm, ⟨4, _⟩ => ⟨S1x96x384x384, .f32⟩
  | .hbm, ⟨5, _⟩ => ⟨S4x96x384x384, .f32⟩
  | .local .tc .vmem, ⟨0, _⟩ => ⟨S1x1x192x192, .f32⟩
  | .local .tc .vmem, ⟨1, _⟩ => ⟨S1x1x192x192, .f32⟩
  | .local .tc .vmem, ⟨2, _⟩ => ⟨S1x1x192x192, .i32⟩
  | .local .tc .vmem, ⟨3, _⟩ => ⟨S1x1x192x192, .i32⟩
  | .local .tc .vmem, ⟨4, _⟩ => ⟨S1x1x384x384, .f32⟩
  | .local .tc .vmem, ⟨5, _⟩ => ⟨S1x1x384x384, .f32⟩
  | .local .scVector .vmem, ⟨0, _⟩ => ⟨S32x192, .f32⟩
  | .local .scVector .vmem, ⟨1, _⟩ => ⟨S32x192, .f32⟩
  | .local .scVector .vmem, ⟨2, _⟩ => ⟨S32x192, .i32⟩
  | .local .scVector .vmem, ⟨3, _⟩ => ⟨S32x192, .i32⟩
  | .local .scVector .vmem, ⟨4, _⟩ => ⟨S32x192, .i32⟩
  | .local .scVector .vmem, ⟨5, _⟩ => ⟨S32x192, .i32⟩
  | .local .scVector .vmem, ⟨6, _⟩ => ⟨S64x384, .f32⟩
  | .local .scVector .vmem, ⟨7, _⟩ => ⟨S64x384, .f32⟩
  | _, _ => ⟨S4x96x192x192, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k0_off1 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v53 : Index := Scalar.indexCast v52
  let c0 : Index := 0#32
  ![v53.toNat, 0]
def k0_off2 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v57 : Index := Scalar.indexCast v52
  let c16 : Index := 16#32
  ![v57.toNat, 16]
def k0_off3 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v61 : Index := Scalar.indexCast v52
  let c32 : Index := 32#32
  ![v61.toNat, 32]
def k0_off4 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v65 : Index := Scalar.indexCast v52
  let c48 : Index := 48#32
  ![v65.toNat, 48]
def k0_off5 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v69 : Index := Scalar.indexCast v52
  let c64 : Index := 64#32
  ![v69.toNat, 64]
def k0_off6 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v73 : Index := Scalar.indexCast v52
  let c80 : Index := 80#32
  ![v73.toNat, 80]
def k0_off7 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v77 : Index := Scalar.indexCast v52
  let c96 : Index := 96#32
  ![v77.toNat, 96]
def k0_off8 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v81 : Index := Scalar.indexCast v52
  let c112 : Index := 112#32
  ![v81.toNat, 112]
def k0_off9 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v85 : Index := Scalar.indexCast v52
  let c128 : Index := 128#32
  ![v85.toNat, 128]
def k0_off10 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v89 : Index := Scalar.indexCast v52
  let c144 : Index := 144#32
  ![v89.toNat, 144]
def k0_off11 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v93 : Index := Scalar.indexCast v52
  let c160 : Index := 160#32
  ![v93.toNat, 160]
def k0_off12 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v97 : Index := Scalar.indexCast v52
  let c176 : Index := 176#32
  ![v97.toNat, 176]
def k0_off13 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v101 : Index := Scalar.indexCast v52
  let c192 : Index := 192#32
  ![v101.toNat, 192]
def k0_off14 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v105 : Index := Scalar.indexCast v52
  let c208 : Index := 208#32
  ![v105.toNat, 208]
def k0_off15 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v109 : Index := Scalar.indexCast v52
  let c224 : Index := 224#32
  ![v109.toNat, 224]
def k0_off16 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v113 : Index := Scalar.indexCast v52
  let c240 : Index := 240#32
  ![v113.toNat, 240]
def k0_off17 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v117 : Index := Scalar.indexCast v52
  let c256 : Index := 256#32
  ![v117.toNat, 256]
def k0_off18 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v121 : Index := Scalar.indexCast v52
  let c272 : Index := 272#32
  ![v121.toNat, 272]
def k0_off19 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v125 : Index := Scalar.indexCast v52
  let c288 : Index := 288#32
  ![v125.toNat, 288]
def k0_off20 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v129 : Index := Scalar.indexCast v52
  let c304 : Index := 304#32
  ![v129.toNat, 304]
def k0_off21 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v133 : Index := Scalar.indexCast v52
  let c320 : Index := 320#32
  ![v133.toNat, 320]
def k0_off22 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v137 : Index := Scalar.indexCast v52
  let c336 : Index := 336#32
  ![v137.toNat, 336]
def k0_off23 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v141 : Index := Scalar.indexCast v52
  let c352 : Index := 352#32
  ![v141.toNat, 352]
def k0_off24 (k0_t1 : Fin k0_t1_loop.trips) : Fin 2 → Nat :=
  let c0_i32_38 : BitVec 32 := 0#32
  let c0_i32 : BitVec 32 := 0#32
  let c1_i32 : BitVec 32 := 1#32
  let arg17 : BitVec 32 := Scf.iv c0_i32 c1_i32 k0_t1
  let c1_i32_37 : BitVec 32 := 1#32
  let v51 : BitVec 32 := Scalar.muli arg17 c1_i32_37
  let v52 : BitVec 32 := Scalar.addi c0_i32_38 v51
  let v145 : Index := Scalar.indexCast v52
  let c368 : Index := 368#32
  ![v145.toNat, 368]
def k0_off25 (i : grid0.Coords) : Fin 4 → Nat :=
  let c3_i32_8 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v4 : BitVec 32 := Scalar.muli v1 c3_i32
  let c0_i32_1 : BitVec 32 := 0#32
  let v5 : BitVec 32 := Scalar.addi v4 c0_i32_1
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c96_i32 : BitVec 32 := 96#32
  let c0_i32_4 : BitVec 32 := 0#32
  let v12 : BitVec 1 := Scalar.cmpi .sgt c96_i32 c0_i32_4
  let v13 : BitVec 32 := Scalar.extui v12
  let c0_i32_5 : BitVec 32 := 0#32
  let v14 : BitVec 1 := Scalar.cmpi .slt c96_i32 c0_i32_5
  let v15 : BitVec 32 := Scalar.extui v14
  let v16 : BitVec 32 := Scalar.subi v13 v15
  let v17 : BitVec 1 := Scalar.cmpi .ne v11 v16
  let v18 : BitVec 32 := Scalar.remsi v5 c96_i32
  let c0_i32_6 : BitVec 32 := 0#32
  let v19 : BitVec 1 := Scalar.cmpi .ne v18 c0_i32_6
  let v20 : BitVec 1 := Scalar.andi v17 v19
  let v6 : BitVec 32 := Scalar.divsi v5 c96_i32
  let c1_i32_7 : BitVec 32 := 1#32
  let v21 : BitVec 32 := Scalar.subi v6 c1_i32_7
  let v22 : BitVec 32 := Scalar.select v20 v21 v6
  let v23 : BitVec 32 := Scalar.addi c3_i32_8 v22
  let c96_i32_9 : BitVec 32 := 96#32
  let c0_i32_10 : BitVec 32 := 0#32
  let v24 : BitVec 1 := Scalar.cmpi .eq c96_i32_9 c0_i32_10
  let c1_i32_11 : BitVec 32 := 1#32
  let v25 : BitVec 32 := Scalar.select v24 c1_i32_11 c96_i32_9
  let v26 : BitVec 32 := Scalar.remsi v5 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let c0_i32_15 : BitVec 32 := 0#32
  let c0_i32_16 : BitVec 32 := 0#32
  ![v23.toNat, v33.toNat, 0, 0]
@[reducible] def k0_t2_loop : Scf.Loop 32 :=
  let c0_i32_24 : BitVec 32 := 0#32
  let c9_i32 : BitVec 32 := 9#32
  let v42 : BitVec 32 := Scalar.addi c0_i32_24 c9_i32
  let c1_i32_25 : BitVec 32 := 1#32
  ⟨c0_i32_24, v42, c1_i32_25⟩
def k0_cond1 (k0_t2 : Fin k0_t2_loop.trips) : BitVec 1 :=
  let c0_i32_24 : BitVec 32 := 0#32
  let c1_i32_25 : BitVec 32 := 1#32
  let arg17 : BitVec 32 := Scf.iv c0_i32_24 c1_i32_25 k0_t2
  let c1_i32_39 : BitVec 32 := 1#32
  let v53 : BitVec 1 := Scalar.cmpi .sge arg17 c1_i32_39
  let v54 : BitVec 32 := Scalar.extui v53
  let c0_i32_40 : BitVec 32 := 0#32
  let v55 : BitVec 1 := Scalar.cmpi .ne v54 c0_i32_40
  v55

@[reducible] def k0_t3_loop : Scf.Loop 32 :=
  let c0_i32_241 : BitVec 32 := 0#32
  let c32_i32_242 : BitVec 32 := 32#32
  let v401 : BitVec 32 := Scalar.addi c0_i32_241 c32_i32_242
  let c1_i32_243 : BitVec 32 := 1#32
  ⟨c0_i32_241, v401, c1_i32_243⟩
def k0_off26 (k0_t3 : Fin k0_t3_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t3
  let c1_i32_245 : BitVec 32 := 1#32
  let v402 : BitVec 32 := Scalar.muli arg18 c1_i32_245
  let v403 : BitVec 32 := Scalar.addi c0_i32_246 v402
  let v405 : Index := Scalar.indexCast v403
  let c0 : Index := 0#32
  ![v405.toNat, 0]

def k0_chk1 (k0_t2 : Fin k0_t2_loop.trips) (v411 : IVec S16 32) (v415 : IVec S16 32) : Prop :=
  (∀ (k0_h1 : k0_cond1 k0_t2 = 1#1), ∀ a x, ((![v415, v411] : Fin 2 → IVec S16 32) a x).toNat < S64x384.size a)
theorem k0_idx1_inb : ∀ (k0_t2 : Fin k0_t2_loop.trips) (v411 : IVec S16 32) (v415 : IVec S16 32) (k0_hw1 : k0_chk1 k0_t2 v411 v415), ∀ (k0_h1 : k0_cond1 k0_t2 = 1#1), ∀ a x, ((![v415, v411] : Fin 2 → IVec S16 32) a x).toNat < S64x384.size a := fun k0_t2 v411 v415 k0_hw1 k0_h1 => k0_hw1 k0_h1
def k0_off27 (k0_t3 : Fin k0_t3_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t3
  let c1_i32_245 : BitVec 32 := 1#32
  let v402 : BitVec 32 := Scalar.muli arg18 c1_i32_245
  let v403 : BitVec 32 := Scalar.addi c0_i32_246 v402
  let v416 : Index := Scalar.indexCast v403
  let c16 : Index := 16#32
  ![v416.toNat, 16]

def k0_chk2 (k0_t2 : Fin k0_t2_loop.trips) (v422 : IVec S16 32) (v426 : IVec S16 32) : Prop :=
  (∀ (k0_h1 : k0_cond1 k0_t2 = 1#1), ∀ a x, ((![v426, v422] : Fin 2 → IVec S16 32) a x).toNat < S64x384.size a)
theorem k0_idx2_inb : ∀ (k0_t2 : Fin k0_t2_loop.trips) (v422 : IVec S16 32) (v426 : IVec S16 32) (k0_hw2 : k0_chk2 k0_t2 v422 v426), ∀ (k0_h1 : k0_cond1 k0_t2 = 1#1), ∀ a x, ((![v426, v422] : Fin 2 → IVec S16 32) a x).toNat < S64x384.size a := fun k0_t2 v422 v426 k0_hw2 k0_h1 => k0_hw2 k0_h1
def k0_off28 (k0_t3 : Fin k0_t3_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t3
  let c1_i32_245 : BitVec 32 := 1#32
  let v402 : BitVec 32 := Scalar.muli arg18 c1_i32_245
  let v403 : BitVec 32 := Scalar.addi c0_i32_246 v402
  let v427 : Index := Scalar.indexCast v403
  let c32 : Index := 32#32
  ![v427.toNat, 32]

def k0_chk3 (k0_t2 : Fin k0_t2_loop.trips) (v433 : IVec S16 32) (v437 : IVec S16 32) : Prop :=
  (∀ (k0_h1 : k0_cond1 k0_t2 = 1#1), ∀ a x, ((![v437, v433] : Fin 2 → IVec S16 32) a x).toNat < S64x384.size a)
theorem k0_idx3_inb : ∀ (k0_t2 : Fin k0_t2_loop.trips) (v433 : IVec S16 32) (v437 : IVec S16 32) (k0_hw3 : k0_chk3 k0_t2 v433 v437), ∀ (k0_h1 : k0_cond1 k0_t2 = 1#1), ∀ a x, ((![v437, v433] : Fin 2 → IVec S16 32) a x).toNat < S64x384.size a := fun k0_t2 v433 v437 k0_hw3 k0_h1 => k0_hw3 k0_h1
def k0_off29 (k0_t3 : Fin k0_t3_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t3
  let c1_i32_245 : BitVec 32 := 1#32
  let v402 : BitVec 32 := Scalar.muli arg18 c1_i32_245
  let v403 : BitVec 32 := Scalar.addi c0_i32_246 v402
  let v438 : Index := Scalar.indexCast v403
  let c48 : Index := 48#32
  ![v438.toNat, 48]

def k0_chk4 (k0_t2 : Fin k0_t2_loop.trips) (v444 : IVec S16 32) (v448 : IVec S16 32) : Prop :=
  (∀ (k0_h1 : k0_cond1 k0_t2 = 1#1), ∀ a x, ((![v448, v444] : Fin 2 → IVec S16 32) a x).toNat < S64x384.size a)
theorem k0_idx4_inb : ∀ (k0_t2 : Fin k0_t2_loop.trips) (v444 : IVec S16 32) (v448 : IVec S16 32) (k0_hw4 : k0_chk4 k0_t2 v444 v448), ∀ (k0_h1 : k0_cond1 k0_t2 = 1#1), ∀ a x, ((![v448, v444] : Fin 2 → IVec S16 32) a x).toNat < S64x384.size a := fun k0_t2 v444 v448 k0_hw4 k0_h1 => k0_hw4 k0_h1
def k0_off30 (k0_t3 : Fin k0_t3_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t3
  let c1_i32_245 : BitVec 32 := 1#32
  let v402 : BitVec 32 := Scalar.muli arg18 c1_i32_245
  let v403 : BitVec 32 := Scalar.addi c0_i32_246 v402
  let v449 : Index := Scalar.indexCast v403
  let c64 : Index := 64#32
  ![v449.toNat, 64]

def k0_chk5 (k0_t2 : Fin k0_t2_loop.trips) (v455 : IVec S16 32) (v459 : IVec S16 32) : Prop :=
  (∀ (k0_h1 : k0_cond1 k0_t2 = 1#1), ∀ a x, ((![v459, v455] : Fin 2 → IVec S16 32) a x).toNat < S64x384.size a)
theorem k0_idx5_inb : ∀ (k0_t2 : Fin k0_t2_loop.trips) (v455 : IVec S16 32) (v459 : IVec S16 32) (k0_hw5 : k0_chk5 k0_t2 v455 v459), ∀ (k0_h1 : k0_cond1 k0_t2 = 1#1), ∀ a x, ((![v459, v455] : Fin 2 → IVec S16 32) a x).toNat < S64x384.size a := fun k0_t2 v455 v459 k0_hw5 k0_h1 => k0_hw5 k0_h1
def k0_off31 (k0_t3 : Fin k0_t3_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t3
  let c1_i32_245 : BitVec 32 := 1#32
  let v402 : BitVec 32 := Scalar.muli arg18 c1_i32_245
  let v403 : BitVec 32 := Scalar.addi c0_i32_246 v402
  let v460 : Index := Scalar.indexCast v403
  let c80 : Index := 80#32
  ![v460.toNat, 80]

def k0_chk6 (k0_t2 : Fin k0_t2_loop.trips) (v466 : IVec S16 32) (v470 : IVec S16 32) : Prop :=
  (∀ (k0_h1 : k0_cond1 k0_t2 = 1#1), ∀ a x, ((![v470, v466] : Fin 2 → IVec S16 32) a x).toNat < S64x384.size a)
theorem k0_idx6_inb : ∀ (k0_t2 : Fin k0_t2_loop.trips) (v466 : IVec S16 32) (v470 : IVec S16 32) (k0_hw6 : k0_chk6 k0_t2 v466 v470), ∀ (k0_h1 : k0_cond1 k0_t2 = 1#1), ∀ a x, ((![v470, v466] : Fin 2 → IVec S16 32) a x).toNat < S64x384.size a := fun k0_t2 v466 v470 k0_hw6 k0_h1 => k0_hw6 k0_h1
def k0_off32 (k0_t3 : Fin k0_t3_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t3
  let c1_i32_245 : BitVec 32 := 1#32
  let v402 : BitVec 32 := Scalar.muli arg18 c1_i32_245
  let v403 : BitVec 32 := Scalar.addi c0_i32_246 v402
  let v471 : Index := Scalar.indexCast v403
  let c96 : Index := 96#32
  ![v471.toNat, 96]

def k0_chk7 (k0_t2 : Fin k0_t2_loop.trips) (v477 : IVec S16 32) (v481 : IVec S16 32) : Prop :=
  (∀ (k0_h1 : k0_cond1 k0_t2 = 1#1), ∀ a x, ((![v481, v477] : Fin 2 → IVec S16 32) a x).toNat < S64x384.size a)
theorem k0_idx7_inb : ∀ (k0_t2 : Fin k0_t2_loop.trips) (v477 : IVec S16 32) (v481 : IVec S16 32) (k0_hw7 : k0_chk7 k0_t2 v477 v481), ∀ (k0_h1 : k0_cond1 k0_t2 = 1#1), ∀ a x, ((![v481, v477] : Fin 2 → IVec S16 32) a x).toNat < S64x384.size a := fun k0_t2 v477 v481 k0_hw7 k0_h1 => k0_hw7 k0_h1
def k0_off33 (k0_t3 : Fin k0_t3_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t3
  let c1_i32_245 : BitVec 32 := 1#32
  let v402 : BitVec 32 := Scalar.muli arg18 c1_i32_245
  let v403 : BitVec 32 := Scalar.addi c0_i32_246 v402
  let v482 : Index := Scalar.indexCast v403
  let c112 : Index := 112#32
  ![v482.toNat, 112]

def k0_chk8 (k0_t2 : Fin k0_t2_loop.trips) (v488 : IVec S16 32) (v492 : IVec S16 32) : Prop :=
  (∀ (k0_h1 : k0_cond1 k0_t2 = 1#1), ∀ a x, ((![v492, v488] : Fin 2 → IVec S16 32) a x).toNat < S64x384.size a)
theorem k0_idx8_inb : ∀ (k0_t2 : Fin k0_t2_loop.trips) (v488 : IVec S16 32) (v492 : IVec S16 32) (k0_hw8 : k0_chk8 k0_t2 v488 v492), ∀ (k0_h1 : k0_cond1 k0_t2 = 1#1), ∀ a x, ((![v492, v488] : Fin 2 → IVec S16 32) a x).toNat < S64x384.size a := fun k0_t2 v488 v492 k0_hw8 k0_h1 => k0_hw8 k0_h1
def k0_off34 (k0_t3 : Fin k0_t3_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t3
  let c1_i32_245 : BitVec 32 := 1#32
  let v402 : BitVec 32 := Scalar.muli arg18 c1_i32_245
  let v403 : BitVec 32 := Scalar.addi c0_i32_246 v402
  let v493 : Index := Scalar.indexCast v403
  let c128 : Index := 128#32
  ![v493.toNat, 128]

def k0_chk9 (k0_t2 : Fin k0_t2_loop.trips) (v499 : IVec S16 32) (v503 : IVec S16 32) : Prop :=
  (∀ (k0_h1 : k0_cond1 k0_t2 = 1#1), ∀ a x, ((![v503, v499] : Fin 2 → IVec S16 32) a x).toNat < S64x384.size a)
theorem k0_idx9_inb : ∀ (k0_t2 : Fin k0_t2_loop.trips) (v499 : IVec S16 32) (v503 : IVec S16 32) (k0_hw9 : k0_chk9 k0_t2 v499 v503), ∀ (k0_h1 : k0_cond1 k0_t2 = 1#1), ∀ a x, ((![v503, v499] : Fin 2 → IVec S16 32) a x).toNat < S64x384.size a := fun k0_t2 v499 v503 k0_hw9 k0_h1 => k0_hw9 k0_h1
def k0_off35 (k0_t3 : Fin k0_t3_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t3
  let c1_i32_245 : BitVec 32 := 1#32
  let v402 : BitVec 32 := Scalar.muli arg18 c1_i32_245
  let v403 : BitVec 32 := Scalar.addi c0_i32_246 v402
  let v504 : Index := Scalar.indexCast v403
  let c144 : Index := 144#32
  ![v504.toNat, 144]

def k0_chk10 (k0_t2 : Fin k0_t2_loop.trips) (v510 : IVec S16 32) (v514 : IVec S16 32) : Prop :=
  (∀ (k0_h1 : k0_cond1 k0_t2 = 1#1), ∀ a x, ((![v514, v510] : Fin 2 → IVec S16 32) a x).toNat < S64x384.size a)
theorem k0_idx10_inb : ∀ (k0_t2 : Fin k0_t2_loop.trips) (v510 : IVec S16 32) (v514 : IVec S16 32) (k0_hw10 : k0_chk10 k0_t2 v510 v514), ∀ (k0_h1 : k0_cond1 k0_t2 = 1#1), ∀ a x, ((![v514, v510] : Fin 2 → IVec S16 32) a x).toNat < S64x384.size a := fun k0_t2 v510 v514 k0_hw10 k0_h1 => k0_hw10 k0_h1
def k0_off36 (k0_t3 : Fin k0_t3_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t3
  let c1_i32_245 : BitVec 32 := 1#32
  let v402 : BitVec 32 := Scalar.muli arg18 c1_i32_245
  let v403 : BitVec 32 := Scalar.addi c0_i32_246 v402
  let v515 : Index := Scalar.indexCast v403
  let c160 : Index := 160#32
  ![v515.toNat, 160]

def k0_chk11 (k0_t2 : Fin k0_t2_loop.trips) (v521 : IVec S16 32) (v525 : IVec S16 32) : Prop :=
  (∀ (k0_h1 : k0_cond1 k0_t2 = 1#1), ∀ a x, ((![v525, v521] : Fin 2 → IVec S16 32) a x).toNat < S64x384.size a)
theorem k0_idx11_inb : ∀ (k0_t2 : Fin k0_t2_loop.trips) (v521 : IVec S16 32) (v525 : IVec S16 32) (k0_hw11 : k0_chk11 k0_t2 v521 v525), ∀ (k0_h1 : k0_cond1 k0_t2 = 1#1), ∀ a x, ((![v525, v521] : Fin 2 → IVec S16 32) a x).toNat < S64x384.size a := fun k0_t2 v521 v525 k0_hw11 k0_h1 => k0_hw11 k0_h1
def k0_off37 (k0_t3 : Fin k0_t3_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t3
  let c1_i32_245 : BitVec 32 := 1#32
  let v402 : BitVec 32 := Scalar.muli arg18 c1_i32_245
  let v403 : BitVec 32 := Scalar.addi c0_i32_246 v402
  let v526 : Index := Scalar.indexCast v403
  let c176 : Index := 176#32
  ![v526.toNat, 176]

def k0_chk12 (k0_t2 : Fin k0_t2_loop.trips) (v532 : IVec S16 32) (v536 : IVec S16 32) : Prop :=
  (∀ (k0_h1 : k0_cond1 k0_t2 = 1#1), ∀ a x, ((![v536, v532] : Fin 2 → IVec S16 32) a x).toNat < S64x384.size a)
theorem k0_idx12_inb : ∀ (k0_t2 : Fin k0_t2_loop.trips) (v532 : IVec S16 32) (v536 : IVec S16 32) (k0_hw12 : k0_chk12 k0_t2 v532 v536), ∀ (k0_h1 : k0_cond1 k0_t2 = 1#1), ∀ a x, ((![v536, v532] : Fin 2 → IVec S16 32) a x).toNat < S64x384.size a := fun k0_t2 v532 v536 k0_hw12 k0_h1 => k0_hw12 k0_h1
def k0_off38 (i : grid0.Coords) (k0_t2 : Fin k0_t2_loop.trips) : Fin 4 → Nat :=
  let c3_i32_68 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_54 : BitVec 32 := 3#32
  let v65 : BitVec 32 := Scalar.muli v1 c3_i32_54
  let c2_i32_37 : BitVec 32 := 2#32
  let c0_i32_24 : BitVec 32 := 0#32
  let c1_i32_25 : BitVec 32 := 1#32
  let arg17 : BitVec 32 := Scf.iv c0_i32_24 c1_i32_25 k0_t2
  let v51 : BitVec 32 := Scalar.muli c2_i32_37 arg17
  let c0_i32_38 : BitVec 32 := 0#32
  let v52 : BitVec 32 := Scalar.addi v51 c0_i32_38
  let c1_i32_53 : BitVec 32 := 1#32
  let v64 : BitVec 32 := Scalar.addi v52 c1_i32_53
  let c0_i32_55 : BitVec 32 := 0#32
  let v67 : BitVec 1 := Scalar.cmpi .sgt v64 c0_i32_55
  let v68 : BitVec 32 := Scalar.extui v67
  let c0_i32_56 : BitVec 32 := 0#32
  let v69 : BitVec 1 := Scalar.cmpi .slt v64 c0_i32_56
  let v70 : BitVec 32 := Scalar.extui v69
  let v71 : BitVec 32 := Scalar.subi v68 v70
  let c6_i32 : BitVec 32 := 6#32
  let c0_i32_57 : BitVec 32 := 0#32
  let v72 : BitVec 1 := Scalar.cmpi .sgt c6_i32 c0_i32_57
  let v73 : BitVec 32 := Scalar.extui v72
  let c0_i32_58 : BitVec 32 := 0#32
  let v74 : BitVec 1 := Scalar.cmpi .slt c6_i32 c0_i32_58
  let v75 : BitVec 32 := Scalar.extui v74
  let v76 : BitVec 32 := Scalar.subi v73 v75
  let v77 : BitVec 1 := Scalar.cmpi .ne v71 v76
  let v78 : BitVec 32 := Scalar.remsi v64 c6_i32
  let c0_i32_59 : BitVec 32 := 0#32
  let v79 : BitVec 1 := Scalar.cmpi .ne v78 c0_i32_59
  let v80 : BitVec 1 := Scalar.andi v77 v79
  let v66 : BitVec 32 := Scalar.divsi v64 c6_i32
  let c1_i32_60 : BitVec 32 := 1#32
  let v81 : BitVec 32 := Scalar.subi v66 c1_i32_60
  let v82 : BitVec 32 := Scalar.select v80 v81 v66
  let v83 : BitVec 32 := Scalar.addi v65 v82
  let c0_i32_62 : BitVec 32 := 0#32
  let v85 : BitVec 1 := Scalar.cmpi .sgt v83 c0_i32_62
  let v86 : BitVec 32 := Scalar.extui v85
  let c0_i32_63 : BitVec 32 := 0#32
  let v87 : BitVec 1 := Scalar.cmpi .slt v83 c0_i32_63
  let v88 : BitVec 32 := Scalar.extui v87
  let v89 : BitVec 32 := Scalar.subi v86 v88
  let c96_i32_61 : BitVec 32 := 96#32
  let c0_i32_64 : BitVec 32 := 0#32
  let v90 : BitVec 1 := Scalar.cmpi .sgt c96_i32_61 c0_i32_64
  let v91 : BitVec 32 := Scalar.extui v90
  let c0_i32_65 : BitVec 32 := 0#32
  let v92 : BitVec 1 := Scalar.cmpi .slt c96_i32_61 c0_i32_65
  let v93 : BitVec 32 := Scalar.extui v92
  let v94 : BitVec 32 := Scalar.subi v91 v93
  let v95 : BitVec 1 := Scalar.cmpi .ne v89 v94
  let v96 : BitVec 32 := Scalar.remsi v83 c96_i32_61
  let c0_i32_66 : BitVec 32 := 0#32
  let v97 : BitVec 1 := Scalar.cmpi .ne v96 c0_i32_66
  let v98 : BitVec 1 := Scalar.andi v95 v97
  let v84 : BitVec 32 := Scalar.divsi v83 c96_i32_61
  let c1_i32_67 : BitVec 32 := 1#32
  let v99 : BitVec 32 := Scalar.subi v84 c1_i32_67
  let v100 : BitVec 32 := Scalar.select v98 v99 v84
  let v101 : BitVec 32 := Scalar.addi c3_i32_68 v100
  let c96_i32_69 : BitVec 32 := 96#32
  let c0_i32_70 : BitVec 32 := 0#32
  let v102 : BitVec 1 := Scalar.cmpi .eq c96_i32_69 c0_i32_70
  let c1_i32_71 : BitVec 32 := 1#32
  let v103 : BitVec 32 := Scalar.select v102 c1_i32_71 c96_i32_69
  let v104 : BitVec 32 := Scalar.remsi v83 v103
  let c0_i32_73 : BitVec 32 := 0#32
  let v106 : BitVec 1 := Scalar.cmpi .slt v104 c0_i32_73
  let c0_i32_74 : BitVec 32 := 0#32
  let v107 : BitVec 1 := Scalar.cmpi .slt v103 c0_i32_74
  let v108 : BitVec 1 := Scalar.xori v106 v107
  let c0_i32_72 : BitVec 32 := 0#32
  let v105 : BitVec 1 := Scalar.cmpi .ne v104 c0_i32_72
  let v109 : BitVec 1 := Scalar.andi v108 v105
  let v110 : BitVec 32 := Scalar.addi v104 v103
  let v111 : BitVec 32 := Scalar.select v109 v110 v104
  let c6_i32_75 : BitVec 32 := 6#32
  let c0_i32_76 : BitVec 32 := 0#32
  let v112 : BitVec 1 := Scalar.cmpi .eq c6_i32_75 c0_i32_76
  let c1_i32_77 : BitVec 32 := 1#32
  let v113 : BitVec 32 := Scalar.select v112 c1_i32_77 c6_i32_75
  let v114 : BitVec 32 := Scalar.remsi v64 v113
  let c0_i32_79 : BitVec 32 := 0#32
  let v116 : BitVec 1 := Scalar.cmpi .slt v114 c0_i32_79
  let c0_i32_80 : BitVec 32 := 0#32
  let v117 : BitVec 1 := Scalar.cmpi .slt v113 c0_i32_80
  let v118 : BitVec 1 := Scalar.xori v116 v117
  let c0_i32_78 : BitVec 32 := 0#32
  let v115 : BitVec 1 := Scalar.cmpi .ne v114 c0_i32_78
  let v119 : BitVec 1 := Scalar.andi v118 v115
  let v120 : BitVec 32 := Scalar.addi v114 v113
  let v121 : BitVec 32 := Scalar.select v119 v120 v114
  let c32_i32 : BitVec 32 := 32#32
  let v122 : BitVec 32 := Scalar.muli v121 c32_i32
  let c0_i32_81 : BitVec 32 := 0#32
  ![v101.toNat, v111.toNat, v122.toNat, 0]
@[reducible] def k0_t4_loop : Scf.Loop 32 :=
  let c0_i32_114 : BitVec 32 := 0#32
  let c32_i32_115 : BitVec 32 := 32#32
  let v189 : BitVec 32 := Scalar.addi c0_i32_114 c32_i32_115
  let c1_i32_116 : BitVec 32 := 1#32
  ⟨c0_i32_114, v189, c1_i32_116⟩
def k0_off39 (k0_t4 : Fin k0_t4_loop.trips) : Fin 2 → Nat :=
  let c0_i32_237 : BitVec 32 := 0#32
  let c0_i32_114 : BitVec 32 := 0#32
  let c1_i32_116 : BitVec 32 := 1#32
  let arg18 : BitVec 32 := Scf.iv c0_i32_114 c1_i32_116 k0_t4
  let c1_i32_236 : BitVec 32 := 1#32
  let v397 : BitVec 32 := Scalar.muli arg18 c1_i32_236
  let v398 : BitVec 32 := Scalar.addi c0_i32_237 v397
  let v402 : Index := Scalar.indexCast v398
  let c0 : Index := 0#32
  ![v402.toNat, 0]

def k0_chk13 (v414 : IVec S16 32) (v418 : IVec S16 32) : Prop :=
  (∀ a x, ((![v418, v414] : Fin 2 → IVec S16 32) a x).toNat < S64x384.size a)
theorem k0_idx13_inb : ∀ (v414 : IVec S16 32) (v418 : IVec S16 32) (k0_hw13 : k0_chk13 v414 v418), ∀ a x, ((![v418, v414] : Fin 2 → IVec S16 32) a x).toNat < S64x384.size a := fun v414 v418 k0_hw13 => k0_hw13
def k0_off40 (k0_t4 : Fin k0_t4_loop.trips) : Fin 2 → Nat :=
  let c0_i32_237 : BitVec 32 := 0#32
  let c0_i32_114 : BitVec 32 := 0#32
  let c1_i32_116 : BitVec 32 := 1#32
  let arg18 : BitVec 32 := Scf.iv c0_i32_114 c1_i32_116 k0_t4
  let c1_i32_236 : BitVec 32 := 1#32
  let v397 : BitVec 32 := Scalar.muli arg18 c1_i32_236
  let v398 : BitVec 32 := Scalar.addi c0_i32_237 v397
  let v419 : Index := Scalar.indexCast v398
  let c16 : Index := 16#32
  ![v419.toNat, 16]

def k0_chk14 (v431 : IVec S16 32) (v435 : IVec S16 32) : Prop :=
  (∀ a x, ((![v435, v431] : Fin 2 → IVec S16 32) a x).toNat < S64x384.size a)
theorem k0_idx14_inb : ∀ (v431 : IVec S16 32) (v435 : IVec S16 32) (k0_hw14 : k0_chk14 v431 v435), ∀ a x, ((![v435, v431] : Fin 2 → IVec S16 32) a x).toNat < S64x384.size a := fun v431 v435 k0_hw14 => k0_hw14
def k0_off41 (k0_t4 : Fin k0_t4_loop.trips) : Fin 2 → Nat :=
  let c0_i32_237 : BitVec 32 := 0#32
  let c0_i32_114 : BitVec 32 := 0#32
  let c1_i32_116 : BitVec 32 := 1#32
  let arg18 : BitVec 32 := Scf.iv c0_i32_114 c1_i32_116 k0_t4
  let c1_i32_236 : BitVec 32 := 1#32
  let v397 : BitVec 32 := Scalar.muli arg18 c1_i32_236
  let v398 : BitVec 32 := Scalar.addi c0_i32_237 v397
  let v436 : Index := Scalar.indexCast v398
  let c32 : Index := 32#32
  ![v436.toNat, 32]

def k0_chk15 (v448 : IVec S16 32) (v452 : IVec S16 32) : Prop :=
  (∀ a x, ((![v452, v448] : Fin 2 → IVec S16 32) a x).toNat < S64x384.size a)
theorem k0_idx15_inb : ∀ (v448 : IVec S16 32) (v452 : IVec S16 32) (k0_hw15 : k0_chk15 v448 v452), ∀ a x, ((![v452, v448] : Fin 2 → IVec S16 32) a x).toNat < S64x384.size a := fun v448 v452 k0_hw15 => k0_hw15
def k0_off42 (k0_t4 : Fin k0_t4_loop.trips) : Fin 2 → Nat :=
  let c0_i32_237 : BitVec 32 := 0#32
  let c0_i32_114 : BitVec 32 := 0#32
  let c1_i32_116 : BitVec 32 := 1#32
  let arg18 : BitVec 32 := Scf.iv c0_i32_114 c1_i32_116 k0_t4
  let c1_i32_236 : BitVec 32 := 1#32
  let v397 : BitVec 32 := Scalar.muli arg18 c1_i32_236
  let v398 : BitVec 32 := Scalar.addi c0_i32_237 v397
  let v453 : Index := Scalar.indexCast v398
  let c48 : Index := 48#32
  ![v453.toNat, 48]

def k0_chk16 (v465 : IVec S16 32) (v469 : IVec S16 32) : Prop :=
  (∀ a x, ((![v469, v465] : Fin 2 → IVec S16 32) a x).toNat < S64x384.size a)
theorem k0_idx16_inb : ∀ (v465 : IVec S16 32) (v469 : IVec S16 32) (k0_hw16 : k0_chk16 v465 v469), ∀ a x, ((![v469, v465] : Fin 2 → IVec S16 32) a x).toNat < S64x384.size a := fun v465 v469 k0_hw16 => k0_hw16
def k0_off43 (k0_t4 : Fin k0_t4_loop.trips) : Fin 2 → Nat :=
  let c0_i32_237 : BitVec 32 := 0#32
  let c0_i32_114 : BitVec 32 := 0#32
  let c1_i32_116 : BitVec 32 := 1#32
  let arg18 : BitVec 32 := Scf.iv c0_i32_114 c1_i32_116 k0_t4
  let c1_i32_236 : BitVec 32 := 1#32
  let v397 : BitVec 32 := Scalar.muli arg18 c1_i32_236
  let v398 : BitVec 32 := Scalar.addi c0_i32_237 v397
  let v470 : Index := Scalar.indexCast v398
  let c64 : Index := 64#32
  ![v470.toNat, 64]

def k0_chk17 (v482 : IVec S16 32) (v486 : IVec S16 32) : Prop :=
  (∀ a x, ((![v486, v482] : Fin 2 → IVec S16 32) a x).toNat < S64x384.size a)
theorem k0_idx17_inb : ∀ (v482 : IVec S16 32) (v486 : IVec S16 32) (k0_hw17 : k0_chk17 v482 v486), ∀ a x, ((![v486, v482] : Fin 2 → IVec S16 32) a x).toNat < S64x384.size a := fun v482 v486 k0_hw17 => k0_hw17
def k0_off44 (k0_t4 : Fin k0_t4_loop.trips) : Fin 2 → Nat :=
  let c0_i32_237 : BitVec 32 := 0#32
  let c0_i32_114 : BitVec 32 := 0#32
  let c1_i32_116 : BitVec 32 := 1#32
  let arg18 : BitVec 32 := Scf.iv c0_i32_114 c1_i32_116 k0_t4
  let c1_i32_236 : BitVec 32 := 1#32
  let v397 : BitVec 32 := Scalar.muli arg18 c1_i32_236
  let v398 : BitVec 32 := Scalar.addi c0_i32_237 v397
  let v487 : Index := Scalar.indexCast v398
  let c80 : Index := 80#32
  ![v487.toNat, 80]

def k0_chk18 (v499 : IVec S16 32) (v503 : IVec S16 32) : Prop :=
  (∀ a x, ((![v503, v499] : Fin 2 → IVec S16 32) a x).toNat < S64x384.size a)
theorem k0_idx18_inb : ∀ (v499 : IVec S16 32) (v503 : IVec S16 32) (k0_hw18 : k0_chk18 v499 v503), ∀ a x, ((![v503, v499] : Fin 2 → IVec S16 32) a x).toNat < S64x384.size a := fun v499 v503 k0_hw18 => k0_hw18
def k0_off45 (k0_t4 : Fin k0_t4_loop.trips) : Fin 2 → Nat :=
  let c0_i32_237 : BitVec 32 := 0#32
  let c0_i32_114 : BitVec 32 := 0#32
  let c1_i32_116 : BitVec 32 := 1#32
  let arg18 : BitVec 32 := Scf.iv c0_i32_114 c1_i32_116 k0_t4
  let c1_i32_236 : BitVec 32 := 1#32
  let v397 : BitVec 32 := Scalar.muli arg18 c1_i32_236
  let v398 : BitVec 32 := Scalar.addi c0_i32_237 v397
  let v504 : Index := Scalar.indexCast v398
  let c96 : Index := 96#32
  ![v504.toNat, 96]

def k0_chk19 (v516 : IVec S16 32) (v520 : IVec S16 32) : Prop :=
  (∀ a x, ((![v520, v516] : Fin 2 → IVec S16 32) a x).toNat < S64x384.size a)
theorem k0_idx19_inb : ∀ (v516 : IVec S16 32) (v520 : IVec S16 32) (k0_hw19 : k0_chk19 v516 v520), ∀ a x, ((![v520, v516] : Fin 2 → IVec S16 32) a x).toNat < S64x384.size a := fun v516 v520 k0_hw19 => k0_hw19
def k0_off46 (k0_t4 : Fin k0_t4_loop.trips) : Fin 2 → Nat :=
  let c0_i32_237 : BitVec 32 := 0#32
  let c0_i32_114 : BitVec 32 := 0#32
  let c1_i32_116 : BitVec 32 := 1#32
  let arg18 : BitVec 32 := Scf.iv c0_i32_114 c1_i32_116 k0_t4
  let c1_i32_236 : BitVec 32 := 1#32
  let v397 : BitVec 32 := Scalar.muli arg18 c1_i32_236
  let v398 : BitVec 32 := Scalar.addi c0_i32_237 v397
  let v521 : Index := Scalar.indexCast v398
  let c112 : Index := 112#32
  ![v521.toNat, 112]

def k0_chk20 (v533 : IVec S16 32) (v537 : IVec S16 32) : Prop :=
  (∀ a x, ((![v537, v533] : Fin 2 → IVec S16 32) a x).toNat < S64x384.size a)
theorem k0_idx20_inb : ∀ (v533 : IVec S16 32) (v537 : IVec S16 32) (k0_hw20 : k0_chk20 v533 v537), ∀ a x, ((![v537, v533] : Fin 2 → IVec S16 32) a x).toNat < S64x384.size a := fun v533 v537 k0_hw20 => k0_hw20
def k0_off47 (k0_t4 : Fin k0_t4_loop.trips) : Fin 2 → Nat :=
  let c0_i32_237 : BitVec 32 := 0#32
  let c0_i32_114 : BitVec 32 := 0#32
  let c1_i32_116 : BitVec 32 := 1#32
  let arg18 : BitVec 32 := Scf.iv c0_i32_114 c1_i32_116 k0_t4
  let c1_i32_236 : BitVec 32 := 1#32
  let v397 : BitVec 32 := Scalar.muli arg18 c1_i32_236
  let v398 : BitVec 32 := Scalar.addi c0_i32_237 v397
  let v538 : Index := Scalar.indexCast v398
  let c128 : Index := 128#32
  ![v538.toNat, 128]

def k0_chk21 (v550 : IVec S16 32) (v554 : IVec S16 32) : Prop :=
  (∀ a x, ((![v554, v550] : Fin 2 → IVec S16 32) a x).toNat < S64x384.size a)
theorem k0_idx21_inb : ∀ (v550 : IVec S16 32) (v554 : IVec S16 32) (k0_hw21 : k0_chk21 v550 v554), ∀ a x, ((![v554, v550] : Fin 2 → IVec S16 32) a x).toNat < S64x384.size a := fun v550 v554 k0_hw21 => k0_hw21
def k0_off48 (k0_t4 : Fin k0_t4_loop.trips) : Fin 2 → Nat :=
  let c0_i32_237 : BitVec 32 := 0#32
  let c0_i32_114 : BitVec 32 := 0#32
  let c1_i32_116 : BitVec 32 := 1#32
  let arg18 : BitVec 32 := Scf.iv c0_i32_114 c1_i32_116 k0_t4
  let c1_i32_236 : BitVec 32 := 1#32
  let v397 : BitVec 32 := Scalar.muli arg18 c1_i32_236
  let v398 : BitVec 32 := Scalar.addi c0_i32_237 v397
  let v555 : Index := Scalar.indexCast v398
  let c144 : Index := 144#32
  ![v555.toNat, 144]

def k0_chk22 (v567 : IVec S16 32) (v571 : IVec S16 32) : Prop :=
  (∀ a x, ((![v571, v567] : Fin 2 → IVec S16 32) a x).toNat < S64x384.size a)
theorem k0_idx22_inb : ∀ (v567 : IVec S16 32) (v571 : IVec S16 32) (k0_hw22 : k0_chk22 v567 v571), ∀ a x, ((![v571, v567] : Fin 2 → IVec S16 32) a x).toNat < S64x384.size a := fun v567 v571 k0_hw22 => k0_hw22
def k0_off49 (k0_t4 : Fin k0_t4_loop.trips) : Fin 2 → Nat :=
  let c0_i32_237 : BitVec 32 := 0#32
  let c0_i32_114 : BitVec 32 := 0#32
  let c1_i32_116 : BitVec 32 := 1#32
  let arg18 : BitVec 32 := Scf.iv c0_i32_114 c1_i32_116 k0_t4
  let c1_i32_236 : BitVec 32 := 1#32
  let v397 : BitVec 32 := Scalar.muli arg18 c1_i32_236
  let v398 : BitVec 32 := Scalar.addi c0_i32_237 v397
  let v572 : Index := Scalar.indexCast v398
  let c160 : Index := 160#32
  ![v572.toNat, 160]

def k0_chk23 (v584 : IVec S16 32) (v588 : IVec S16 32) : Prop :=
  (∀ a x, ((![v588, v584] : Fin 2 → IVec S16 32) a x).toNat < S64x384.size a)
theorem k0_idx23_inb : ∀ (v584 : IVec S16 32) (v588 : IVec S16 32) (k0_hw23 : k0_chk23 v584 v588), ∀ a x, ((![v588, v584] : Fin 2 → IVec S16 32) a x).toNat < S64x384.size a := fun v584 v588 k0_hw23 => k0_hw23
def k0_off50 (k0_t4 : Fin k0_t4_loop.trips) : Fin 2 → Nat :=
  let c0_i32_237 : BitVec 32 := 0#32
  let c0_i32_114 : BitVec 32 := 0#32
  let c1_i32_116 : BitVec 32 := 1#32
  let arg18 : BitVec 32 := Scf.iv c0_i32_114 c1_i32_116 k0_t4
  let c1_i32_236 : BitVec 32 := 1#32
  let v397 : BitVec 32 := Scalar.muli arg18 c1_i32_236
  let v398 : BitVec 32 := Scalar.addi c0_i32_237 v397
  let v589 : Index := Scalar.indexCast v398
  let c176 : Index := 176#32
  ![v589.toNat, 176]

def k0_chk24 (v601 : IVec S16 32) (v605 : IVec S16 32) : Prop :=
  (∀ a x, ((![v605, v601] : Fin 2 → IVec S16 32) a x).toNat < S64x384.size a)
theorem k0_idx24_inb : ∀ (v601 : IVec S16 32) (v605 : IVec S16 32) (k0_hw24 : k0_chk24 v601 v605), ∀ a x, ((![v605, v601] : Fin 2 → IVec S16 32) a x).toNat < S64x384.size a := fun v601 v605 k0_hw24 => k0_hw24
def k0_off51 (i : grid0.Coords) (k0_t2 : Fin k0_t2_loop.trips) (c0_i32_38 : BitVec 32) : Fin 3 → Nat :=
  let c3_i32_133 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_118 : BitVec 32 := 3#32
  let v190 : BitVec 32 := Scalar.muli v1 c3_i32_118
  let c2_i32_37 : BitVec 32 := 2#32
  let c0_i32_24 : BitVec 32 := 0#32
  let c1_i32_25 : BitVec 32 := 1#32
  let arg17 : BitVec 32 := Scf.iv c0_i32_24 c1_i32_25 k0_t2
  let v51 : BitVec 32 := Scalar.muli c2_i32_37 arg17
  let v52 : BitVec 32 := Scalar.addi v51 c0_i32_38
  let c0_i32_120 : BitVec 32 := 0#32
  let v192 : BitVec 1 := Scalar.cmpi .sgt v52 c0_i32_120
  let v193 : BitVec 32 := Scalar.extui v192
  let c0_i32_121 : BitVec 32 := 0#32
  let v194 : BitVec 1 := Scalar.cmpi .slt v52 c0_i32_121
  let v195 : BitVec 32 := Scalar.extui v194
  let v196 : BitVec 32 := Scalar.subi v193 v195
  let c6_i32_119 : BitVec 32 := 6#32
  let c0_i32_122 : BitVec 32 := 0#32
  let v197 : BitVec 1 := Scalar.cmpi .sgt c6_i32_119 c0_i32_122
  let v198 : BitVec 32 := Scalar.extui v197
  let c0_i32_123 : BitVec 32 := 0#32
  let v199 : BitVec 1 := Scalar.cmpi .slt c6_i32_119 c0_i32_123
  let v200 : BitVec 32 := Scalar.extui v199
  let v201 : BitVec 32 := Scalar.subi v198 v200
  let v202 : BitVec 1 := Scalar.cmpi .ne v196 v201
  let v203 : BitVec 32 := Scalar.remsi v52 c6_i32_119
  let c0_i32_124 : BitVec 32 := 0#32
  let v204 : BitVec 1 := Scalar.cmpi .ne v203 c0_i32_124
  let v205 : BitVec 1 := Scalar.andi v202 v204
  let v191 : BitVec 32 := Scalar.divsi v52 c6_i32_119
  let c1_i32_125 : BitVec 32 := 1#32
  let v206 : BitVec 32 := Scalar.subi v191 c1_i32_125
  let v207 : BitVec 32 := Scalar.select v205 v206 v191
  let v208 : BitVec 32 := Scalar.addi v190 v207
  let c0_i32_127 : BitVec 32 := 0#32
  let v210 : BitVec 1 := Scalar.cmpi .sgt v208 c0_i32_127
  let v211 : BitVec 32 := Scalar.extui v210
  let c0_i32_128 : BitVec 32 := 0#32
  let v212 : BitVec 1 := Scalar.cmpi .slt v208 c0_i32_128
  let v213 : BitVec 32 := Scalar.extui v212
  let v214 : BitVec 32 := Scalar.subi v211 v213
  let c96_i32_126 : BitVec 32 := 96#32
  let c0_i32_129 : BitVec 32 := 0#32
  let v215 : BitVec 1 := Scalar.cmpi .sgt c96_i32_126 c0_i32_129
  let v216 : BitVec 32 := Scalar.extui v215
  let c0_i32_130 : BitVec 32 := 0#32
  let v217 : BitVec 1 := Scalar.cmpi .slt c96_i32_126 c0_i32_130
  let v218 : BitVec 32 := Scalar.extui v217
  let v219 : BitVec 32 := Scalar.subi v216 v218
  let v220 : BitVec 1 := Scalar.cmpi .ne v214 v219
  let v221 : BitVec 32 := Scalar.remsi v208 c96_i32_126
  let c0_i32_131 : BitVec 32 := 0#32
  let v222 : BitVec 1 := Scalar.cmpi .ne v221 c0_i32_131
  let v223 : BitVec 1 := Scalar.andi v220 v222
  let v209 : BitVec 32 := Scalar.divsi v208 c96_i32_126
  let c1_i32_132 : BitVec 32 := 1#32
  let v224 : BitVec 32 := Scalar.subi v209 c1_i32_132
  let v225 : BitVec 32 := Scalar.select v223 v224 v209
  let v226 : BitVec 32 := Scalar.addi c3_i32_133 v225
  let c3_i32_147 : BitVec 32 := 3#32
  let v248 : BitVec 32 := Scalar.subi v226 c3_i32_147
  let c96_i32_148 : BitVec 32 := 96#32
  let v249 : BitVec 32 := Scalar.muli v248 c96_i32_148
  let c96_i32_134 : BitVec 32 := 96#32
  let c0_i32_135 : BitVec 32 := 0#32
  let v227 : BitVec 1 := Scalar.cmpi .eq c96_i32_134 c0_i32_135
  let c1_i32_136 : BitVec 32 := 1#32
  let v228 : BitVec 32 := Scalar.select v227 c1_i32_136 c96_i32_134
  let v229 : BitVec 32 := Scalar.remsi v208 v228
  let c0_i32_138 : BitVec 32 := 0#32
  let v231 : BitVec 1 := Scalar.cmpi .slt v229 c0_i32_138
  let c0_i32_139 : BitVec 32 := 0#32
  let v232 : BitVec 1 := Scalar.cmpi .slt v228 c0_i32_139
  let v233 : BitVec 1 := Scalar.xori v231 v232
  let c0_i32_137 : BitVec 32 := 0#32
  let v230 : BitVec 1 := Scalar.cmpi .ne v229 c0_i32_137
  let v234 : BitVec 1 := Scalar.andi v233 v230
  let v235 : BitVec 32 := Scalar.addi v229 v228
  let v236 : BitVec 32 := Scalar.select v234 v235 v229
  let v250 : BitVec 32 := Scalar.addi v249 v236
  let c2_i32_149 : BitVec 32 := 2#32
  let c6_i32_140 : BitVec 32 := 6#32
  let c0_i32_141 : BitVec 32 := 0#32
  let v237 : BitVec 1 := Scalar.cmpi .eq c6_i32_140 c0_i32_141
  let c1_i32_142 : BitVec 32 := 1#32
  let v238 : BitVec 32 := Scalar.select v237 c1_i32_142 c6_i32_140
  let v239 : BitVec 32 := Scalar.remsi v52 v238
  let c0_i32_144 : BitVec 32 := 0#32
  let v241 : BitVec 1 := Scalar.cmpi .slt v239 c0_i32_144
  let c0_i32_145 : BitVec 32 := 0#32
  let v242 : BitVec 1 := Scalar.cmpi .slt v238 c0_i32_145
  let v243 : BitVec 1 := Scalar.xori v241 v242
  let c0_i32_143 : BitVec 32 := 0#32
  let v240 : BitVec 1 := Scalar.cmpi .ne v239 c0_i32_143
  let v244 : BitVec 1 := Scalar.andi v243 v240
  let v245 : BitVec 32 := Scalar.addi v239 v238
  let v246 : BitVec 32 := Scalar.select v244 v245 v239
  let c32_i32_146 : BitVec 32 := 32#32
  let v247 : BitVec 32 := Scalar.muli v246 c32_i32_146
  let v251 : BitVec 32 := Scalar.muli c2_i32_149 v247
  let c0_i32_150 : BitVec 32 := 0#32
  ![v250.toNat, v251.toNat, 0]
def k0_cond2 (k0_t2 : Fin k0_t2_loop.trips) : BitVec 1 :=
  let c0_i32_24 : BitVec 32 := 0#32
  let c1_i32_25 : BitVec 32 := 1#32
  let arg17 : BitVec 32 := Scf.iv c0_i32_24 c1_i32_25 k0_t2
  let c1_i32_154 : BitVec 32 := 1#32
  let v258 : BitVec 1 := Scalar.cmpi .sge arg17 c1_i32_154
  let v259 : BitVec 32 := Scalar.extui v258
  let c0_i32_155 : BitVec 32 := 0#32
  let v260 : BitVec 1 := Scalar.cmpi .ne v259 c0_i32_155
  v260

@[reducible] def k0_t5_loop : Scf.Loop 32 :=
  let c0_i32_241 : BitVec 32 := 0#32
  let c32_i32_242 : BitVec 32 := 32#32
  let v401 : BitVec 32 := Scalar.addi c0_i32_241 c32_i32_242
  let c1_i32_243 : BitVec 32 := 1#32
  ⟨c0_i32_241, v401, c1_i32_243⟩
def k0_off52 (k0_t5 : Fin k0_t5_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t5
  let c1_i32_245 : BitVec 32 := 1#32
  let v402 : BitVec 32 := Scalar.muli arg18 c1_i32_245
  let v403 : BitVec 32 := Scalar.addi c0_i32_246 v402
  let v405 : Index := Scalar.indexCast v403
  let c0 : Index := 0#32
  ![v405.toNat, 0]

def k0_chk25 (k0_t2 : Fin k0_t2_loop.trips) (v411 : IVec S16 32) (v415 : IVec S16 32) : Prop :=
  (∀ (k0_h2 : k0_cond2 k0_t2 = 1#1), ∀ a x, ((![v415, v411] : Fin 2 → IVec S16 32) a x).toNat < S64x384.size a)
theorem k0_idx25_inb : ∀ (k0_t2 : Fin k0_t2_loop.trips) (v411 : IVec S16 32) (v415 : IVec S16 32) (k0_hw25 : k0_chk25 k0_t2 v411 v415), ∀ (k0_h2 : k0_cond2 k0_t2 = 1#1), ∀ a x, ((![v415, v411] : Fin 2 → IVec S16 32) a x).toNat < S64x384.size a := fun k0_t2 v411 v415 k0_hw25 k0_h2 => k0_hw25 k0_h2
def k0_off53 (k0_t5 : Fin k0_t5_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t5
  let c1_i32_245 : BitVec 32 := 1#32
  let v402 : BitVec 32 := Scalar.muli arg18 c1_i32_245
  let v403 : BitVec 32 := Scalar.addi c0_i32_246 v402
  let v416 : Index := Scalar.indexCast v403
  let c16 : Index := 16#32
  ![v416.toNat, 16]

def k0_chk26 (k0_t2 : Fin k0_t2_loop.trips) (v422 : IVec S16 32) (v426 : IVec S16 32) : Prop :=
  (∀ (k0_h2 : k0_cond2 k0_t2 = 1#1), ∀ a x, ((![v426, v422] : Fin 2 → IVec S16 32) a x).toNat < S64x384.size a)
theorem k0_idx26_inb : ∀ (k0_t2 : Fin k0_t2_loop.trips) (v422 : IVec S16 32) (v426 : IVec S16 32) (k0_hw26 : k0_chk26 k0_t2 v422 v426), ∀ (k0_h2 : k0_cond2 k0_t2 = 1#1), ∀ a x, ((![v426, v422] : Fin 2 → IVec S16 32) a x).toNat < S64x384.size a := fun k0_t2 v422 v426 k0_hw26 k0_h2 => k0_hw26 k0_h2
def k0_off54 (k0_t5 : Fin k0_t5_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t5
  let c1_i32_245 : BitVec 32 := 1#32
  let v402 : BitVec 32 := Scalar.muli arg18 c1_i32_245
  let v403 : BitVec 32 := Scalar.addi c0_i32_246 v402
  let v427 : Index := Scalar.indexCast v403
  let c32 : Index := 32#32
  ![v427.toNat, 32]

def k0_chk27 (k0_t2 : Fin k0_t2_loop.trips) (v433 : IVec S16 32) (v437 : IVec S16 32) : Prop :=
  (∀ (k0_h2 : k0_cond2 k0_t2 = 1#1), ∀ a x, ((![v437, v433] : Fin 2 → IVec S16 32) a x).toNat < S64x384.size a)
theorem k0_idx27_inb : ∀ (k0_t2 : Fin k0_t2_loop.trips) (v433 : IVec S16 32) (v437 : IVec S16 32) (k0_hw27 : k0_chk27 k0_t2 v433 v437), ∀ (k0_h2 : k0_cond2 k0_t2 = 1#1), ∀ a x, ((![v437, v433] : Fin 2 → IVec S16 32) a x).toNat < S64x384.size a := fun k0_t2 v433 v437 k0_hw27 k0_h2 => k0_hw27 k0_h2
def k0_off55 (k0_t5 : Fin k0_t5_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t5
  let c1_i32_245 : BitVec 32 := 1#32
  let v402 : BitVec 32 := Scalar.muli arg18 c1_i32_245
  let v403 : BitVec 32 := Scalar.addi c0_i32_246 v402
  let v438 : Index := Scalar.indexCast v403
  let c48 : Index := 48#32
  ![v438.toNat, 48]

def k0_chk28 (k0_t2 : Fin k0_t2_loop.trips) (v444 : IVec S16 32) (v448 : IVec S16 32) : Prop :=
  (∀ (k0_h2 : k0_cond2 k0_t2 = 1#1), ∀ a x, ((![v448, v444] : Fin 2 → IVec S16 32) a x).toNat < S64x384.size a)
theorem k0_idx28_inb : ∀ (k0_t2 : Fin k0_t2_loop.trips) (v444 : IVec S16 32) (v448 : IVec S16 32) (k0_hw28 : k0_chk28 k0_t2 v444 v448), ∀ (k0_h2 : k0_cond2 k0_t2 = 1#1), ∀ a x, ((![v448, v444] : Fin 2 → IVec S16 32) a x).toNat < S64x384.size a := fun k0_t2 v444 v448 k0_hw28 k0_h2 => k0_hw28 k0_h2
def k0_off56 (k0_t5 : Fin k0_t5_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t5
  let c1_i32_245 : BitVec 32 := 1#32
  let v402 : BitVec 32 := Scalar.muli arg18 c1_i32_245
  let v403 : BitVec 32 := Scalar.addi c0_i32_246 v402
  let v449 : Index := Scalar.indexCast v403
  let c64 : Index := 64#32
  ![v449.toNat, 64]

def k0_chk29 (k0_t2 : Fin k0_t2_loop.trips) (v455 : IVec S16 32) (v459 : IVec S16 32) : Prop :=
  (∀ (k0_h2 : k0_cond2 k0_t2 = 1#1), ∀ a x, ((![v459, v455] : Fin 2 → IVec S16 32) a x).toNat < S64x384.size a)
theorem k0_idx29_inb : ∀ (k0_t2 : Fin k0_t2_loop.trips) (v455 : IVec S16 32) (v459 : IVec S16 32) (k0_hw29 : k0_chk29 k0_t2 v455 v459), ∀ (k0_h2 : k0_cond2 k0_t2 = 1#1), ∀ a x, ((![v459, v455] : Fin 2 → IVec S16 32) a x).toNat < S64x384.size a := fun k0_t2 v455 v459 k0_hw29 k0_h2 => k0_hw29 k0_h2
def k0_off57 (k0_t5 : Fin k0_t5_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t5
  let c1_i32_245 : BitVec 32 := 1#32
  let v402 : BitVec 32 := Scalar.muli arg18 c1_i32_245
  let v403 : BitVec 32 := Scalar.addi c0_i32_246 v402
  let v460 : Index := Scalar.indexCast v403
  let c80 : Index := 80#32
  ![v460.toNat, 80]

def k0_chk30 (k0_t2 : Fin k0_t2_loop.trips) (v466 : IVec S16 32) (v470 : IVec S16 32) : Prop :=
  (∀ (k0_h2 : k0_cond2 k0_t2 = 1#1), ∀ a x, ((![v470, v466] : Fin 2 → IVec S16 32) a x).toNat < S64x384.size a)
theorem k0_idx30_inb : ∀ (k0_t2 : Fin k0_t2_loop.trips) (v466 : IVec S16 32) (v470 : IVec S16 32) (k0_hw30 : k0_chk30 k0_t2 v466 v470), ∀ (k0_h2 : k0_cond2 k0_t2 = 1#1), ∀ a x, ((![v470, v466] : Fin 2 → IVec S16 32) a x).toNat < S64x384.size a := fun k0_t2 v466 v470 k0_hw30 k0_h2 => k0_hw30 k0_h2
def k0_off58 (k0_t5 : Fin k0_t5_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t5
  let c1_i32_245 : BitVec 32 := 1#32
  let v402 : BitVec 32 := Scalar.muli arg18 c1_i32_245
  let v403 : BitVec 32 := Scalar.addi c0_i32_246 v402
  let v471 : Index := Scalar.indexCast v403
  let c96 : Index := 96#32
  ![v471.toNat, 96]

def k0_chk31 (k0_t2 : Fin k0_t2_loop.trips) (v477 : IVec S16 32) (v481 : IVec S16 32) : Prop :=
  (∀ (k0_h2 : k0_cond2 k0_t2 = 1#1), ∀ a x, ((![v481, v477] : Fin 2 → IVec S16 32) a x).toNat < S64x384.size a)
theorem k0_idx31_inb : ∀ (k0_t2 : Fin k0_t2_loop.trips) (v477 : IVec S16 32) (v481 : IVec S16 32) (k0_hw31 : k0_chk31 k0_t2 v477 v481), ∀ (k0_h2 : k0_cond2 k0_t2 = 1#1), ∀ a x, ((![v481, v477] : Fin 2 → IVec S16 32) a x).toNat < S64x384.size a := fun k0_t2 v477 v481 k0_hw31 k0_h2 => k0_hw31 k0_h2
def k0_off59 (k0_t5 : Fin k0_t5_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t5
  let c1_i32_245 : BitVec 32 := 1#32
  let v402 : BitVec 32 := Scalar.muli arg18 c1_i32_245
  let v403 : BitVec 32 := Scalar.addi c0_i32_246 v402
  let v482 : Index := Scalar.indexCast v403
  let c112 : Index := 112#32
  ![v482.toNat, 112]

def k0_chk32 (k0_t2 : Fin k0_t2_loop.trips) (v488 : IVec S16 32) (v492 : IVec S16 32) : Prop :=
  (∀ (k0_h2 : k0_cond2 k0_t2 = 1#1), ∀ a x, ((![v492, v488] : Fin 2 → IVec S16 32) a x).toNat < S64x384.size a)
theorem k0_idx32_inb : ∀ (k0_t2 : Fin k0_t2_loop.trips) (v488 : IVec S16 32) (v492 : IVec S16 32) (k0_hw32 : k0_chk32 k0_t2 v488 v492), ∀ (k0_h2 : k0_cond2 k0_t2 = 1#1), ∀ a x, ((![v492, v488] : Fin 2 → IVec S16 32) a x).toNat < S64x384.size a := fun k0_t2 v488 v492 k0_hw32 k0_h2 => k0_hw32 k0_h2
def k0_off60 (k0_t5 : Fin k0_t5_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t5
  let c1_i32_245 : BitVec 32 := 1#32
  let v402 : BitVec 32 := Scalar.muli arg18 c1_i32_245
  let v403 : BitVec 32 := Scalar.addi c0_i32_246 v402
  let v493 : Index := Scalar.indexCast v403
  let c128 : Index := 128#32
  ![v493.toNat, 128]

def k0_chk33 (k0_t2 : Fin k0_t2_loop.trips) (v499 : IVec S16 32) (v503 : IVec S16 32) : Prop :=
  (∀ (k0_h2 : k0_cond2 k0_t2 = 1#1), ∀ a x, ((![v503, v499] : Fin 2 → IVec S16 32) a x).toNat < S64x384.size a)
theorem k0_idx33_inb : ∀ (k0_t2 : Fin k0_t2_loop.trips) (v499 : IVec S16 32) (v503 : IVec S16 32) (k0_hw33 : k0_chk33 k0_t2 v499 v503), ∀ (k0_h2 : k0_cond2 k0_t2 = 1#1), ∀ a x, ((![v503, v499] : Fin 2 → IVec S16 32) a x).toNat < S64x384.size a := fun k0_t2 v499 v503 k0_hw33 k0_h2 => k0_hw33 k0_h2
def k0_off61 (k0_t5 : Fin k0_t5_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t5
  let c1_i32_245 : BitVec 32 := 1#32
  let v402 : BitVec 32 := Scalar.muli arg18 c1_i32_245
  let v403 : BitVec 32 := Scalar.addi c0_i32_246 v402
  let v504 : Index := Scalar.indexCast v403
  let c144 : Index := 144#32
  ![v504.toNat, 144]

def k0_chk34 (k0_t2 : Fin k0_t2_loop.trips) (v510 : IVec S16 32) (v514 : IVec S16 32) : Prop :=
  (∀ (k0_h2 : k0_cond2 k0_t2 = 1#1), ∀ a x, ((![v514, v510] : Fin 2 → IVec S16 32) a x).toNat < S64x384.size a)
theorem k0_idx34_inb : ∀ (k0_t2 : Fin k0_t2_loop.trips) (v510 : IVec S16 32) (v514 : IVec S16 32) (k0_hw34 : k0_chk34 k0_t2 v510 v514), ∀ (k0_h2 : k0_cond2 k0_t2 = 1#1), ∀ a x, ((![v514, v510] : Fin 2 → IVec S16 32) a x).toNat < S64x384.size a := fun k0_t2 v510 v514 k0_hw34 k0_h2 => k0_hw34 k0_h2
def k0_off62 (k0_t5 : Fin k0_t5_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t5
  let c1_i32_245 : BitVec 32 := 1#32
  let v402 : BitVec 32 := Scalar.muli arg18 c1_i32_245
  let v403 : BitVec 32 := Scalar.addi c0_i32_246 v402
  let v515 : Index := Scalar.indexCast v403
  let c160 : Index := 160#32
  ![v515.toNat, 160]

def k0_chk35 (k0_t2 : Fin k0_t2_loop.trips) (v521 : IVec S16 32) (v525 : IVec S16 32) : Prop :=
  (∀ (k0_h2 : k0_cond2 k0_t2 = 1#1), ∀ a x, ((![v525, v521] : Fin 2 → IVec S16 32) a x).toNat < S64x384.size a)
theorem k0_idx35_inb : ∀ (k0_t2 : Fin k0_t2_loop.trips) (v521 : IVec S16 32) (v525 : IVec S16 32) (k0_hw35 : k0_chk35 k0_t2 v521 v525), ∀ (k0_h2 : k0_cond2 k0_t2 = 1#1), ∀ a x, ((![v525, v521] : Fin 2 → IVec S16 32) a x).toNat < S64x384.size a := fun k0_t2 v521 v525 k0_hw35 k0_h2 => k0_hw35 k0_h2
def k0_off63 (k0_t5 : Fin k0_t5_loop.trips) : Fin 2 → Nat :=
  let c0_i32_246 : BitVec 32 := 0#32
  let c0_i32_241 : BitVec 32 := 0#32
  let c1_i32_243 : BitVec 32 := 1#32
  let arg18 : BitVec 32 := Scf.iv c0_i32_241 c1_i32_243 k0_t5
  let c1_i32_245 : BitVec 32 := 1#32
  let v402 : BitVec 32 := Scalar.muli arg18 c1_i32_245
  let v403 : BitVec 32 := Scalar.addi c0_i32_246 v402
  let v526 : Index := Scalar.indexCast v403
  let c176 : Index := 176#32
  ![v526.toNat, 176]

def k0_chk36 (k0_t2 : Fin k0_t2_loop.trips) (v532 : IVec S16 32) (v536 : IVec S16 32) : Prop :=
  (∀ (k0_h2 : k0_cond2 k0_t2 = 1#1), ∀ a x, ((![v536, v532] : Fin 2 → IVec S16 32) a x).toNat < S64x384.size a)
theorem k0_idx36_inb : ∀ (k0_t2 : Fin k0_t2_loop.trips) (v532 : IVec S16 32) (v536 : IVec S16 32) (k0_hw36 : k0_chk36 k0_t2 v532 v536), ∀ (k0_h2 : k0_cond2 k0_t2 = 1#1), ∀ a x, ((![v536, v532] : Fin 2 → IVec S16 32) a x).toNat < S64x384.size a := fun k0_t2 v532 v536 k0_hw36 k0_h2 => k0_hw36 k0_h2
def k0_cond3 (k0_t2 : Fin k0_t2_loop.trips) : BitVec 1 :=
  let c0_i32_24 : BitVec 32 := 0#32
  let c1_i32_25 : BitVec 32 := 1#32
  let arg17 : BitVec 32 := Scf.iv c0_i32_24 c1_i32_25 k0_t2
  let c8_i32 : BitVec 32 := 8#32
  let v269 : BitVec 1 := Scalar.cmpi .slt arg17 c8_i32
  let v270 : BitVec 32 := Scalar.extui v269
  let c0_i32_168 : BitVec 32 := 0#32
  let v271 : BitVec 1 := Scalar.cmpi .ne v270 c0_i32_168
  v271

def k0_off64 (i : grid0.Coords) (k0_t2 : Fin k0_t2_loop.trips) : Fin 4 → Nat :=
  let c3_i32_252 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_237 : BitVec 32 := 3#32
  let v398 : BitVec 32 := Scalar.muli v1 c3_i32_237
  let c2_i32_152 : BitVec 32 := 2#32
  let c0_i32_24 : BitVec 32 := 0#32
  let c1_i32_25 : BitVec 32 := 1#32
  let arg17 : BitVec 32 := Scf.iv c0_i32_24 c1_i32_25 k0_t2
  let v256 : BitVec 32 := Scalar.muli c2_i32_152 arg17
  let c1_i32_153 : BitVec 32 := 1#32
  let v257 : BitVec 32 := Scalar.addi v256 c1_i32_153
  let c1_i32_236 : BitVec 32 := 1#32
  let v397 : BitVec 32 := Scalar.addi v257 c1_i32_236
  let c0_i32_239 : BitVec 32 := 0#32
  let v400 : BitVec 1 := Scalar.cmpi .sgt v397 c0_i32_239
  let v401 : BitVec 32 := Scalar.extui v400
  let c0_i32_240 : BitVec 32 := 0#32
  let v402 : BitVec 1 := Scalar.cmpi .slt v397 c0_i32_240
  let v403 : BitVec 32 := Scalar.extui v402
  let v404 : BitVec 32 := Scalar.subi v401 v403
  let c6_i32_238 : BitVec 32 := 6#32
  let c0_i32_241 : BitVec 32 := 0#32
  let v405 : BitVec 1 := Scalar.cmpi .sgt c6_i32_238 c0_i32_241
  let v406 : BitVec 32 := Scalar.extui v405
  let c0_i32_242 : BitVec 32 := 0#32
  let v407 : BitVec 1 := Scalar.cmpi .slt c6_i32_238 c0_i32_242
  let v408 : BitVec 32 := Scalar.extui v407
  let v409 : BitVec 32 := Scalar.subi v406 v408
  let v410 : BitVec 1 := Scalar.cmpi .ne v404 v409
  let v411 : BitVec 32 := Scalar.remsi v397 c6_i32_238
  let c0_i32_243 : BitVec 32 := 0#32
  let v412 : BitVec 1 := Scalar.cmpi .ne v411 c0_i32_243
  let v413 : BitVec 1 := Scalar.andi v410 v412
  let v399 : BitVec 32 := Scalar.divsi v397 c6_i32_238
  let c1_i32_244 : BitVec 32 := 1#32
  let v414 : BitVec 32 := Scalar.subi v399 c1_i32_244
  let v415 : BitVec 32 := Scalar.select v413 v414 v399
  let v416 : BitVec 32 := Scalar.addi v398 v415
  let c0_i32_246 : BitVec 32 := 0#32
  let v418 : BitVec 1 := Scalar.cmpi .sgt v416 c0_i32_246
  let v419 : BitVec 32 := Scalar.extui v418
  let c0_i32_247 : BitVec 32 := 0#32
  let v420 : BitVec 1 := Scalar.cmpi .slt v416 c0_i32_247
  let v421 : BitVec 32 := Scalar.extui v420
  let v422 : BitVec 32 := Scalar.subi v419 v421
  let c96_i32_245 : BitVec 32 := 96#32
  let c0_i32_248 : BitVec 32 := 0#32
  let v423 : BitVec 1 := Scalar.cmpi .sgt c96_i32_245 c0_i32_248
  let v424 : BitVec 32 := Scalar.extui v423
  let c0_i32_249 : BitVec 32 := 0#32
  let v425 : BitVec 1 := Scalar.cmpi .slt c96_i32_245 c0_i32_249
  let v426 : BitVec 32 := Scalar.extui v425
  let v427 : BitVec 32 := Scalar.subi v424 v426
  let v428 : BitVec 1 := Scalar.cmpi .ne v422 v427
  let v429 : BitVec 32 := Scalar.remsi v416 c96_i32_245
  let c0_i32_250 : BitVec 32 := 0#32
  let v430 : BitVec 1 := Scalar.cmpi .ne v429 c0_i32_250
  let v431 : BitVec 1 := Scalar.andi v428 v430
  let v417 : BitVec 32 := Scalar.divsi v416 c96_i32_245
  let c1_i32_251 : BitVec 32 := 1#32
  let v432 : BitVec 32 := Scalar.subi v417 c1_i32_251
  let v433 : BitVec 32 := Scalar.select v431 v432 v417
  let v434 : BitVec 32 := Scalar.addi c3_i32_252 v433
  let c96_i32_253 : BitVec 32 := 96#32
  let c0_i32_254 : BitVec 32 := 0#32
  let v435 : BitVec 1 := Scalar.cmpi .eq c96_i32_253 c0_i32_254
  let c1_i32_255 : BitVec 32 := 1#32
  let v436 : BitVec 32 := Scalar.select v435 c1_i32_255 c96_i32_253
  let v437 : BitVec 32 := Scalar.remsi v416 v436
  let c0_i32_257 : BitVec 32 := 0#32
  let v439 : BitVec 1 := Scalar.cmpi .slt v437 c0_i32_257
  let c0_i32_258 : BitVec 32 := 0#32
  let v440 : BitVec 1 := Scalar.cmpi .slt v436 c0_i32_258
  let v441 : BitVec 1 := Scalar.xori v439 v440
  let c0_i32_256 : BitVec 32 := 0#32
  let v438 : BitVec 1 := Scalar.cmpi .ne v437 c0_i32_256
  let v442 : BitVec 1 := Scalar.andi v441 v438
  let v443 : BitVec 32 := Scalar.addi v437 v436
  let v444 : BitVec 32 := Scalar.select v442 v443 v437
  let c6_i32_259 : BitVec 32 := 6#32
  let c0_i32_260 : BitVec 32 := 0#32
  let v445 : BitVec 1 := Scalar.cmpi .eq c6_i32_259 c0_i32_260
  let c1_i32_261 : BitVec 32 := 1#32
  let v446 : BitVec 32 := Scalar.select v445 c1_i32_261 c6_i32_259
  let v447 : BitVec 32 := Scalar.remsi v397 v446
  let c0_i32_263 : BitVec 32 := 0#32
  let v449 : BitVec 1 := Scalar.cmpi .slt v447 c0_i32_263
  let c0_i32_264 : BitVec 32 := 0#32
  let v450 : BitVec 1 := Scalar.cmpi .slt v446 c0_i32_264
  let v451 : BitVec 1 := Scalar.xori v449 v450
  let c0_i32_262 : BitVec 32 := 0#32
  let v448 : BitVec 1 := Scalar.cmpi .ne v447 c0_i32_262
  let v452 : BitVec 1 := Scalar.andi v451 v448
  let v453 : BitVec 32 := Scalar.addi v447 v446
  let v454 : BitVec 32 := Scalar.select v452 v453 v447
  let c32_i32_265 : BitVec 32 := 32#32
  let v455 : BitVec 32 := Scalar.muli v454 c32_i32_265
  let c0_i32_266 : BitVec 32 := 0#32
  ![v434.toNat, v444.toNat, v455.toNat, 0]
@[reducible] def k0_t6_loop : Scf.Loop 32 :=
  let c0_i32_198 : BitVec 32 := 0#32
  let c32_i32_199 : BitVec 32 := 32#32
  let v330 : BitVec 32 := Scalar.addi c0_i32_198 c32_i32_199
  let c1_i32_200 : BitVec 32 := 1#32
  ⟨c0_i32_198, v330, c1_i32_200⟩
def k0_off65 (k0_t6 : Fin k0_t6_loop.trips) : Fin 2 → Nat :=
  let c0_i32_237 : BitVec 32 := 0#32
  let c0_i32_198 : BitVec 32 := 0#32
  let c1_i32_200 : BitVec 32 := 1#32
  let arg18 : BitVec 32 := Scf.iv c0_i32_198 c1_i32_200 k0_t6
  let c1_i32_236 : BitVec 32 := 1#32
  let v397 : BitVec 32 := Scalar.muli arg18 c1_i32_236
  let v398 : BitVec 32 := Scalar.addi c0_i32_237 v397
  let v402 : Index := Scalar.indexCast v398
  let c0 : Index := 0#32
  ![v402.toNat, 0]

def k0_chk37 (v414 : IVec S16 32) (v418 : IVec S16 32) : Prop :=
  (∀ a x, ((![v418, v414] : Fin 2 → IVec S16 32) a x).toNat < S64x384.size a)
theorem k0_idx37_inb : ∀ (v414 : IVec S16 32) (v418 : IVec S16 32) (k0_hw37 : k0_chk37 v414 v418), ∀ a x, ((![v418, v414] : Fin 2 → IVec S16 32) a x).toNat < S64x384.size a := fun v414 v418 k0_hw37 => k0_hw37
def k0_off66 (k0_t6 : Fin k0_t6_loop.trips) : Fin 2 → Nat :=
  let c0_i32_237 : BitVec 32 := 0#32
  let c0_i32_198 : BitVec 32 := 0#32
  let c1_i32_200 : BitVec 32 := 1#32
  let arg18 : BitVec 32 := Scf.iv c0_i32_198 c1_i32_200 k0_t6
  let c1_i32_236 : BitVec 32 := 1#32
  let v397 : BitVec 32 := Scalar.muli arg18 c1_i32_236
  let v398 : BitVec 32 := Scalar.addi c0_i32_237 v397
  let v419 : Index := Scalar.indexCast v398
  let c16 : Index := 16#32
  ![v419.toNat, 16]

def k0_chk38 (v431 : IVec S16 32) (v435 : IVec S16 32) : Prop :=
  (∀ a x, ((![v435, v431] : Fin 2 → IVec S16 32) a x).toNat < S64x384.size a)
theorem k0_idx38_inb : ∀ (v431 : IVec S16 32) (v435 : IVec S16 32) (k0_hw38 : k0_chk38 v431 v435), ∀ a x, ((![v435, v431] : Fin 2 → IVec S16 32) a x).toNat < S64x384.size a := fun v431 v435 k0_hw38 => k0_hw38
def k0_off67 (k0_t6 : Fin k0_t6_loop.trips) : Fin 2 → Nat :=
  let c0_i32_237 : BitVec 32 := 0#32
  let c0_i32_198 : BitVec 32 := 0#32
  let c1_i32_200 : BitVec 32 := 1#32
  let arg18 : BitVec 32 := Scf.iv c0_i32_198 c1_i32_200 k0_t6
  let c1_i32_236 : BitVec 32 := 1#32
  let v397 : BitVec 32 := Scalar.muli arg18 c1_i32_236
  let v398 : BitVec 32 := Scalar.addi c0_i32_237 v397
  let v436 : Index := Scalar.indexCast v398
  let c32 : Index := 32#32
  ![v436.toNat, 32]

def k0_chk39 (v448 : IVec S16 32) (v452 : IVec S16 32) : Prop :=
  (∀ a x, ((![v452, v448] : Fin 2 → IVec S16 32) a x).toNat < S64x384.size a)
theorem k0_idx39_inb : ∀ (v448 : IVec S16 32) (v452 : IVec S16 32) (k0_hw39 : k0_chk39 v448 v452), ∀ a x, ((![v452, v448] : Fin 2 → IVec S16 32) a x).toNat < S64x384.size a := fun v448 v452 k0_hw39 => k0_hw39
def k0_off68 (k0_t6 : Fin k0_t6_loop.trips) : Fin 2 → Nat :=
  let c0_i32_237 : BitVec 32 := 0#32
  let c0_i32_198 : BitVec 32 := 0#32
  let c1_i32_200 : BitVec 32 := 1#32
  let arg18 : BitVec 32 := Scf.iv c0_i32_198 c1_i32_200 k0_t6
  let c1_i32_236 : BitVec 32 := 1#32
  let v397 : BitVec 32 := Scalar.muli arg18 c1_i32_236
  let v398 : BitVec 32 := Scalar.addi c0_i32_237 v397
  let v453 : Index := Scalar.indexCast v398
  let c48 : Index := 48#32
  ![v453.toNat, 48]

def k0_chk40 (v465 : IVec S16 32) (v469 : IVec S16 32) : Prop :=
  (∀ a x, ((![v469, v465] : Fin 2 → IVec S16 32) a x).toNat < S64x384.size a)
theorem k0_idx40_inb : ∀ (v465 : IVec S16 32) (v469 : IVec S16 32) (k0_hw40 : k0_chk40 v465 v469), ∀ a x, ((![v469, v465] : Fin 2 → IVec S16 32) a x).toNat < S64x384.size a := fun v465 v469 k0_hw40 => k0_hw40
def k0_off69 (k0_t6 : Fin k0_t6_loop.trips) : Fin 2 → Nat :=
  let c0_i32_237 : BitVec 32 := 0#32
  let c0_i32_198 : BitVec 32 := 0#32
  let c1_i32_200 : BitVec 32 := 1#32
  let arg18 : BitVec 32 := Scf.iv c0_i32_198 c1_i32_200 k0_t6
  let c1_i32_236 : BitVec 32 := 1#32
  let v397 : BitVec 32 := Scalar.muli arg18 c1_i32_236
  let v398 : BitVec 32 := Scalar.addi c0_i32_237 v397
  let v470 : Index := Scalar.indexCast v398
  let c64 : Index := 64#32
  ![v470.toNat, 64]

def k0_chk41 (v482 : IVec S16 32) (v486 : IVec S16 32) : Prop :=
  (∀ a x, ((![v486, v482] : Fin 2 → IVec S16 32) a x).toNat < S64x384.size a)
theorem k0_idx41_inb : ∀ (v482 : IVec S16 32) (v486 : IVec S16 32) (k0_hw41 : k0_chk41 v482 v486), ∀ a x, ((![v486, v482] : Fin 2 → IVec S16 32) a x).toNat < S64x384.size a := fun v482 v486 k0_hw41 => k0_hw41
def k0_off70 (k0_t6 : Fin k0_t6_loop.trips) : Fin 2 → Nat :=
  let c0_i32_237 : BitVec 32 := 0#32
  let c0_i32_198 : BitVec 32 := 0#32
  let c1_i32_200 : BitVec 32 := 1#32
  let arg18 : BitVec 32 := Scf.iv c0_i32_198 c1_i32_200 k0_t6
  let c1_i32_236 : BitVec 32 := 1#32
  let v397 : BitVec 32 := Scalar.muli arg18 c1_i32_236
  let v398 : BitVec 32 := Scalar.addi c0_i32_237 v397
  let v487 : Index := Scalar.indexCast v398
  let c80 : Index := 80#32
  ![v487.toNat, 80]

def k0_chk42 (v499 : IVec S16 32) (v503 : IVec S16 32) : Prop :=
  (∀ a x, ((![v503, v499] : Fin 2 → IVec S16 32) a x).toNat < S64x384.size a)
theorem k0_idx42_inb : ∀ (v499 : IVec S16 32) (v503 : IVec S16 32) (k0_hw42 : k0_chk42 v499 v503), ∀ a x, ((![v503, v499] : Fin 2 → IVec S16 32) a x).toNat < S64x384.size a := fun v499 v503 k0_hw42 => k0_hw42
def k0_off71 (k0_t6 : Fin k0_t6_loop.trips) : Fin 2 → Nat :=
  let c0_i32_237 : BitVec 32 := 0#32
  let c0_i32_198 : BitVec 32 := 0#32
  let c1_i32_200 : BitVec 32 := 1#32
  let arg18 : BitVec 32 := Scf.iv c0_i32_198 c1_i32_200 k0_t6
  let c1_i32_236 : BitVec 32 := 1#32
  let v397 : BitVec 32 := Scalar.muli arg18 c1_i32_236
  let v398 : BitVec 32 := Scalar.addi c0_i32_237 v397
  let v504 : Index := Scalar.indexCast v398
  let c96 : Index := 96#32
  ![v504.toNat, 96]

def k0_chk43 (v516 : IVec S16 32) (v520 : IVec S16 32) : Prop :=
  (∀ a x, ((![v520, v516] : Fin 2 → IVec S16 32) a x).toNat < S64x384.size a)
theorem k0_idx43_inb : ∀ (v516 : IVec S16 32) (v520 : IVec S16 32) (k0_hw43 : k0_chk43 v516 v520), ∀ a x, ((![v520, v516] : Fin 2 → IVec S16 32) a x).toNat < S64x384.size a := fun v516 v520 k0_hw43 => k0_hw43
def k0_off72 (k0_t6 : Fin k0_t6_loop.trips) : Fin 2 → Nat :=
  let c0_i32_237 : BitVec 32 := 0#32
  let c0_i32_198 : BitVec 32 := 0#32
  let c1_i32_200 : BitVec 32 := 1#32
  let arg18 : BitVec 32 := Scf.iv c0_i32_198 c1_i32_200 k0_t6
  let c1_i32_236 : BitVec 32 := 1#32
  let v397 : BitVec 32 := Scalar.muli arg18 c1_i32_236
  let v398 : BitVec 32 := Scalar.addi c0_i32_237 v397
  let v521 : Index := Scalar.indexCast v398
  let c112 : Index := 112#32
  ![v521.toNat, 112]

def k0_chk44 (v533 : IVec S16 32) (v537 : IVec S16 32) : Prop :=
  (∀ a x, ((![v537, v533] : Fin 2 → IVec S16 32) a x).toNat < S64x384.size a)
theorem k0_idx44_inb : ∀ (v533 : IVec S16 32) (v537 : IVec S16 32) (k0_hw44 : k0_chk44 v533 v537), ∀ a x, ((![v537, v533] : Fin 2 → IVec S16 32) a x).toNat < S64x384.size a := fun v533 v537 k0_hw44 => k0_hw44
def k0_off73 (k0_t6 : Fin k0_t6_loop.trips) : Fin 2 → Nat :=
  let c0_i32_237 : BitVec 32 := 0#32
  let c0_i32_198 : BitVec 32 := 0#32
  let c1_i32_200 : BitVec 32 := 1#32
  let arg18 : BitVec 32 := Scf.iv c0_i32_198 c1_i32_200 k0_t6
  let c1_i32_236 : BitVec 32 := 1#32
  let v397 : BitVec 32 := Scalar.muli arg18 c1_i32_236
  let v398 : BitVec 32 := Scalar.addi c0_i32_237 v397
  let v538 : Index := Scalar.indexCast v398
  let c128 : Index := 128#32
  ![v538.toNat, 128]

def k0_chk45 (v550 : IVec S16 32) (v554 : IVec S16 32) : Prop :=
  (∀ a x, ((![v554, v550] : Fin 2 → IVec S16 32) a x).toNat < S64x384.size a)
theorem k0_idx45_inb : ∀ (v550 : IVec S16 32) (v554 : IVec S16 32) (k0_hw45 : k0_chk45 v550 v554), ∀ a x, ((![v554, v550] : Fin 2 → IVec S16 32) a x).toNat < S64x384.size a := fun v550 v554 k0_hw45 => k0_hw45
def k0_off74 (k0_t6 : Fin k0_t6_loop.trips) : Fin 2 → Nat :=
  let c0_i32_237 : BitVec 32 := 0#32
  let c0_i32_198 : BitVec 32 := 0#32
  let c1_i32_200 : BitVec 32 := 1#32
  let arg18 : BitVec 32 := Scf.iv c0_i32_198 c1_i32_200 k0_t6
  let c1_i32_236 : BitVec 32 := 1#32
  let v397 : BitVec 32 := Scalar.muli arg18 c1_i32_236
  let v398 : BitVec 32 := Scalar.addi c0_i32_237 v397
  let v555 : Index := Scalar.indexCast v398
  let c144 : Index := 144#32
  ![v555.toNat, 144]

def k0_chk46 (v567 : IVec S16 32) (v571 : IVec S16 32) : Prop :=
  (∀ a x, ((![v571, v567] : Fin 2 → IVec S16 32) a x).toNat < S64x384.size a)
theorem k0_idx46_inb : ∀ (v567 : IVec S16 32) (v571 : IVec S16 32) (k0_hw46 : k0_chk46 v567 v571), ∀ a x, ((![v571, v567] : Fin 2 → IVec S16 32) a x).toNat < S64x384.size a := fun v567 v571 k0_hw46 => k0_hw46
def k0_off75 (k0_t6 : Fin k0_t6_loop.trips) : Fin 2 → Nat :=
  let c0_i32_237 : BitVec 32 := 0#32
  let c0_i32_198 : BitVec 32 := 0#32
  let c1_i32_200 : BitVec 32 := 1#32
  let arg18 : BitVec 32 := Scf.iv c0_i32_198 c1_i32_200 k0_t6
  let c1_i32_236 : BitVec 32 := 1#32
  let v397 : BitVec 32 := Scalar.muli arg18 c1_i32_236
  let v398 : BitVec 32 := Scalar.addi c0_i32_237 v397
  let v572 : Index := Scalar.indexCast v398
  let c160 : Index := 160#32
  ![v572.toNat, 160]

def k0_chk47 (v584 : IVec S16 32) (v588 : IVec S16 32) : Prop :=
  (∀ a x, ((![v588, v584] : Fin 2 → IVec S16 32) a x).toNat < S64x384.size a)
theorem k0_idx47_inb : ∀ (v584 : IVec S16 32) (v588 : IVec S16 32) (k0_hw47 : k0_chk47 v584 v588), ∀ a x, ((![v588, v584] : Fin 2 → IVec S16 32) a x).toNat < S64x384.size a := fun v584 v588 k0_hw47 => k0_hw47
def k0_off76 (k0_t6 : Fin k0_t6_loop.trips) : Fin 2 → Nat :=
  let c0_i32_237 : BitVec 32 := 0#32
  let c0_i32_198 : BitVec 32 := 0#32
  let c1_i32_200 : BitVec 32 := 1#32
  let arg18 : BitVec 32 := Scf.iv c0_i32_198 c1_i32_200 k0_t6
  let c1_i32_236 : BitVec 32 := 1#32
  let v397 : BitVec 32 := Scalar.muli arg18 c1_i32_236
  let v398 : BitVec 32 := Scalar.addi c0_i32_237 v397
  let v589 : Index := Scalar.indexCast v398
  let c176 : Index := 176#32
  ![v589.toNat, 176]

def k0_chk48 (v601 : IVec S16 32) (v605 : IVec S16 32) : Prop :=
  (∀ a x, ((![v605, v601] : Fin 2 → IVec S16 32) a x).toNat < S64x384.size a)
theorem k0_idx48_inb : ∀ (v601 : IVec S16 32) (v605 : IVec S16 32) (k0_hw48 : k0_chk48 v601 v605), ∀ a x, ((![v605, v601] : Fin 2 → IVec S16 32) a x).toNat < S64x384.size a := fun v601 v605 k0_hw48 => k0_hw48
abbrev grid1 : Pipeline.Grid := ⟨1, ![288], ![false]⟩

def cc1_transform_0 (i : grid1.Coords) : Fin 4 → Nat :=
  let arg0 : BitVec 32 := BitVec.ofNat 32 (i 0).val
  let c96_i32 : BitVec 32 := 96#32
  let v0 : BitVec 32 := Scalar.divsi arg0 c96_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c96_i32 c0_i32_1
  let v7 : BitVec 32 := Scalar.extui v6
  let c0_i32_2 : BitVec 32 := 0#32
  let v8 : BitVec 1 := Scalar.cmpi .slt c96_i32 c0_i32_2
  let v9 : BitVec 32 := Scalar.extui v8
  let v10 : BitVec 32 := Scalar.subi v7 v9
  let v11 : BitVec 1 := Scalar.cmpi .ne v5 v10
  let v12 : BitVec 32 := Scalar.remsi arg0 c96_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c96_i32_4 : BitVec 32 := 96#32
  let c0_i32_5 : BitVec 32 := 0#32
  let v17 : BitVec 1 := Scalar.cmpi .eq c96_i32_4 c0_i32_5
  let c1_i32_6 : BitVec 32 := 1#32
  let v18 : BitVec 32 := Scalar.select v17 c1_i32_6 c96_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_1 (i : grid1.Coords) : Fin 4 → Nat :=
  let arg0 : BitVec 32 := BitVec.ofNat 32 (i 0).val
  let c96_i32 : BitVec 32 := 96#32
  let v0 : BitVec 32 := Scalar.divsi arg0 c96_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c96_i32 c0_i32_1
  let v7 : BitVec 32 := Scalar.extui v6
  let c0_i32_2 : BitVec 32 := 0#32
  let v8 : BitVec 1 := Scalar.cmpi .slt c96_i32 c0_i32_2
  let v9 : BitVec 32 := Scalar.extui v8
  let v10 : BitVec 32 := Scalar.subi v7 v9
  let v11 : BitVec 1 := Scalar.cmpi .ne v5 v10
  let v12 : BitVec 32 := Scalar.remsi arg0 c96_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c96_i32_4 : BitVec 32 := 96#32
  let c0_i32_5 : BitVec 32 := 0#32
  let v17 : BitVec 1 := Scalar.cmpi .eq c96_i32_4 c0_i32_5
  let c1_i32_6 : BitVec 32 := 1#32
  let v18 : BitVec 32 := Scalar.select v17 c1_i32_6 c96_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_2 (i : grid1.Coords) : Fin 4 → Nat :=
  let arg0 : BitVec 32 := BitVec.ofNat 32 (i 0).val
  let c96_i32 : BitVec 32 := 96#32
  let v0 : BitVec 32 := Scalar.divsi arg0 c96_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c96_i32 c0_i32_1
  let v7 : BitVec 32 := Scalar.extui v6
  let c0_i32_2 : BitVec 32 := 0#32
  let v8 : BitVec 1 := Scalar.cmpi .slt c96_i32 c0_i32_2
  let v9 : BitVec 32 := Scalar.extui v8
  let v10 : BitVec 32 := Scalar.subi v7 v9
  let v11 : BitVec 1 := Scalar.cmpi .ne v5 v10
  let v12 : BitVec 32 := Scalar.remsi arg0 c96_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c96_i32_4 : BitVec 32 := 96#32
  let c0_i32_5 : BitVec 32 := 0#32
  let v17 : BitVec 1 := Scalar.cmpi .eq c96_i32_4 c0_i32_5
  let c1_i32_6 : BitVec 32 := 1#32
  let v18 : BitVec 32 := Scalar.select v17 c1_i32_6 c96_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage1_0 : Fin 2 → Memref sig .tc .vmem S1x1x192x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x192x192 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x384x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x96x192x192 : Shape := ⟨4, ![4, 96, 192, 192]⟩
abbrev S4x96x36864 : Shape := ⟨3, ![4, 96, 36864]⟩
abbrev S4 : Shape := ⟨1, ![4]⟩
abbrev S4x1x1 : Shape := ⟨3, ![4, 1, 1]⟩
abbrev S96 : Shape := ⟨1, ![96]⟩
abbrev S1x96x1 : Shape := ⟨3, ![1, 96, 1]⟩
abbrev S_ : Shape := ⟨0, ![]⟩
abbrev S4x96x147456 : Shape := ⟨3, ![4, 96, 147456]⟩
abbrev S4x96x36864x1 : Shape := ⟨4, ![4, 96, 36864, 1]⟩
abbrev S4x96x36864x3 : Shape := ⟨4, ![4, 96, 36864, 3]⟩
abbrev S4x96x384x384 : Shape := ⟨4, ![4, 96, 384, 384]⟩

abbrev nBuf : Space → Nat
  | .hbm => 39
  | .vmem => 0
  | .smem => 0
  | _ => 0

abbrev bufTy : (tb : Table) → Fin (tcTables nBuf tb) → BufTy
  | .hbm, ⟨0, _⟩ => ⟨S4x96x192x192, .f32⟩
  | .hbm, ⟨1, _⟩ => ⟨S4x96x192x192, .i32⟩
  | .hbm, ⟨2, _⟩ => ⟨S4x96x36864, .f32⟩
  | .hbm, ⟨3, _⟩ => ⟨S4x96x36864, .i32⟩
  | .hbm, ⟨4, _⟩ => ⟨S4, .i32⟩
  | .hbm, ⟨5, _⟩ => ⟨S4x1x1, .i32⟩
  | .hbm, ⟨6, _⟩ => ⟨S96, .i32⟩
  | .hbm, ⟨7, _⟩ => ⟨S1x96x1, .i32⟩
  | .hbm, ⟨8, _⟩ => ⟨S_, .f32⟩
  | .hbm, ⟨9, _⟩ => ⟨S4x96x147456, .f32⟩
  | .hbm, ⟨10, _⟩ => ⟨S_, .i32⟩
  | .hbm, ⟨11, _⟩ => ⟨S4x1x1, .i32⟩
  | .hbm, ⟨12, _⟩ => ⟨S4x1x1, .i1⟩
  | .hbm, ⟨13, _⟩ => ⟨S_, .i32⟩
  | .hbm, ⟨14, _⟩ => ⟨S4x1x1, .i32⟩
  | .hbm, ⟨15, _⟩ => ⟨S4x1x1, .i32⟩
  | .hbm, ⟨16, _⟩ => ⟨S4x1x1, .i32⟩
  | .hbm, ⟨17, _⟩ => ⟨S_, .i32⟩
  | .hbm, ⟨18, _⟩ => ⟨S1x96x1, .i32⟩
  | .hbm, ⟨19, _⟩ => ⟨S1x96x1, .i1⟩
  | .hbm, ⟨20, _⟩ => ⟨S_, .i32⟩
  | .hbm, ⟨21, _⟩ => ⟨S1x96x1, .i32⟩
  | .hbm, ⟨22, _⟩ => ⟨S1x96x1, .i32⟩
  | .hbm, ⟨23, _⟩ => ⟨S1x96x1, .i32⟩
  | .hbm, ⟨24, _⟩ => ⟨S_, .i32⟩
  | .hbm, ⟨25, _⟩ => ⟨S4x96x36864, .i32⟩
  | .hbm, ⟨26, _⟩ => ⟨S4x96x36864, .i1⟩
  | .hbm, ⟨27, _⟩ => ⟨S_, .i32⟩
  | .hbm, ⟨28, _⟩ => ⟨S4x96x36864, .i32⟩
  | .hbm, ⟨29, _⟩ => ⟨S4x96x36864, .i32⟩
  | .hbm, ⟨30, _⟩ => ⟨S4x96x36864, .i32⟩
  | .hbm, ⟨31, _⟩ => ⟨S4x96x36864, .i32⟩
  | .hbm, ⟨32, _⟩ => ⟨S4x96x36864, .i32⟩
  | .hbm, ⟨33, _⟩ => ⟨S4x96x36864x1, .i32⟩
  | .hbm, ⟨34, _⟩ => ⟨S4x96x36864x1, .i32⟩
  | .hbm, ⟨35, _⟩ => ⟨S4x96x36864x1, .i32⟩
  | .hbm, ⟨36, _⟩ => ⟨S4x96x36864x3, .i32⟩
  | .hbm, ⟨37, _⟩ => ⟨S4x96x147456, .f32⟩
  | .hbm, ⟨38, _⟩ => ⟨S4x96x384x384, .f32⟩
  | _, _ => ⟨S4x96x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Proof.Steps.lean ====
/-
  The vector statements of the SparseCore tile's inner loops, each written once: clearing sixteen places of the two
  output scratches, putting zeros back where a previous chunk's scatter wrote (`restStep`), and scattering sixteen
  values of a chunk (`scatStep`); and the printed loops' bodies as sequences of these.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option synthInstance.maxSize 4096

noncomputable section

namespace Cert.Proof

open Cert.KernelIdeal Cert.KernelIdeal.Gen
open Idealize.ShloMosaic Idealize.SL.Sem

variable {F : FTy → Type} [FloatOps F]

/-- The programs of a vector subcore. -/
abbrev TileProg (F : FTy → Type) [FloatOps F] (c : Fin τ.nSC) (s : Fin τ.nSub) (α : Type) : Type 1 :=
  Prog (TpuEff nD τ sig (Elt F) Λ₀ (.scVector c s)) α

/-- Programs one after another. -/
def seqL {c : Fin τ.nSC} {s : Fin τ.nSub} : List (TileProg F c s PUnit) → TileProg F c s PUnit
  | [] => pure ⟨⟩
  | p :: l => p >>= fun _ => seqL l

/-- Whether each word is on the odd row of its pair: at least a row of 384 past the even row's start. -/
def oddRow (t : IVec S16 32) : IVec S16 1 := cmpi .sge t (broadcast S16 384#32)
/-- The column of each word. -/
def colOf (t : IVec S16 32) : IVec S16 32 := select (oddRow t) (subi t (broadcast S16 384#32)) t
/-- The row of each word, `row0` being the even row of the pair. -/
def rowOf (row0 : BitVec 32) (t : IVec S16 32) : IVec S16 32 :=
  select (oddRow t) (broadcast S16 (Scalar.addi row0 1#32)) (broadcast S16 row0)

/-- Sixteen zeros. -/
abbrev zero16 : FVec F S16 .f32 := k0_pay221 (F := F)

section

variable {c : Fin τ.nSC} {s : Fin τ.nSub}

/-- Sixteen places of a scratch read (the value unused) and overwritten with zeros, in each of two scratches. -/
def zeroStep (a b : Memref sig .scVector .vmem S64x384 .f32) (off : Fin 2 → Nat)
    (hin : ∀ a, off a + S1x16.size a ≤ S64x384.size a) (z : FVec F S16 .f32) : TileProg F c s PUnit := do
  let _ : Vec F S1x16 .f32 ← Prog.lift (.load a (Rect.unit (s := S64x384) off S1x16.size hin).toLoadRect (View.loadsAt_vmem h_S1x16))
  Prog.lift (.store a (Rect.unit (s := S64x384) off S1x16.size hin) (shapeCast S1x16 z shapeCasts_S16_S1x16) Finset.univ (View.stores_vmem_bits_univ h_S1x16 rfl) (.inl rfl))
  let _ : Vec F S1x16 .f32 ← Prog.lift (.load b (Rect.unit (s := S64x384) off S1x16.size hin).toLoadRect (View.loadsAt_vmem h_S1x16))
  Prog.lift (.store b (Rect.unit (s := S64x384) off S1x16.size hin) (shapeCast S1x16 z shapeCasts_S16_S1x16) Finset.univ (View.stores_vmem_bits_univ h_S1x16 rfl) (.inl rfl))

/-- The write of sixteen values at the places named by sixteen checked words. -/
def putStep (o : Memref sig .scVector .vmem S64x384 .f32) (row0 : BitVec 32)
    (P : IVec S16 32 → IVec S16 32 → Prop) (dec : ∀ a b, Decidable (P a b))
    (hP : ∀ a b, P a b → ∀ k x, ((![b, a] : Fin 2 → IVec S16 32) k x).toNat < S64x384.size k)
    (t : IVec S16 32) (z : FVec F S16 .f32) : TileProg F c s PUnit := do
  have hw : P (colOf t) (rowOf row0 t) := (← Prog.lift (TpuEff.assume (P (colOf t) (rowOf row0 t)) (dec _ _))).down
  SparseCore.vectorStoreIdx o ![rowOf row0 t, colOf t] z (fun _ => 1#1) false (hP _ _ hw) (View.stores_vmem_bits_univ h_S64x384 rfl)

/-- Zeros put back at sixteen remembered places. -/
def restStep (r : Memref sig .scVector .vmem S32x192 .i32) (o : Memref sig .scVector .vmem S64x384 .f32)
    (off : Fin 2 → Nat) (hin : ∀ a, off a + S1x16.size a ≤ S32x192.size a) (row0 : BitVec 32)
    (P : IVec S16 32 → IVec S16 32 → Prop) (dec : ∀ a b, Decidable (P a b))
    (hP : ∀ a b, P a b → ∀ k x, ((![b, a] : Fin 2 → IVec S16 32) k x).toNat < S64x384.size k)
    (z : FVec F S16 .f32) : TileProg F c s PUnit := do
  let w : Vec F S1x16 .i32 ← Prog.lift (.load r (Rect.unit (s := S32x192) off S1x16.size hin).toLoadRect (View.loadsAt_vmem h_S1x16))
  putStep o row0 P dec hP (shapeCast S16 w shapeCasts_S1x16_S16) z

/-- Sixteen values scattered, their places remembered. -/
def scatStep (xv : Memref sig .scVector .vmem S32x192 .f32) (iv r : Memref sig .scVector .vmem S32x192 .i32)
    (o : Memref sig .scVector .vmem S64x384 .f32)
    (off : Fin 2 → Nat) (hin : ∀ a, off a + S1x16.size a ≤ S32x192.size a) (base row0 : BitVec 32)
    (P : IVec S16 32 → IVec S16 32 → Prop) (dec : ∀ a b, Decidable (P a b))
    (hP : ∀ a b, P a b → ∀ k x, ((![b, a] : Fin 2 → IVec S16 32) k x).toNat < S64x384.size k) : TileProg F c s PUnit := do
  let x : Vec F S1x16 .f32 ← Prog.lift (.load xv (Rect.unit (s := S32x192) off S1x16.size hin).toLoadRect (View.loadsAt_vmem h_S1x16))
  let w : Vec F S1x16 .i32 ← Prog.lift (.load iv (Rect.unit (s := S32x192) off S1x16.size hin).toLoadRect (View.loadsAt_vmem h_S1x16))
  let _ : Vec F S1x16 .i32 ← Prog.lift (.load r (Rect.unit (s := S32x192) off S1x16.size hin).toLoadRect (View.loadsAt_vmem h_S1x16))
  Prog.lift (.store r (Rect.unit (s := S32x192) off S1x16.size hin) (shapeCast S1x16 (subi (shapeCast S16 w shapeCasts_S1x16_S16) (broadcast S16 base)) shapeCasts_S16_S1x16) Finset.univ (View.stores_vmem_bits_univ h_S1x16 rfl) (.inl rfl))
  putStep o row0 P dec hP (subi (shapeCast S16 w shapeCasts_S1x16_S16) (broadcast S16 base)) (shapeCast S16 x shapeCasts_S1x16_S16)

end

/-- A loop's counter as a word. -/
abbrev ivW (k : Nat) : BitVec 32 := Scalar.addi 0#32 (Scalar.muli (Scf.iv 0#32 1#32 k) 1#32)
/-- The even row of the pair of rows a counter names. -/
abbrev rowW (k : Nat) : BitVec 32 := Scalar.muli 2#32 (ivW k)
/-- The place of that row's first word in its plane, `b` being the chunk's first row. -/
abbrev baseW (b : BitVec 32) (k : Nat) : BitVec 32 := Scalar.muli 768#32 (Scalar.addi b (ivW k))

section

variable (i : grid0.Coords) (arg2 : Memref sig .scVector .hbm S4x96x192x192 .f32) (harg2 : arg2.IsWhole) (arg3 : Memref sig .scVector .hbm S4x96x192x192 .i32) (harg3 : arg3.IsWhole) (arg4 : Memref sig .scVector .hbm S96x384x384 .f32) (harg4 : arg4.IsWhole) (arg5 : Memref sig .scVector .vmem S32x192 .f32) (harg5 : arg5.IsWhole) (arg6 : Memref sig .scVector .vmem S32x192 .f32) (harg6 : arg6.IsWhole) (arg7 : Memref sig .scVector .vmem S32x192 .i32) (harg7 : arg7.IsWhole) (arg8 : Memref sig .scVector .vmem S32x192 .i32) (harg8 : arg8.IsWhole) (arg9 : Memref sig .scVector .vmem S32x192 .i32) (harg9 : arg9.IsWhole) (arg10 : Memref sig .scVector .vmem S32x192 .i32) (harg10 : arg10.IsWhole) (arg11 : Memref sig .scVector .vmem S64x384 .f32) (harg11 : arg11.IsWhole) (arg12 : Memref sig .scVector .vmem S64x384 .f32) (harg12 : arg12.IsWhole) (arg13 : DmaSems sig S_) (arg14 : DmaSems sig S_) (arg15 : DmaSems sig S_) (arg16 : DmaSems sig S_)

/-- The first scratch's restoring trip as twelve steps. -/
def rest0 (k0_t2 : Fin k0_t2_loop.trips) (k0_h1 : k0_cond1 k0_t2 = 1#1) (k : Fin k0_t3_loop.trips) (z : FVec F S16 .f32) :
    List (TileProg F ((i 0).castLE hcore0) ((i 1).castLE hsub0) PUnit) :=
  [restStep arg9 arg11 (k0_off26 k) (k0_off26_inb k0_t2 k k0_h1) (rowW k) (k0_chk1 k0_t2) (k0_chk1.dec k0_t2) (fun a b h => k0_idx1_inb k0_t2 a b h k0_h1) z,
   restStep arg9 arg11 (k0_off27 k) (k0_off27_inb k0_t2 k k0_h1) (rowW k) (k0_chk2 k0_t2) (k0_chk2.dec k0_t2) (fun a b h => k0_idx2_inb k0_t2 a b h k0_h1) z,
   restStep arg9 arg11 (k0_off28 k) (k0_off28_inb k0_t2 k k0_h1) (rowW k) (k0_chk3 k0_t2) (k0_chk3.dec k0_t2) (fun a b h => k0_idx3_inb k0_t2 a b h k0_h1) z,
   restStep arg9 arg11 (k0_off29 k) (k0_off29_inb k0_t2 k k0_h1) (rowW k) (k0_chk4 k0_t2) (k0_chk4.dec k0_t2) (fun a b h => k0_idx4_inb k0_t2 a b h k0_h1) z,
   restStep arg9 arg11 (k0_off30 k) (k0_off30_inb k0_t2 k k0_h1) (rowW k) (k0_chk5 k0_t2) (k0_chk5.dec k0_t2) (fun a b h => k0_idx5_inb k0_t2 a b h k0_h1) z,
   restStep arg9 arg11 (k0_off31 k) (k0_off31_inb k0_t2 k k0_h1) (rowW k) (k0_chk6 k0_t2) (k0_chk6.dec k0_t2) (fun a b h => k0_idx6_inb k0_t2 a b h k0_h1) z,
   restStep arg9 arg11 (k0_off32 k) (k0_off32_inb k0_t2 k k0_h1) (rowW k) (k0_chk7 k0_t2) (k0_chk7.dec k0_t2) (fun a b h => k0_idx7_inb k0_t2 a b h k0_h1) z,
   restStep arg9 arg11 (k0_off33 k) (k0_off33_inb k0_t2 k k0_h1) (rowW k) (k0_chk8 k0_t2) (k0_chk8.dec k0_t2) (fun a b h => k0_idx8_inb k0_t2 a b h k0_h1) z,
   restStep arg9 arg11 (k0_off34 k) (k0_off34_inb k0_t2 k k0_h1) (rowW k) (k0_chk9 k0_t2) (k0_chk9.dec k0_t2) (fun a b h => k0_idx9_inb k0_t2 a b h k0_h1) z,
   restStep arg9 arg11 (k0_off35 k) (k0_off35_inb k0_t2 k k0_h1) (rowW k) (k0_chk10 k0_t2) (k0_chk10.dec k0_t2) (fun a b h => k0_idx10_inb k0_t2 a b h k0_h1) z,
   restStep arg9 arg11 (k0_off36 k) (k0_off36_inb k0_t2 k k0_h1) (rowW k) (k0_chk11 k0_t2) (k0_chk11.dec k0_t2) (fun a b h => k0_idx11_inb k0_t2 a b h k0_h1) z,
   restStep arg9 arg11 (k0_off37 k) (k0_off37_inb k0_t2 k k0_h1) (rowW k) (k0_chk12 k0_t2) (k0_chk12.dec k0_t2) (fun a b h => k0_idx12_inb k0_t2 a b h k0_h1) z]

/-- The second scratch's restoring trip as twelve steps. -/
def rest1 (k0_t2 : Fin k0_t2_loop.trips) (k0_h2 : k0_cond2 k0_t2 = 1#1) (k : Fin k0_t5_loop.trips) (z : FVec F S16 .f32) :
    List (TileProg F ((i 0).castLE hcore0) ((i 1).castLE hsub0) PUnit) :=
  [restStep arg10 arg12 (k0_off52 k) (k0_off52_inb k0_t2 k k0_h2) (rowW k) (k0_chk25 k0_t2) (k0_chk25.dec k0_t2) (fun a b h => k0_idx25_inb k0_t2 a b h k0_h2) z,
   restStep arg10 arg12 (k0_off53 k) (k0_off53_inb k0_t2 k k0_h2) (rowW k) (k0_chk26 k0_t2) (k0_chk26.dec k0_t2) (fun a b h => k0_idx26_inb k0_t2 a b h k0_h2) z,
   restStep arg10 arg12 (k0_off54 k) (k0_off54_inb k0_t2 k k0_h2) (rowW k) (k0_chk27 k0_t2) (k0_chk27.dec k0_t2) (fun a b h => k0_idx27_inb k0_t2 a b h k0_h2) z,
   restStep arg10 arg12 (k0_off55 k) (k0_off55_inb k0_t2 k k0_h2) (rowW k) (k0_chk28 k0_t2) (k0_chk28.dec k0_t2) (fun a b h => k0_idx28_inb k0_t2 a b h k0_h2) z,
   restStep arg10 arg12 (k0_off56 k) (k0_off56_inb k0_t2 k k0_h2) (rowW k) (k0_chk29 k0_t2) (k0_chk29.dec k0_t2) (fun a b h => k0_idx29_inb k0_t2 a b h k0_h2) z,
   restStep arg10 arg12 (k0_off57 k) (k0_off57_inb k0_t2 k k0_h2) (rowW k) (k0_chk30 k0_t2) (k0_chk30.dec k0_t2) (fun a b h => k0_idx30_inb k0_t2 a b h k0_h2) z,
   restStep arg10 arg12 (k0_off58 k) (k0_off58_inb k0_t2 k k0_h2) (rowW k) (k0_chk31 k0_t2) (k0_chk31.dec k0_t2) (fun a b h => k0_idx31_inb k0_t2 a b h k0_h2) z,
   restStep arg10 arg12 (k0_off59 k) (k0_off59_inb k0_t2 k k0_h2) (rowW k) (k0_chk32 k0_t2) (k0_chk32.dec k0_t2) (fun a b h => k0_idx32_inb k0_t2 a b h k0_h2) z,
   restStep arg10 arg12 (k0_off60 k) (k0_off60_inb k0_t2 k k0_h2) (rowW k) (k0_chk33 k0_t2) (k0_chk33.dec k0_t2) (fun a b h => k0_idx33_inb k0_t2 a b h k0_h2) z,
   restStep arg10 arg12 (k0_off61 k) (k0_off61_inb k0_t2 k k0_h2) (rowW k) (k0_chk34 k0_t2) (k0_chk34.dec k0_t2) (fun a b h => k0_idx34_inb k0_t2 a b h k0_h2) z,
   restStep arg10 arg12 (k0_off62 k) (k0_off62_inb k0_t2 k k0_h2) (rowW k) (k0_chk35 k0_t2) (k0_chk35.dec k0_t2) (fun a b h => k0_idx35_inb k0_t2 a b h k0_h2) z,
   restStep arg10 arg12 (k0_off63 k) (k0_off63_inb k0_t2 k k0_h2) (rowW k) (k0_chk36 k0_t2) (k0_chk36.dec k0_t2) (fun a b h => k0_idx36_inb k0_t2 a b h k0_h2) z]

/-- The first buffer's scattering trip as twelve steps, `w` being the chunk's first row. -/
def scat0 (w : BitVec 32) (k : Fin k0_t4_loop.trips) :
    List (TileProg F ((i 0).castLE hcore0) ((i 1).castLE hsub0) PUnit) :=
  [scatStep arg5 arg7 arg9 arg11 (k0_off39 k) (k0_off39_inb k) (baseW w k) (rowW k) k0_chk13 k0_chk13.dec k0_idx13_inb,
   scatStep arg5 arg7 arg9 arg11 (k0_off40 k) (k0_off40_inb k) (baseW w k) (rowW k) k0_chk14 k0_chk14.dec k0_idx14_inb,
   scatStep arg5 arg7 arg9 arg11 (k0_off41 k) (k0_off41_inb k) (baseW w k) (rowW k) k0_chk15 k0_chk15.dec k0_idx15_inb,
   scatStep arg5 arg7 arg9 arg11 (k0_off42 k) (k0_off42_inb k) (baseW w k) (rowW k) k0_chk16 k0_chk16.dec k0_idx16_inb,
   scatStep arg5 arg7 arg9 arg11 (k0_off43 k) (k0_off43_inb k) (baseW w k) (rowW k) k0_chk17 k0_chk17.dec k0_idx17_inb,
   scatStep arg5 arg7 arg9 arg11 (k0_off44 k) (k0_off44_inb k) (baseW w k) (rowW k) k0_chk18 k0_chk18.dec k0_idx18_inb,
   scatStep arg5 arg7 arg9 arg11 (k0_off45 k) (k0_off45_inb k) (baseW w k) (rowW k) k0_chk19 k0_chk19.dec k0_idx19_inb,
   scatStep arg5 arg7 arg9 arg11 (k0_off46 k) (k0_off46_inb k) (baseW w k) (rowW k) k0_chk20 k0_chk20.dec k0_idx20_inb,
   scatStep arg5 arg7 arg9 arg11 (k0_off47 k) (k0_off47_inb k) (baseW w k) (rowW k) k0_chk21 k0_chk21.dec k0_idx21_inb,
   scatStep arg5 arg7 arg9 arg11 (k0_off48 k) (k0_off48_inb k) (baseW w k) (rowW k) k0_chk22 k0_chk22.dec k0_idx22_inb,
   scatStep arg5 arg7 arg9 arg11 (k0_off49 k) (k0_off49_inb k) (baseW w k) (rowW k) k0_chk23 k0_chk23.dec k0_idx23_inb,
   scatStep arg5 arg7 arg9 arg11 (k0_off50 k) (k0_off50_inb k) (baseW w k) (rowW k) k0_chk24 k0_chk24.dec k0_idx24_inb]

/-- The second buffer's scattering trip as twelve steps. -/
def scat1 (w : BitVec 32) (k : Fin k0_t6_loop.trips) :
    List (TileProg F ((i 0).castLE hcore0) ((i 1).castLE hsub0) PUnit) :=
  [scatStep arg6 arg8 arg10 arg12 (k0_off65 k) (k0_off65_inb k) (baseW w k) (rowW k) k0_chk37 k0_chk37.dec k0_idx37_inb,
   scatStep arg6 arg8 arg10 arg12 (k0_off66 k) (k0_off66_inb k) (baseW w k) (rowW k) k0_chk38 k0_chk38.dec k0_idx38_inb,
   scatStep arg6 arg8 arg10 arg12 (k0_off67 k) (k0_off67_inb k) (baseW w k) (rowW k) k0_chk39 k0_chk39.dec k0_idx39_inb,
   scatStep arg6 arg8 arg10 arg12 (k0_off68 k) (k0_off68_inb k) (baseW w k) (rowW k) k0_chk40 k0_chk40.dec k0_idx40_inb,
   scatStep arg6 arg8 arg10 arg12 (k0_off69 k) (k0_off69_inb k) (baseW w k) (rowW k) k0_chk41 k0_chk41.dec k0_idx41_inb,
   scatStep arg6 arg8 arg10 arg12 (k0_off70 k) (k0_off70_inb k) (baseW w k) (rowW k) k0_chk42 k0_chk42.dec k0_idx42_inb,
   scatStep arg6 arg8 arg10 arg12 (k0_off71 k) (k0_off71_inb k) (baseW w k) (rowW k) k0_chk43 k0_chk43.dec k0_idx43_inb,
   scatStep arg6 arg8 arg10 arg12 (k0_off72 k) (k0_off72_inb k) (baseW w k) (rowW k) k0_chk44 k0_chk44.dec k0_idx44_inb,
   scatStep arg6 arg8 arg10 arg12 (k0_off73 k) (k0_off73_inb k) (baseW w k) (rowW k) k0_chk45 k0_chk45.dec k0_idx45_inb,
   scatStep arg6 arg8 arg10 arg12 (k0_off74 k) (k0_off74_inb k) (baseW w k) (rowW k) k0_chk46 k0_chk46.dec k0_idx46_inb,
   scatStep arg6 arg8 arg10 arg12 (k0_off75 k) (k0_off75_inb k) (baseW w k) (rowW k) k0_chk47 k0_chk47.dec k0_idx47_inb,
   scatStep arg6 arg8 arg10 arg12 (k0_off76 k) (k0_off76_inb k) (baseW w k) (rowW k) k0_chk48 k0_chk48.dec k0_idx48_inb]

/-- The clearing trip as twenty-four steps. -/
def clr (k : Fin k0_t1_loop.trips) :
    List (TileProg F ((i 0).castLE hcore0) ((i 1).castLE hsub0) PUnit) :=
  [zeroStep arg11 arg12 (k0_off1 k) (k0_off1_inb k) zero16,
   zeroStep arg11 arg12 (k0_off2 k) (k0_off2_inb k) zero16,
   zeroStep arg11 arg12 (k0_off3 k) (k0_off3_inb k) zero16,
   zeroStep arg11 arg12 (k0_off4 k) (k0_off4_inb k) zero16,
   zeroStep arg11 arg12 (k0_off5 k) (k0_off5_inb k) zero16,
   zeroStep arg11 arg12 (k0_off6 k) (k0_off6_inb k) zero16,
   zeroStep arg11 arg12 (k0_off7 k) (k0_off7_inb k) zero16,
   zeroStep arg11 arg12 (k0_off8 k) (k0_off8_inb k) zero16,
   zeroStep arg11 arg12 (k0_off9 k) (k0_off9_inb k) zero16,
   zeroStep arg11 arg12 (k0_off10 k) (k0_off10_inb k) zero16,
   zeroStep arg11 arg12 (k0_off11 k) (k0_off11_inb k) zero16,
   zeroStep arg11 arg12 (k0_off12 k) (k0_off12_inb k) zero16,
   zeroStep arg11 arg12 (k0_off13 k) (k0_off13_inb k) zero16,
   zeroStep arg11 arg12 (k0_off14 k) (k0_off14_inb k) zero16,
   zeroStep arg11 arg12 (k0_off15 k) (k0_off15_inb k) zero16,
   zeroStep arg11 arg12 (k0_off16 k) (k0_off16_inb k) zero16,
   zeroStep arg11 arg12 (k0_off17 k) (k0_off17_inb k) zero16,
   zeroStep arg11 arg12 (k0_off18 k) (k0_off18_inb k) zero16,
   zeroStep arg11 arg12 (k0_off19 k) (k0_off19_inb k) zero16,
   zeroStep arg11 arg12 (k0_off20 k) (k0_off20_inb k) zero16,
   zeroStep arg11 arg12 (k0_off21 k) (k0_off21_inb k) zero16,
   zeroStep arg11 arg12 (k0_off22 k) (k0_off22_inb k) zero16,
   zeroStep arg11 arg12 (k0_off23 k) (k0_off23_inb k) zero16,
   zeroStep arg11 arg12 (k0_off24 k) (k0_off24_inb k) zero16]

set_option maxRecDepth 65536 in
set_option maxHeartbeats 4000000 in
/-- The first scratch's restoring trip is its twelve steps. -/
theorem t3_eq (v1 : BitVec 32) (z : FVec F S16 .f32) (a b : BitVec 32) (k0_t2 : Fin k0_t2_loop.trips) (k0_h1 : k0_cond1 k0_t2 = 1#1) (k : Fin k0_t3_loop.trips) :
    k0_t3_body i arg2 harg2 arg3 harg3 arg4 harg4 arg5 harg5 arg6 harg6 arg7 harg7 arg8 harg8 arg9 harg9 arg10 harg10 arg11 harg11 arg12 harg12 arg13 arg14 arg15 arg16 v1 z a b k0_t2 k0_h1 k ⟨⟩
      = seqL (rest0 i arg9 arg11 k0_t2 k0_h1 k z) := rfl

set_option maxRecDepth 65536 in
set_option maxHeartbeats 4000000 in
/-- The second scratch's restoring trip is its twelve steps. -/
theorem t5_eq (z : FVec F S16 .f32) (k0_t2 : Fin k0_t2_loop.trips) (g a b e f : BitVec 32) (u : BitVec 32) (k0_h2 : k0_cond2 k0_t2 = 1#1) (k : Fin k0_t5_loop.trips) :
    k0_t5_body i arg2 harg2 arg3 harg3 arg4 harg4 arg5 harg5 arg6 harg6 arg7 harg7 arg8 harg8 arg9 harg9 arg10 harg10 arg11 harg11 arg12 harg12 arg13 arg14 arg15 arg16 z k0_t2 g a b e f u k0_h2 k ⟨⟩
      = seqL (rest1 i arg10 arg12 k0_t2 k0_h2 k z) := rfl

set_option maxRecDepth 65536 in
set_option maxHeartbeats 4000000 in
/-- The first buffer's scattering trip is its twelve steps. -/
theorem t4_eq (a b e f g : BitVec 32) (h : BitVec 1) (w : BitVec 32) (k : Fin k0_t4_loop.trips) :
    k0_t4_body (F := F) i arg2 harg2 arg3 harg3 arg4 harg4 arg5 harg5 arg6 harg6 arg7 harg7 arg8 harg8 arg9 harg9 arg10 harg10 arg11 harg11 arg12 harg12 arg13 arg14 arg15 arg16 a b e f g h w k ⟨⟩
      = seqL (scat0 (F := F) i arg5 arg7 arg9 arg11 w k) := rfl

set_option maxRecDepth 65536 in
set_option maxHeartbeats 4000000 in
/-- The second buffer's scattering trip is its twelve steps. -/
theorem t6_eq (a b e f g : BitVec 32) (w : BitVec 32) (k : Fin k0_t6_loop.trips) :
    k0_t6_body (F := F) i arg2 harg2 arg3 harg3 arg4 harg4 arg5 harg5 arg6 harg6 arg7 harg7 arg8 harg8 arg9 harg9 arg10 harg10 arg11 harg11 arg12 harg12 arg13 arg14 arg15 arg16 a b e f g w k ⟨⟩
      = seqL (scat1 (F := F) i arg6 arg8 arg10 arg12 w k) := rfl

set_option maxRecDepth 65536 in
set_option maxHeartbeats 4000000 in
/-- The clearing trip is its twenty-four steps. -/
theorem t1_eq (k : Fin k0_t1_loop.trips) :
    k0_t1_body (F := F) i arg2 harg2 arg3 harg3 arg4 harg4 arg5 harg5 arg6 harg6 arg7 harg7 arg8 harg8 arg9 harg9 arg10 harg10 arg11 harg11 arg12 harg12 arg13 arg14 arg15 arg16 k ⟨⟩
      = seqL (clr i arg11 arg12 k) := rfl

/-- The memref of a chunk of `x`. -/
abbrev xSl (off : Fin 4 → Nat) (hin : ∀ a, off a + S1x1x32x192.size a ≤ S4x96x192x192.size a) : Memref sig .scVector .hbm S32x192 .f32 :=
  (arg2.slice (Rect.unit (s := S4x96x192x192) off S1x1x32x192.size hin) (fun _ => rfl)).squeeze S32x192 squeezes_S1x1x32x192_S32x192
/-- The memref of a chunk of the indices. -/
abbrev iSl (off : Fin 4 → Nat) (hin : ∀ a, off a + S1x1x32x192.size a ≤ S4x96x192x192.size a) : Memref sig .scVector .hbm S32x192 .i32 :=
  (arg3.slice (Rect.unit (s := S4x96x192x192) off S1x1x32x192.size hin) (fun _ => rfl)).squeeze S32x192 squeezes_S1x1x32x192_S32x192
/-- The memref of a chunk of the output. -/
abbrev oSl (off : Fin 3 → Nat) (hin : ∀ a, off a + S1x64x384.size a ≤ S96x384x384.size a) : Memref sig .scVector .hbm S64x384 .f32 :=
  (arg4.slice (Rect.unit (s := S96x384x384) off S1x64x384.size hin) (fun _ => rfl)).squeeze S64x384 squeezes_S1x64x384_S64x384

/-- The start of one chunk's two copies in. -/
def fetchIn (off : Fin 4 → Nat) (hin : ∀ a, off a + S1x1x32x192.size a ≤ S4x96x192x192.size a)
    (xv : Memref sig .scVector .vmem S32x192 .f32) (hxv : xv.IsWhole) (iv : Memref sig .scVector .vmem S32x192 .i32) (hiv : iv.IsWhole)
    (sm : DmaSems sig S_) : TileProg F ((i 0).castLE hcore0) ((i 1).castLE hsub0) PUnit := do
  Prog.lift (.enqueueDma (xSl arg2 off hin) (.here xv) (.dma sm.sem) ((View.wordExact_bits rfl).reshape _ _) hxv.wordExact ⟨Or.inl rfl, trivial⟩)
  Prog.lift (.enqueueDma (iSl arg3 off hin) (.here iv) (.dma sm.sem) ((View.wordExact_bits rfl).reshape _ _) hiv.wordExact ⟨Or.inl rfl, trivial⟩)

/-- The wait for one chunk's two copies in. -/
def awaitIn (xv : Memref sig .scVector .vmem S32x192 .f32) (hxv : xv.IsWhole) (iv : Memref sig .scVector .vmem S32x192 .i32) (hiv : iv.IsWhole)
    (sm : DmaSems sig S_) : TileProg F ((i 0).castLE hcore0) ((i 1).castLE hsub0) PUnit := do
  Prog.lift (.waitDma2 sm.sem (xSl arg2 ![0, 0, 0, 0] inb_S4x96x192x192_S1x1x32x192_0_0_0_0) xv ((View.wordExact_bits rfl).reshape _ _) hxv.wordExact)
  Prog.lift (.waitDma2 sm.sem (iSl arg3 ![0, 0, 0, 0] inb_S4x96x192x192_S1x1x32x192_0_0_0_0) iv ((View.wordExact_bits rfl).reshape _ _) hiv.wordExact)

/-- The start of one chunk's copy out. -/
def sendOut (off : Fin 3 → Nat) (hin : ∀ a, off a + S1x64x384.size a ≤ S96x384x384.size a)
    (o : Memref sig .scVector .vmem S64x384 .f32) (ho : o.IsWhole)
    (sm : DmaSems sig S_) : TileProg F ((i 0).castLE hcore0) ((i 1).castLE hsub0) PUnit :=
  Prog.lift (.enqueueDma o (.here (oSl arg4 off hin)) (.dma sm.sem) ho.wordExact ((View.wordExact_bits rfl).reshape _ _) ⟨Or.inl rfl, trivial⟩)

/-- The wait for a copy out. -/
def awaitOut (o : Memref sig .scVector .vmem S64x384 .f32) (ho : o.IsWhole)
    (sm : DmaSems sig S_) : TileProg F ((i 0).castLE hcore0) ((i 1).castLE hsub0) PUnit :=
  Prog.lift (.waitDma2 sm.sem o (oSl arg4 ![0, 0, 0] inb_S96x384x384_S1x64x384_0_0_0) ho.wordExact ((View.wordExact_bits rfl).reshape _ _))

/-- The first row of the chunk numbered by a word. -/
def chunkW (t : BitVec 32) : BitVec 32 :=
  let m : BitVec 32 := Scalar.select (Scalar.cmpi .eq 6#32 0#32) 1#32 6#32
  let r : BitVec 32 := Scalar.remsi t m
  Scalar.muli (Scalar.select (Scalar.andi (Scalar.xori (Scalar.cmpi .slt r 0#32) (Scalar.cmpi .slt m 0#32)) (Scalar.cmpi .ne r 0#32)) (Scalar.addi r m) r) 32#32

/-- The number, as a word, of a trip's chunk. -/
abbrev tW (k : Nat) (b : BitVec 32) : BitVec 32 := Scalar.addi (Scalar.muli 2#32 (Scf.iv 0#32 1#32 k)) b

/-- The first scratch's previous copy out awaited and its places cleared, from the second trip on. -/
def clean0 (z : FVec F S16 .f32) (k : Fin k0_t2_loop.trips) : TileProg F ((i 0).castLE hcore0) ((i 1).castLE hsub0) PUnit :=
  if h : k0_cond1 k = 1#1 then do
    awaitOut i arg4 arg11 harg11 arg15
    Scf.Loop.for k0_t3_loop (k0_t3_ok k h) ⟨⟩ (fun t _ => seqL (rest0 i arg9 arg11 k h t z))
  else pure ⟨⟩

/-- The second scratch's. -/
def clean1 (z : FVec F S16 .f32) (k : Fin k0_t2_loop.trips) : TileProg F ((i 0).castLE hcore0) ((i 1).castLE hsub0) PUnit :=
  if h : k0_cond2 k = 1#1 then do
    awaitOut i arg4 arg12 harg12 arg16
    Scf.Loop.for k0_t5_loop (k0_t5_ok k h) ⟨⟩ (fun t _ => seqL (rest1 i arg10 arg12 k h t z))
  else pure ⟨⟩

/-- The next trip's first chunk's copies in, before the last trip. -/
def fetchNext (k : Fin k0_t2_loop.trips) : TileProg F ((i 0).castLE hcore0) ((i 1).castLE hsub0) PUnit :=
  if h : k0_cond3 k = 1#1 then fetchIn i arg2 arg3 (k0_off64 i k) (k0_off64_inb i k h) arg5 harg5 arg7 harg7 arg13
  else pure ⟨⟩

/-- One trip of the tile's main loop: a chunk through each buffer. -/
def pairBody (z : FVec F S16 .f32) (k : Fin k0_t2_loop.trips) : TileProg F ((i 0).castLE hcore0) ((i 1).castLE hsub0) PUnit := do
  clean0 i arg4 arg9 arg11 harg11 arg15 z k
  awaitIn i arg2 arg3 arg5 harg5 arg7 harg7 arg13
  fetchIn i arg2 arg3 (k0_off38 i k) (k0_off38_inb i k) arg6 harg6 arg8 harg8 arg14
  Scf.Loop.for k0_t4_loop k0_t4_ok ⟨⟩ (fun t _ => seqL (scat0 i arg5 arg7 arg9 arg11 (chunkW (tW k 0#32)) t))
  sendOut i arg4 (k0_off51 i k 0#32) (k0_off51_inb i k 0) arg11 harg11 arg15
  clean1 i arg4 arg10 arg12 harg12 arg16 z k
  awaitIn i arg2 arg3 arg6 harg6 arg8 harg8 arg14
  fetchNext i arg2 arg3 arg5 harg5 arg7 harg7 arg13 k
  Scf.Loop.for k0_t6_loop k0_t6_ok ⟨⟩ (fun t _ => seqL (scat1 i arg6 arg8 arg10 arg12 (chunkW (tW k 1#32)) t))
  sendOut i arg4 (k0_off51 i k 1#32) (k0_off51_inb i k 1) arg12 harg12 arg16

/-- The tile's program. -/
def tileProg : TileProg F ((i 0).castLE hcore0) ((i 1).castLE hsub0) PUnit := do
  Scf.Loop.for k0_t1_loop k0_t1_ok ⟨⟩ (fun t _ => seqL (clr i arg11 arg12 t))
  fetchIn i arg2 arg3 (k0_off25 i) (k0_off25_inb i) arg5 harg5 arg7 harg7 arg13
  Scf.Loop.for k0_t2_loop k0_t2_ok ⟨⟩ (fun t _ => pairBody i arg2 arg3 arg4 arg5 harg5 arg6 harg6 arg7 harg7 arg8 harg8 arg9 arg10 arg11 harg11 arg12 harg12 arg13 arg14 arg15 arg16 zero16 t)
  awaitOut i arg4 arg11 harg11 arg15
  awaitOut i arg4 arg12 harg12 arg16

set_option maxRecDepth 65536 in
set_option maxHeartbeats 4000000 in
/-- One trip of the main loop is `pairBody`. -/
theorem t2_eq (v1 : BitVec 32) (z : FVec F S16 .f32) (k : Fin k0_t2_loop.trips) :
    k0_t2_body i arg2 harg2 arg3 harg3 arg4 harg4 arg5 harg5 arg6 harg6 arg7 harg7 arg8 harg8 arg9 harg9 arg10 harg10 arg11 harg11 arg12 harg12 arg13 arg14 arg15 arg16 v1 z k ⟨⟩
      = pairBody i arg2 arg3 arg4 arg5 harg5 arg6 harg6 arg7 harg7 arg8 harg8 arg9 arg10 arg11 harg11 arg12 harg12 arg13 arg14 arg15 arg16 z k := by
  unfold k0_t2_body pairBody clean0 clean1 fetchNext
  rw [k0_part24_eq_skeleton, k0_part27_eq_skeleton, k0_part29_eq_skeleton, k0_part30_eq_skeleton, k0_part31_eq_skeleton]
  unfold k0_part24_skel k0_part27_skel k0_part29_skel k0_part30_skel k0_part31_skel
  by_cases h1 : k0_cond1 k = 1#1 <;> by_cases h2 : k0_cond2 k = 1#1 <;> by_cases h3 : k0_cond3 k = 1#1 <;>
    simp only [h1, h2, h3, dif_pos, dif_neg, not_false_eq_true, Prog.bind_assoc] <;> rfl

set_option maxRecDepth 65536 in
set_option maxHeartbeats 4000000 in
/-- The printed body is `tileProg`. -/
theorem body_eq :
    cc0__sc_body (F := F) i arg2 harg2 arg3 harg3 arg4 harg4 arg5 harg5 arg6 harg6 arg7 harg7 arg8 harg8 arg9 harg9 arg10 harg10 arg11 harg11 arg12 harg12 arg13 arg14 arg15 arg16
      = tileProg i arg2 arg3 arg4 arg5 harg5 arg6 harg6 arg7 harg7 arg8 harg8 arg9 arg10 arg11 harg11 arg12 harg12 arg13 arg14 arg15 arg16 := by
  rw [cc0__sc_body_eq_skeleton]
  unfold cc0__sc_body_skel tileProg
  rw [k0_part33_eq_skeleton]
  unfold k0_part33_skel
  simp only [Prog.bind_assoc]
  have hb : (fun (t : Fin k0_t2_loop.trips) (_ : Unit) => pairBody (F := F) i arg2 arg3 arg4 arg5 harg5 arg6 harg6 arg7 harg7 arg8 harg8 arg9 arg10 arg11 harg11 arg12 harg12 arg13 arg14 arg15 arg16 zero16 t)
      = k0_t2_body i arg2 harg2 arg3 harg3 arg4 harg4 arg5 harg5 arg6 harg6 arg7 harg7 arg8 harg8 arg9 harg9 arg10 harg10 arg11 harg11 arg12 harg12 arg13 arg14 arg15 arg16 (Scalar.addi (Scalar.muli (BitVec.ofNat 32 (i 1).val) 2#32) (BitVec.ofNat 32 (i 0).val)) zero16 :=
    funext fun t => funext fun _ => (t2_eq i arg2 harg2 arg3 harg3 arg4 harg4 arg5 harg5 arg6 harg6 arg7 harg7 arg8 harg8 arg9 harg9 arg10 harg10 arg11 harg11 arg12 harg12 arg13 arg14 arg15 arg16 _ zero16 t).symm
  rw [hb]
  rfl

end

end Cert.Proof
-- ==== Proof.Held.lean ====
/-
  The program as the launch theorem sees it, and a scratch held at known contents: the rules for loads, stores and
  indexed stores through a scratch in terms of what it holds.
-/
module

public import proofs.«01_k».proof.Proof.Steps

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the grid call's, the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-! ## A scratch held at known contents -/

section Held

variable [FloatOps F] (d : Dev nD) {c : Fin τ.nSC} {j : Fin τ.nSub}

/-- The memref's elements, whole, at contents that read as `X`. -/
def held (c : Fin τ.nSC) (j : Fin τ.nSub) {sp : Space} {s : Shape} {e : EltTy} (m : Memref sig .scVector sp s e) (X : s.Idx → Elt F e) : sProp 𝕄 :=
  iprop(∃ f, (m.view.loc (V d c j) ↦[m.view.set]{fullShare} f) ∗ ⌜m.view.read (Elt F) f = X⌝)

variable {sp : CoreSpace} {s : Shape} {e : EltTy} {m : Memref sig .scVector sp s e} {X X' : s.Idx → Elt F e}
  {α : Type}

/-- A load reads what the scratch holds. -/
theorem held_load {Q : α → sProp 𝕄} {r : Rect s} {hl : m.view.LoadsAt r.toLoadRect} {k : (r.shape.Idx → Elt F e) → TileProg F c j α} :
    held d c j m X
      ⊢ iprop((held d c j m X -∗ wp frame (wpE (defs₀ (F := F)) 𝒱₀ (V d c j) none) Set.univ (k fun x => X (r.emb x)) Q)
        -∗ wp frame (wpE (defs₀ (F := F)) 𝒱₀ (V d c j) none) Set.univ (.op (.load m r.toLoadRect hl) k) Q) := by
  unfold held
  iintro ⟨%f, H, %hf⟩ Hk
  iapply (wp_load_rect (defs := defs₀ (F := F)) 𝒱₀ (V d c j) none Set.univ (m := m) (r := r) (hl := hl) (k := k)
    (q := fullShare) (f := f) (S := m.view.set) (View.set_slice_subset _ r)) $$ H
  iintro H
  have e1 : (m.access r).read (Elt F) f = fun x => X (r.emb x) := by
    rw [← hf]; rfl
  rw [e1]
  iapply Hk
  iexists f
  isplitl [H]
  · iexact H
  · ipureintro; exact hf

/-- A store through a rectangle leaves the scratch holding what it held off the rectangle and the payload on it. -/
theorem held_store {Q : α → sProp 𝕄} {r : Rect s} {w : r.shape.Idx → Elt F e} {hx : (m.access r).Stores Finset.univ} {hm : Finset.univ = Finset.univ ∨ ∀ a, r.stride a = 1}
    {k : PUnit → TileProg F c j α} (hin : ∀ x, X' (r.emb x) = w x) (hout : ∀ y, y ∉ r.set → X' y = X y) :
    held d c j m X
      ⊢ iprop((held d c j m X' -∗ wp frame (wpE (defs₀ (F := F)) 𝒱₀ (V d c j) none) Set.univ (k ⟨⟩) Q)
        -∗ wp frame (wpE (defs₀ (F := F)) 𝒱₀ (V d c j) none) Set.univ (.op (.store m r w Finset.univ hx hm) k) Q) := by
  unfold held
  iintro ⟨%f, H, %hf⟩ Hk
  iapply (wp_store (defs := defs₀ (F := F)) 𝒱₀ (V d c j) none Set.univ (m := m) (r := r) (w := w) (hx := hx) (hm := hm) (k := k)
    (f := f) (S := m.view.set) ((View.setOn_subset_set _ _).trans (View.set_slice_subset _ r))) $$ H
  iintro H
  iapply Hk
  iexists ((m.access r).write (Elt F) f w Finset.univ)
  isplitl [H]
  · iexact H
  · ipureintro
    funext y
    by_cases hy : y ∈ r.set
    · obtain ⟨x, -, rfl⟩ := Finset.mem_map.mp (by rw [Rect.map_emb_univ]; exact hy : y ∈ Finset.univ.map r.emb)
      rw [hin]
      exact View.read_slice_write_emb (v := m.view) r f w (Finset.mem_univ x)
    · rw [hout y hy, ← hf]
      exact View.read_slice_write_of_not_mem (v := m.view) r f w Finset.univ (by rw [Rect.map_emb_univ]; exact hy)

/-- An indexed store leaves the scratch holding `storeIdx` of what it held. -/
theorem held_storeIdx {Q : α → sProp 𝕄} {m : Memref sig .scVector .vmem s e} {dd : Fin 1 → Nat} {idxs : Fin s.rank → IVec ⟨1, dd⟩ 32} {v : Vec F ⟨1, dd⟩ e}
    {mask : IVec ⟨1, dd⟩ 1} {add : Bool} {h : ∀ a x, (idxs a x).toNat < s.size a} {hs : (m.access (.whole s)).Stores Finset.univ}
    {k : PUnit → TileProg F c j α} (hX : storeIdx X idxs v mask add h = X') :
    held d c j m X
      ⊢ iprop((held d c j m X' -∗ wp frame (wpE (defs₀ (F := F)) 𝒱₀ (V d c j) none) Set.univ (k ⟨⟩) Q)
        -∗ wp frame (wpE (defs₀ (F := F)) 𝒱₀ (V d c j) none) Set.univ (SparseCore.vectorStoreIdx m idxs v mask add h hs >>= k) Q) := by
  unfold held
  iintro ⟨%f, H, %hf⟩ Hk
  have hset : (m.access (.whole s)).set = m.view.set := by
    rw [View.set_slice, Rect.set_whole]; rfl
  have e1 : (m.access (.whole s)).read (Elt F) f = X := by
    rw [← hf]; funext x
    have h4 : (m.access (.whole s)).read (Elt F) f x = m.view.read (Elt F) f ((Rect.whole s).emb x) := rfl
    rw [h4, Rect.emb_whole_apply]
  iapply (SparseCore.wp_vectorStoreIdx (defs := defs₀ (F := F)) 𝒱₀ (V d c j) none Set.univ (base := m) (idxs := idxs) (v := v) (mask := mask)
    (add := add) (h := h) (hs := hs) (k := k) (f := f)) $$ [H]
  · rw [hset]; iexact H
  iintro H
  iapply Hk
  rw [e1, hX, hset]
  iexists ((m.access (.whole s)).write (Elt F) f X' Finset.univ)
  isplitl [H]
  · iexact H
  · ipureintro
    have h2 := View.read_write_univ (v := m.access (.whole s)) (Val := Elt F) f X'
    funext x
    have h3 := congrFun h2 x
    have h4 : ∀ g, (m.access (.whole s)).read (Elt F) g x = m.view.read (Elt F) g ((Rect.whole s).emb x) := fun _ => rfl
    rw [h4, Rect.emb_whole_apply] at h3
    exact h3

end Held

end Cert.Proof
-- ==== Proof.Chunk.lean ====
/-
  What one chunk's statements compute, as plain functions: the places the remembered words name, the scattered chunk
  (`put`), and what an indexed store of one vector of sixteen does to a scratch filled up to that vector.
-/
module

public import proofs.«01_k».proof.Proof.Steps
public import Idealize.ShloMosaic.Lib.ValueIdxCore
public import Idealize.ShloMosaic.Lib.Pipeline.Value

@[expose] public section

noncomputable section

namespace Cert.Proof

open Cert.KernelIdeal Cert.KernelIdeal.Gen
open Idealize.ShloMosaic Idealize.SL.Sem
open Idealize.ShloMosaic.ValueIdx

variable {F : FTy → Type} [FloatOps F]

/-! ## An unmasked indexed store -/

/-- An unmasked indexed store that overwrites leaves `g`, where `g` has the stored value at every place a lane names and
    what was there at every other place. -/
theorem storeIdx_eq {s : Shape} {e : EltTy} {d : Fin 1 → Nat} {f g : Vec F s e} {idxs : Fin s.rank → IVec ⟨1, d⟩ 32} {v : Vec F ⟨1, d⟩ e}
    {h : ∀ a x, (idxs a x).toNat < s.size a}
    (h1 : ∀ x, g (idxAt idxs h x) = v x) (h2 : ∀ j, (∀ x, idxAt idxs h x ≠ j) → g j = f j) :
    storeIdx f idxs v (fun _ => 1#1) false h = g := by
  have key : ∀ (st : Vec F s e → Fin (d 0) → Vec F s e)
      (hst : ∀ acc k j, st acc k j = if idxAt idxs h (Shape.ofLane k) = j then v (Shape.ofLane k) else acc j)
      (l : List (Fin (d 0))) (acc : Vec F s e) (j : s.Idx),
      ((∃ k ∈ l, idxAt idxs h (Shape.ofLane k) = j) → l.foldl st acc j = g j)
        ∧ ((¬ ∃ k ∈ l, idxAt idxs h (Shape.ofLane k) = j) → l.foldl st acc j = acc j) := by
    intro st hst l
    induction l with
    | nil => intro acc j; simp
    | cons k l ih =>
      intro acc j
      rw [List.foldl_cons]
      obtain ⟨i1, i2⟩ := ih (st acc k) j
      by_cases hl : ∃ k ∈ l, idxAt idxs h (Shape.ofLane k) = j
      · have hc : ∃ k' ∈ k :: l, idxAt idxs h (Shape.ofLane k') = j := by
          obtain ⟨k', hk', e'⟩ := hl
          exact ⟨k', List.mem_cons_of_mem _ hk', e'⟩
        exact ⟨fun _ => i1 hl, fun hh => absurd hc hh⟩
      · by_cases hk : idxAt idxs h (Shape.ofLane k) = j
        · have hc : ∃ k' ∈ k :: l, idxAt idxs h (Shape.ofLane k') = j := ⟨k, List.mem_cons_self, hk⟩
          refine ⟨fun _ => ?_, fun hh => absurd hc hh⟩
          rw [i2 hl, hst, if_pos hk, ← hk, h1]
        · refine ⟨?_, fun _ => by rw [i2 hl, hst, if_neg hk]⟩
          rintro ⟨k', hk', e'⟩
          rcases List.mem_cons.mp hk' with rfl | hm
          · exact absurd e' hk
          · exact absurd ⟨k', hm, e'⟩ hl
  unfold storeIdx
  have fin : ∀ (st : Vec F s e → Fin (d 0) → Vec F s e)
      (hst : ∀ acc k j, st acc k j = if idxAt idxs h (Shape.ofLane k) = j then v (Shape.ofLane k) else acc j),
      (List.finRange (d 0)).foldl st f = g := by
    intro st hst
    funext j
    obtain ⟨k1, k2⟩ := key st hst (List.finRange (d 0)) f j
    by_cases hj : ∃ k ∈ List.finRange (d 0), idxAt idxs h (Shape.ofLane k) = j
    · exact k1 hj
    · refine (k2 hj).trans (h2 j fun x e' => hj ⟨x 0, List.mem_finRange _, ?_⟩).symm
      rw [← e']
      congr 1
      funext a
      have : a = 0 := Fin.eq_zero a
      subst this
      rfl
  refine fin _ fun acc k j => ?_
  have hi : (∀ a, (j a).val = (idxAt idxs h (Shape.ofLane k) a).val) ↔ idxAt idxs h (Shape.ofLane k) = j :=
    ⟨fun hh => funext fun a => Fin.ext (hh a).symm, fun hh a => by rw [hh]⟩
  by_cases hk : idxAt idxs h (Shape.ofLane k) = j
  · rw [if_pos hk]; simp [hi.mpr hk]
  · rw [if_neg hk]
    have hk' := mt hi.mp hk
    simp [hk']

/-- Indices of rank two are equal when their coordinates are. -/
theorem idx_ext2 {n0 n1 : Nat} {p q : (⟨2, ![n0, n1]⟩ : Shape).Idx} (h0 : (p 0).val = (q 0).val) (h1 : (p 1).val = (q 1).val) : p = q := by
  funext a
  match a with
  | ⟨0, _⟩ => exact Fin.ext h0
  | ⟨1, _⟩ => exact Fin.ext h1

/-! ## Filling up by position -/

/-- `A` at the places of positions below `n`, `B` at the others. -/
def mixBy {ι α : Type} (pos : ι → Nat) (n : Nat) (A B : ι → α) : ι → α := fun i => if pos i < n then A i else B i

theorem mixBy_zero {ι α : Type} (pos : ι → Nat) (A B : ι → α) : mixBy pos 0 A B = B := by
  funext i; simp [mixBy]

theorem mixBy_all {ι α : Type} {pos : ι → Nat} {n : Nat} (h : ∀ i, pos i < n) (A B : ι → α) : mixBy pos n A B = A := by
  funext i; simp [mixBy, h i]

theorem mixBy_lt {ι α : Type} {pos : ι → Nat} {n : Nat} {i : ι} (h : pos i < n) (A B : ι → α) : mixBy pos n A B i = A i := if_pos h

theorem mixBy_ge {ι α : Type} {pos : ι → Nat} {n : Nat} {i : ι} (h : ¬ pos i < n) (A B : ι → α) : mixBy pos n A B i = B i := if_neg h

theorem mixBy_succ_ne {ι α : Type} {pos : ι → Nat} {n : Nat} {i : ι} (h : pos i ≠ n) (A B : ι → α) :
    mixBy pos (n + 1) A B i = mixBy pos n A B i := by
  by_cases hl : pos i < n
  · rw [mixBy_lt hl, mixBy_lt (by omega)]
  · rw [mixBy_ge hl, mixBy_ge (by omega)]

/-- The vector of an input chunk's element: twelve vectors of sixteen per row. -/
abbrev posI (p : S32x192.Idx) : Nat := 12 * (p 0).val + (p 1).val / 16
/-- The element of the input chunk an element of the output chunk's two-by-two window belongs to. -/
abbrev srcOf (y : S64x384.Idx) : S32x192.Idx :=
  ix2 ⟨(y 0).val / 2, by have := idx2_lt0 y; omega⟩ ⟨(y 1).val / 2, by have := idx2_lt1 y; omega⟩
/-- The vector of an output chunk's element: that of the input chunk's element it belongs to. -/
abbrev posO (y : S64x384.Idx) : Nat := posI (srcOf y)
/-- The vector of an output chunk's element in the clearing loop's order: twenty-four vectors of sixteen per row. -/
abbrev posZ (y : S64x384.Idx) : Nat := 24 * (y 0).val + (y 1).val / 16

theorem posI_lt (p : S32x192.Idx) : posI p < 384 := by
  have h0 := idx2_lt0 p; have h1 := idx2_lt1 p
  show 12 * (p 0).val + (p 1).val / 16 < 384
  omega
theorem posO_lt (y : S64x384.Idx) : posO y < 384 := posI_lt _
theorem posZ_lt (y : S64x384.Idx) : posZ y < 1536 := by
  have h0 := idx2_lt0 y; have h1 := idx2_lt1 y
  show 24 * (y 0).val + (y 1).val / 16 < 1536
  omega

/-! ## The scattered chunk -/

/-- Zero. -/
abbrev z0 : F .f32 := Scalar.ofBits .f32 0x00000000#32

/-- The remembered words name places of their own two-by-two windows: a row of the pair, a column of the two. -/
def Good (R : S32x192.Idx → BitVec 32) : Prop :=
  ∀ p, ∃ di dj : Nat, di < 2 ∧ dj < 2 ∧ (R p).toNat = 384 * di + 2 * (p 1).val + dj

/-- Whether the word remembered for an element's window names the element. -/
abbrev Names (R : S32x192.Idx → BitVec 32) (y : S64x384.Idx) : Prop :=
  (R (srcOf y)).toNat = 384 * ((y 0).val % 2) + (y 1).val

/-- The chunk scattered: each window's value at the place its word names, zero at the others. -/
def put (R : S32x192.Idx → BitVec 32) (x : S32x192.Idx → F .f32) : S64x384.Idx → F .f32 :=
  fun y => if Names R y then x (srcOf y) else z0

/-- The clear chunk. -/
abbrev clearC : S64x384.Idx → F .f32 := fun _ => z0

/-! ## Words at a lane -/

theorem colrow {t : IVec S16 32} {k : Nat} {x : S16.Idx} {w di dj : Nat} (hk : k < 32) (hw : w < 192) (hdi : di < 2) (hdj : dj < 2)
    (h : (t x).toNat = 384 * di + 2 * w + dj) :
    (rowOf (rowW k) t x).toNat = 2 * k + di ∧ (colOf t x).toNat = 2 * w + dj := by
  have ht : (t x) = BitVec.ofNat 32 (384 * di + 2 * w + dj) := by
    apply BitVec.eq_of_toNat_eq; rw [h, BitVec.toNat_ofNat]; omega
  have hodd : oddRow t x = BitVec.ofBool (decide (di = 1)) := by
    show BitVec.ofBool ((384#32).sle (t x)) = _
    congr 1
    rw [BitVec.sle_eq_decide]
    have e1 : (384#32 : BitVec 32).toInt = 384 := by decide
    have e2 : (t x).toInt = (384 * di + 2 * w + dj : Nat) := by
      rw [BitVec.toInt_eq_toNat_of_lt (by rw [h]; omega), h]
    rw [e1, e2]
    congr 1
    apply propext
    constructor <;> intro hh <;> omega
  have hrow0 : (rowW k) = BitVec.ofNat 32 (2 * k) := by
    show 2#32 * (0#32 + (0#32 + BitVec.ofNat 32 k * 1#32) * 1#32) = _
    apply BitVec.eq_of_toNat_eq
    simp only [BitVec.toNat_mul, BitVec.toNat_add, BitVec.toNat_ofNat]
    omega
  rcases (by omega : di = 0 ∨ di = 1) with rfl | rfl
  · have hno : oddRow t x = 0#1 := by rw [hodd]; rfl
    constructor
    · show (Scalar.select (oddRow t x) _ _ : BitVec 32).toNat = _
      rw [hno]
      show (rowW k).toNat = _
      rw [hrow0, BitVec.toNat_ofNat]; omega
    · show (Scalar.select (oddRow t x) _ _ : BitVec 32).toNat = _
      rw [hno]
      show (t x).toNat = _
      rw [h]; omega
  · have hyes : oddRow t x = 1#1 := by rw [hodd]; rfl
    constructor
    · show (Scalar.select (oddRow t x) _ _ : BitVec 32).toNat = _
      rw [hyes]
      show (rowW k + 1#32).toNat = _
      rw [hrow0, BitVec.toNat_add, BitVec.toNat_ofNat]
      simp only [BitVec.toNat_ofNat]; omega
    · show (Scalar.select (oddRow t x) _ _ : BitVec 32).toNat = _
      rw [hyes]
      show (t x - 384#32).toNat = _
      rw [BitVec.toNat_sub, h]
      simp only [BitVec.toNat_ofNat]; omega

/-- The element of the input chunk a lane of vector `v` of row `k` holds. -/
abbrev cellAt (k : Fin 32) (v : Fin 12) (x : S16.Idx) : S32x192.Idx :=
  ix2 k ⟨16 * v.val + (x 0).val, by have : (x 0).val < 16 := (x 0).isLt; omega⟩

theorem posI_cellAt (k : Fin 32) (v : Fin 12) (x : S16.Idx) : posI (cellAt k v x) = 12 * k.val + v.val := by
  have : (x 0).val < 16 := (x 0).isLt
  show 12 * k.val + (16 * v.val + (x 0).val) / 16 = _
  omega

/-- Every element at a vector's position is one of its lanes. -/
theorem exists_lane {k : Fin 32} {v : Fin 12} {p : S32x192.Idx} (h : posI p = 12 * k.val + v.val) : ∃ x : S16.Idx, cellAt k v x = p := by
  have h0 := idx2_lt0 p; have h1 := idx2_lt1 p
  have h' : 12 * (p 0).val + (p 1).val / 16 = 12 * k.val + v.val := h
  refine ⟨ix1 ⟨(p 1).val % 16, by omega⟩, ?_⟩
  refine idx_ext2 ?_ ?_
  · show k.val = (p 0).val; omega
  · show 16 * v.val + (p 1).val % 16 = (p 1).val; omega

section Lane

variable {R : S32x192.Idx → BitVec 32} (hR : Good R) {k : Fin 32} {v : Fin 12} {t : IVec S16 32} (ht : ∀ x, t x = R (cellAt k v x))
include hR ht

/-- The checked words are inside the scratch. -/
theorem inb_of_good : ∀ a x, ((![rowOf (rowW k.val) t, colOf t] : Fin 2 → IVec S16 32) a x).toNat < S64x384.size a := by
  intro a x
  obtain ⟨di, dj, hdi, hdj, he⟩ := hR (cellAt k v x)
  rw [← ht] at he
  obtain ⟨e1, e2⟩ := colrow (t := t) k.isLt (cellAt k v x 1).isLt hdi hdj he
  have hx : (x 0).val < 16 := (x 0).isLt
  have hk := k.isLt
  have hv := v.isLt
  have hc : ((cellAt k v x) 1).val = 16 * v.val + (x 0).val := rfl
  match a with
  | ⟨0, _⟩ => show (rowOf (rowW k.val) t x).toNat < 64; rw [e1]; omega
  | ⟨1, _⟩ => show (colOf t x).toNat < 384; rw [e2, hc]; omega

/-- The place a lane names: its window's element its word names. -/
theorem lane_names (h : ∀ a x, ((![rowOf (rowW k.val) t, colOf t] : Fin 2 → IVec S16 32) a x).toNat < S64x384.size a) (x : S16.Idx) :
    srcOf (idxAt (s := S64x384) ![rowOf (rowW k.val) t, colOf t] h x) = cellAt k v x
      ∧ Names R (idxAt (s := S64x384) ![rowOf (rowW k.val) t, colOf t] h x) := by
  obtain ⟨di, dj, hdi, hdj, he⟩ := hR (cellAt k v x)
  have he' := he
  rw [← ht] at he
  obtain ⟨e1, e2⟩ := colrow (t := t) k.isLt (cellAt k v x 1).isLt hdi hdj he
  have hx : (x 0).val < 16 := (x 0).isLt
  have hc : ((cellAt k v x) 1).val = 16 * v.val + (x 0).val := rfl
  have hs : srcOf (idxAt (s := S64x384) ![rowOf (rowW k.val) t, colOf t] h x) = cellAt k v x := by
    refine idx_ext2 ?_ ?_
    · show (rowOf (rowW k.val) t x).toNat / 2 = k.val; rw [e1]; omega
    · show (colOf t x).toNat / 2 = 16 * v.val + (x 0).val; rw [e2, hc]; omega
  refine ⟨hs, ?_⟩
  unfold Names
  rw [hs, he']
  show _ = 384 * ((rowOf (rowW k.val) t x).toNat % 2) + (colOf t x).toNat
  rw [e1, e2]
  omega

/-- A place its window's word names, at a vector's position, is one a lane names. -/
theorem named_lane (h : ∀ a x, ((![rowOf (rowW k.val) t, colOf t] : Fin 2 → IVec S16 32) a x).toNat < S64x384.size a) {y : S64x384.Idx}
    (hp : posO y = 12 * k.val + v.val) (hn : Names R y) :
    ∃ x, idxAt (s := S64x384) ![rowOf (rowW k.val) t, colOf t] h x = y := by
  obtain ⟨x, hx⟩ := exists_lane hp
  refine ⟨x, ?_⟩
  obtain ⟨hs, hn'⟩ := lane_names hR ht h x
  have hy := idx2_lt1 y
  have hz := idx2_lt1 (idxAt (s := S64x384) ![rowOf (rowW k.val) t, colOf t] h x)
  have es : srcOf (idxAt (s := S64x384) ![rowOf (rowW k.val) t, colOf t] h x) = srcOf y := hs.trans hx
  unfold Names at hn hn'
  rw [es, hn] at hn'
  have e0 : (idxAt (s := S64x384) ![rowOf (rowW k.val) t, colOf t] h x 0).val / 2 = (y 0).val / 2 :=
    congrArg (fun p : S32x192.Idx => (p 0).val) es
  refine idx_ext2 ?_ ?_ <;> omega

/-- One vector's indexed store fills up one position, where the filled-up contents have the stored values at the named places
    and what was there before at the window's others. -/
theorem storeIdx_mix {A B : S64x384.Idx → F .f32} {z : FVec F S16 .f32}
    (h : ∀ a x, ((![rowOf (rowW k.val) t, colOf t] : Fin 2 → IVec S16 32) a x).toNat < S64x384.size a)
    (hz : ∀ y x, Names R y → srcOf y = cellAt k v x → A y = z x) (hz' : ∀ y, ¬ Names R y → A y = B y) :
    storeIdx (F := F) (s := S64x384) (e := .f32) (mixBy posO (12 * k.val + v.val) A B) ![rowOf (rowW k.val) t, colOf t] z (fun _ => 1#1) false h
      = mixBy posO (12 * k.val + v.val + 1) A B := by
  refine storeIdx_eq (d := ![16]) (fun x => ?_) (fun y hy => ?_)
  · obtain ⟨hs, hn⟩ := lane_names hR ht h x
    have hp : posO (idxAt (s := S64x384) ![rowOf (rowW k.val) t, colOf t] h x) = 12 * k.val + v.val := by
      unfold posO; rw [hs, posI_cellAt]
    rw [mixBy_lt (by omega)]
    exact hz _ x hn hs
  · by_cases hp : posO y = 12 * k.val + v.val
    · have hn : ¬ Names R y := fun hn => by
        obtain ⟨x, hx⟩ := named_lane hR ht h hp hn
        exact hy x hx
      rw [mixBy_lt (by omega), mixBy_ge (by omega)]
      exact hz' y hn
    · exact mixBy_succ_ne hp A B

end Lane

end Cert.Proof
-- ==== Proof.StepWp.lean ====
/-
  The tile's vector statements as steps from one filling of the scratches to the next, and the loops' trips as runs of
  such steps.
-/
module

public import proofs.«01_k».proof.Proof.Held
public import proofs.«01_k».proof.Proof.Chunk

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig (HIx 1) (Elt F) ℕ UU ℕ

/-! ## Coordinates of a vector's rectangle -/

theorem ivW_toNat {k : Nat} (h : k < 4096) : (ivW k).toNat = k := by
  show (0#32 + (0#32 + BitVec.ofNat 32 k * 1#32) * 1#32 : BitVec 32).toNat = k
  simp only [BitVec.toNat_mul, BitVec.toNat_add, BitVec.toNat_ofNat]
  omega

section Coords

variable {n0 n1 : Nat} {off : Fin 2 → Nat} {hin : ∀ a, off a + S1x16.size a ≤ (⟨2, ![n0, n1]⟩ : Shape).size a}

theorem emb_coords (r v : Nat) (hoff : off = ![r, 16 * v]) (y : (Rect.unit (s := ⟨2, ![n0, n1]⟩) off S1x16.size hin).shape.Idx) :
    (((Rect.unit (s := ⟨2, ![n0, n1]⟩) off S1x16.size hin).emb y) 0).val = r
      ∧ (((Rect.unit (s := ⟨2, ![n0, n1]⟩) off S1x16.size hin).emb y) 1).val = 16 * v + (y 1).val := by
  subst hoff
  have h0 : (y 0).val < 1 := (y 0).isLt
  constructor
  · show r + 1 * (y 0).val = r; omega
  · show 16 * v + 1 * (y 1).val = _; omega

theorem mem_coords (r v : Nat) (hoff : off = ![r, 16 * v]) {y : (⟨2, ![n0, n1]⟩ : Shape).Idx} (h0 : (y 0).val = r) (h1 : (y 1).val / 16 = v) :
    y ∈ (Rect.unit (s := ⟨2, ![n0, n1]⟩) off S1x16.size hin).set := by
  subst hoff
  rw [Rect.mem_set_unit]
  intro a
  match a with
  | ⟨0, _⟩ => show r ≤ (y 0).val ∧ (y 0).val < r + 1; omega
  | ⟨1, _⟩ => show 16 * v ≤ (y 1).val ∧ (y 1).val < 16 * v + 16; omega

end Coords

theorem cast16 {α : Type} (f : S1x16.Idx → α) (x : S16.Idx) :
    shapeCast S16 f shapeCasts_S1x16_S16 x = f (Fin.cons ⟨0, Nat.one_pos⟩ x) :=
  shapeCast_dropUnit_apply (![16]) f _ x

/-- The lane of an element of a row of sixteen. -/
def laneOf (y : S1x16.Idx) : S16.Idx := fun a => y a.succ

theorem uncast16 {α : Type} (f : S16.Idx → α) (y : S1x16.Idx) :
    shapeCast S1x16 f shapeCasts_S16_S1x16 y = f (laneOf y) :=
  shapeCast_addUnit_apply (![16]) f _ y

theorem lane_emb {off : Fin 2 → Nat} {hin : ∀ a, off a + S1x16.size a ≤ S32x192.size a} (k : Fin 32) (v : Fin 12)
    (hoff : off = ![(ivW k.val).toNat, 16 * v.val]) (y : S1x16.Idx) :
    (Rect.unit (s := S32x192) off S1x16.size hin).emb y = cellAt k v (laneOf y) := by
  obtain ⟨e0, e1⟩ := emb_coords (n0 := 32) (n1 := 192) (hin := hin) _ _ hoff y
  rw [ivW_toNat (by omega)] at e0
  exact idx_ext2 e0 e1

theorem lane_read {α : Type} {off : Fin 2 → Nat} {hin : ∀ a, off a + S1x16.size a ≤ S32x192.size a} (k : Fin 32) (v : Fin 12)
    (hoff : off = ![(ivW k.val).toNat, 16 * v.val]) (R : S32x192.Idx → α) (x : S16.Idx) :
    shapeCast S16 (fun y : S1x16.Idx => R ((Rect.unit (s := S32x192) off S1x16.size hin).emb y)) shapeCasts_S1x16_S16 x = R (cellAt k v x) := by
  rw [cast16, lane_emb k v hoff]
  exact congrArg R (idx_ext2 rfl rfl)

/-! ## The steps -/

section Steps

variable (d : Dev nD) {c : Fin τ.nSC} {j : Fin τ.nSub}

theorem wp_seq {I J : sProp 𝕄} {p : TileProg F c j PUnit} {l : List (TileProg F c j PUnit)} {Q : PUnit → sProp 𝕄}
    (h1 : I ⊢ wp frame (wpE (defs₀ (F := F)) 𝒱₀ (V d c j) none) Set.univ p (fun _ => J))
    (h2 : J ⊢ wp frame (wpE (defs₀ (F := F)) 𝒱₀ (V d c j) none) Set.univ (seqL l) Q) :
    I ⊢ wp frame (wpE (defs₀ (F := F)) 𝒱₀ (V d c j) none) Set.univ (seqL (p :: l)) Q := by
  show I ⊢ wp frame (wpE (defs₀ (F := F)) 𝒱₀ (V d c j) none) Set.univ (p >>= fun _ => seqL l) Q
  rw [wp_bind]
  refine h1.trans (wp_mono _ _ _ fun _ => h2)

theorem wp_seq_nil {I : sProp 𝕄} :
    I ⊢ wp frame (wpE (defs₀ (F := F)) 𝒱₀ (V d c j) none) Set.univ (seqL ([] : List (TileProg F c j PUnit))) (fun _ => I) := by
  show I ⊢ wp frame (wpE (defs₀ (F := F)) 𝒱₀ (V d c j) none) Set.univ (.ret PUnit.unit) _
  rw [wp_ret]
  iintro H
  imodintro
  iexact H

/-- Sixteen places of each output scratch cleared. -/
theorem wp_zeroStep {a b : Memref sig .scVector .vmem S64x384 .f32} {off : Fin 2 → Nat}
    {hin : ∀ a, off a + S1x16.size a ≤ S64x384.size a} {A B : S64x384.Idx → F .f32} (k : Fin 64) (v : Fin 24)
    (hoff : off = ![(ivW k.val).toNat, 16 * v.val]) :
    iprop(held d c j a (mixBy posZ (24 * k.val + v.val) clearC A) ∗ held d c j b (mixBy posZ (24 * k.val + v.val) clearC B))
      ⊢ wp frame (wpE (defs₀ (F := F)) 𝒱₀ (V d c j) none) Set.univ (zeroStep a b off hin zero16)
        (fun _ => iprop(held d c j a (mixBy posZ (24 * k.val + v.val + 1) clearC A) ∗ held d c j b (mixBy posZ (24 * k.val + v.val + 1) clearC B))) := by
  have e : ∀ y : S1x16.Idx, posZ ((Rect.unit (s := S64x384) off S1x16.size hin).emb y) = 24 * k.val + v.val := fun y => by
    obtain ⟨e0, e1⟩ := emb_coords (n0 := 64) (n1 := 384) (hin := hin) _ _ hoff y
    have h1 : (y 1).val < 16 := (y 1).isLt
    rw [ivW_toNat (by omega)] at e0
    show 24 * _ + _ / 16 = _
    rw [e0, e1]; omega
  have hi : ∀ X : S64x384.Idx → F .f32, ∀ y : S1x16.Idx, mixBy posZ (24 * k.val + v.val + 1) clearC X ((Rect.unit (s := S64x384) off S1x16.size hin).emb y)
      = shapeCast S1x16 (zero16 (F := F)) shapeCasts_S16_S1x16 y := fun X y => by
    rw [mixBy_lt (by rw [e]; omega)]; rfl
  have ho : ∀ X : S64x384.Idx → F .f32, ∀ y, y ∉ (Rect.unit (s := S64x384) off S1x16.size hin).set →
      mixBy posZ (24 * k.val + v.val + 1) clearC X y = mixBy posZ (24 * k.val + v.val) clearC X y := fun X y hy => by
    refine mixBy_succ_ne (fun hp => hy ?_) _ _
    have h1 := idx2_lt1 y
    have hp' : 24 * (y 0).val + (y 1).val / 16 = 24 * k.val + v.val := hp
    refine mem_coords (n0 := 64) (n1 := 384) _ _ hoff ?_ ?_
    · rw [ivW_toNat (by omega)]; omega
    · omega
  have hz : zeroStep (c := c) (s := j) a b off hin (zero16 (F := F)) = (.op (.load a (Rect.unit (s := S64x384) off S1x16.size hin).toLoadRect (View.loadsAt_vmem h_S1x16)) fun _ =>
    .op (.store a (Rect.unit (s := S64x384) off S1x16.size hin) (shapeCast S1x16 (zero16 (F := F)) shapeCasts_S16_S1x16) Finset.univ (View.stores_vmem_bits_univ h_S1x16 rfl) (.inl rfl)) fun _ =>
    .op (.load b (Rect.unit (s := S64x384) off S1x16.size hin).toLoadRect (View.loadsAt_vmem h_S1x16)) fun _ =>
    .op (.store b (Rect.unit (s := S64x384) off S1x16.size hin) (shapeCast S1x16 (zero16 (F := F)) shapeCasts_S16_S1x16) Finset.univ (View.stores_vmem_bits_univ h_S1x16 rfl) (.inl rfl)) fun _ => .ret ⟨⟩) := rfl
  rw [hz]
  iintro ⟨Ha, Hb⟩
  iapply (held_load d) $$ Ha
  iintro Ha
  iapply (held_store d (X' := mixBy posZ (24 * k.val + v.val + 1) clearC A) (hi A) (ho A)) $$ Ha
  iintro Ha
  iapply (held_load d) $$ Hb
  iintro Hb
  iapply (held_store d (X' := mixBy posZ (24 * k.val + v.val + 1) clearC B) (hi B) (ho B)) $$ Hb
  iintro Hb
  rw [wp_ret]
  imodintro
  isplitl [Ha]
  · iexact Ha
  · iexact Hb

/-- The checked write of sixteen values. -/
theorem wp_putStep {o : Memref sig .scVector .vmem S64x384 .f32} {row0 : BitVec 32}
    {P : IVec S16 32 → IVec S16 32 → Prop} {dec : ∀ a b, Decidable (P a b)}
    {hP : ∀ a b, P a b → ∀ k x, ((![b, a] : Fin 2 → IVec S16 32) k x).toNat < S64x384.size k}
    {t : IVec S16 32} {z : FVec F S16 .f32} {X X' : S64x384.Idx → F .f32} {Q : PUnit → sProp 𝕄} (hw : P (colOf t) (rowOf row0 t))
    (hX : ∀ h, storeIdx (F := F) (s := S64x384) (e := .f32) X ![rowOf row0 t, colOf t] z (fun _ => 1#1) false h = X') :
    held d c j o X ⊢ iprop((held d c j o X' -∗ Q ⟨⟩) -∗ wp frame (wpE (defs₀ (F := F)) 𝒱₀ (V d c j) none) Set.univ (putStep o row0 P dec hP t z) Q) := by
  have e1 : putStep (c := c) (s := j) o row0 P dec hP t z
      = .op (.assume (P (colOf t) (rowOf row0 t)) (dec _ _)) fun hw =>
        SparseCore.vectorStoreIdx o ![rowOf row0 t, colOf t] z (fun _ => 1#1) false (hP _ _ hw.down) (View.stores_vmem_bits_univ h_S64x384 rfl) >>= .ret := rfl
  rw [e1]
  iintro H HQ
  iapply (wp_assume (defs := defs₀ (F := F)) 𝒱₀ (V d c j) none Set.univ hw)
  iapply (held_storeIdx d (hX _)) $$ H
  iintro H
  rw [wp_ret]
  imodintro
  iapply HQ
  iexact H

/-- Zeros put back at sixteen remembered places. -/
theorem wp_restStep {r : Memref sig .scVector .vmem S32x192 .i32} {o : Memref sig .scVector .vmem S64x384 .f32}
    {off : Fin 2 → Nat} {hin : ∀ a, off a + S1x16.size a ≤ S32x192.size a}
    {P : IVec S16 32 → IVec S16 32 → Prop} {dec : ∀ a b, Decidable (P a b)}
    {hP : ∀ a b, P a b → ∀ k x, ((![b, a] : Fin 2 → IVec S16 32) k x).toNat < S64x384.size k}
    {R : S32x192.Idx → BitVec 32} {x : S32x192.Idx → F .f32} (hR : Good R) (k : Fin 32) (v : Fin 12)
    (hoff : off = ![(ivW k.val).toNat, 16 * v.val])
    (hP' : ∀ a b, (∀ k x, ((![b, a] : Fin 2 → IVec S16 32) k x).toNat < S64x384.size k) → P a b) :
    iprop(held d c j r R ∗ held d c j o (mixBy posO (12 * k.val + v.val) clearC (put R x)))
      ⊢ wp frame (wpE (defs₀ (F := F)) 𝒱₀ (V d c j) none) Set.univ (restStep r o off hin (rowW k.val) P dec hP zero16)
        (fun _ => iprop(held d c j r R ∗ held d c j o (mixBy posO (12 * k.val + v.val + 1) clearC (put R x)))) := by
  have e1 : restStep (c := c) (s := j) r o off hin (rowW k.val) P dec hP (zero16 (F := F))
      = .op (.load r (Rect.unit (s := S32x192) off S1x16.size hin).toLoadRect (View.loadsAt_vmem h_S1x16)) fun w =>
        putStep o (rowW k.val) P dec hP (shapeCast S16 w shapeCasts_S1x16_S16) zero16 := rfl
  rw [e1]
  iintro ⟨Hr, Ho⟩
  iapply (held_load d) $$ Hr
  iintro Hr
  have ht := lane_read (hin := hin) k v hoff R
  iapply (wp_putStep d (X' := mixBy posO (12 * k.val + v.val + 1) clearC (put R x)) (hP' _ _ (inb_of_good hR ht))
    (fun h => storeIdx_mix hR ht h (fun y l _ _ => rfl) (fun y hn => (if_neg hn).symm))) $$ Ho
  iintro Ho
  isplitl [Hr]
  · iexact Hr
  · iexact Ho

/-- Sixteen values scattered, their places remembered. -/
theorem wp_scatStep {xv : Memref sig .scVector .vmem S32x192 .f32} {iv r : Memref sig .scVector .vmem S32x192 .i32}
    {o : Memref sig .scVector .vmem S64x384 .f32}
    {off : Fin 2 → Nat} {hin : ∀ a, off a + S1x16.size a ≤ S32x192.size a} {b : BitVec 32}
    {P : IVec S16 32 → IVec S16 32 → Prop} {dec : ∀ a b, Decidable (P a b)}
    {hP : ∀ a b, P a b → ∀ k x, ((![b, a] : Fin 2 → IVec S16 32) k x).toNat < S64x384.size k}
    {R W R₀ : S32x192.Idx → BitVec 32} {x : S32x192.Idx → F .f32} (hR : Good R) (hW : ∀ p, R p = W p - baseW b (p 0).val) (k : Fin 32) (v : Fin 12)
    (hoff : off = ![(ivW k.val).toNat, 16 * v.val])
    (hP' : ∀ a b, (∀ k x, ((![b, a] : Fin 2 → IVec S16 32) k x).toNat < S64x384.size k) → P a b) :
    iprop(held d c j xv x ∗ held d c j iv W ∗ held d c j r (mixBy posI (12 * k.val + v.val) R R₀)
        ∗ held d c j o (mixBy posO (12 * k.val + v.val) (put R x) clearC))
      ⊢ wp frame (wpE (defs₀ (F := F)) 𝒱₀ (V d c j) none) Set.univ (scatStep xv iv r o off hin (baseW b k.val) (rowW k.val) P dec hP)
        (fun _ => iprop(held d c j xv x ∗ held d c j iv W ∗ held d c j r (mixBy posI (12 * k.val + v.val + 1) R R₀)
        ∗ held d c j o (mixBy posO (12 * k.val + v.val + 1) (put R x) clearC))) := by
  have e1 : scatStep (F := F) (c := c) (s := j) xv iv r o off hin (baseW b k.val) (rowW k.val) P dec hP
      = .op (.load xv (Rect.unit (s := S32x192) off S1x16.size hin).toLoadRect (View.loadsAt_vmem h_S1x16)) fun x =>
        .op (.load iv (Rect.unit (s := S32x192) off S1x16.size hin).toLoadRect (View.loadsAt_vmem h_S1x16)) fun w =>
        .op (.load r (Rect.unit (s := S32x192) off S1x16.size hin).toLoadRect (View.loadsAt_vmem h_S1x16)) fun _ =>
        .op (.store r (Rect.unit (s := S32x192) off S1x16.size hin) (shapeCast S1x16 (subi (shapeCast S16 w shapeCasts_S1x16_S16) (broadcast S16 (baseW b k.val))) shapeCasts_S16_S1x16) Finset.univ (View.stores_vmem_bits_univ h_S1x16 rfl) (.inl rfl)) fun _ =>
        putStep o (rowW k.val) P dec hP (subi (shapeCast S16 w shapeCasts_S1x16_S16) (broadcast S16 (baseW b k.val))) (shapeCast S16 x shapeCasts_S1x16_S16) := rfl
  rw [e1]
  have ht : ∀ l : S16.Idx, subi (shapeCast S16 (fun y : S1x16.Idx => W ((Rect.unit (s := S32x192) off S1x16.size hin).emb y)) shapeCasts_S1x16_S16)
      (broadcast S16 (baseW b k.val)) l = R (cellAt k v l) := fun l => by
    show shapeCast S16 (fun y : S1x16.Idx => W ((Rect.unit (s := S32x192) off S1x16.size hin).emb y)) shapeCasts_S1x16_S16 l - baseW b k.val = _
    rw [lane_read (hin := hin) k v hoff W, hW]
  have hi : ∀ y : S1x16.Idx, mixBy posI (12 * k.val + v.val + 1) R R₀ ((Rect.unit (s := S32x192) off S1x16.size hin).emb y)
      = shapeCast S1x16 (subi (shapeCast S16 (fun y : S1x16.Idx => W ((Rect.unit (s := S32x192) off S1x16.size hin).emb y)) shapeCasts_S1x16_S16)
      (broadcast S16 (baseW b k.val))) shapeCasts_S16_S1x16 y := fun y => by
    rw [uncast16, ht, lane_emb k v hoff]
    exact mixBy_lt (by rw [posI_cellAt]; omega) _ _
  have ho : ∀ y, y ∉ (Rect.unit (s := S32x192) off S1x16.size hin).set →
      mixBy posI (12 * k.val + v.val + 1) R R₀ y = mixBy posI (12 * k.val + v.val) R R₀ y := fun y hy => by
    refine mixBy_succ_ne (fun hp => hy ?_) _ _
    have h1 := idx2_lt1 y
    have hp' : 12 * (y 0).val + (y 1).val / 16 = 12 * k.val + v.val := hp
    refine mem_coords (n0 := 32) (n1 := 192) _ _ hoff ?_ ?_
    · rw [ivW_toNat (by omega)]; omega
    · omega
  iintro ⟨Hx, Hi, Hr, Ho⟩
  iapply (held_load d) $$ Hx
  iintro Hx
  iapply (held_load d) $$ Hi
  iintro Hi
  iapply (held_load d) $$ Hr
  iintro Hr
  iapply (held_store d (X' := mixBy posI (12 * k.val + v.val + 1) R R₀) hi ho) $$ Hr
  iintro Hr
  iapply (wp_putStep d (X' := mixBy posO (12 * k.val + v.val + 1) (put R x) clearC) (hP' _ _ (inb_of_good hR ht))
    (fun h => storeIdx_mix hR ht h (fun y l hn hs => by
      refine Eq.trans ?_ (lane_read (hin := hin) k v hoff x l).symm
      rw [← hs]; exact if_pos hn) (fun y hn => if_neg hn))) $$ Ho
  iintro Ho
  isplitl [Hx]
  · iexact Hx
  isplitl [Hi]
  · iexact Hi
  isplitl [Hr]
  · iexact Hr
  · iexact Ho

end Steps

end Cert.Proof
-- ==== Proof.Loops.lean ====
/-
  The tile's inner loops: clearing both output scratches, putting zeros back where the previous chunk went, scattering
  a chunk.
-/
module

public import proofs.«01_k».proof.Proof.StepWp

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig (HIx 1) (Elt F) ℕ UU ℕ

section Loops

variable (d : Dev nD) (i : grid0.Coords)
variable (arg5 arg6 : Memref sig .scVector .vmem S32x192 .f32) (arg7 arg8 arg9 arg10 : Memref sig .scVector .vmem S32x192 .i32)
  (arg11 arg12 : Memref sig .scVector .vmem S64x384 .f32)

local notation "cV" => (Fin.castLE hcore0 (i 0))
local notation "jV" => (Fin.castLE hsub0 (i 1))

theorem trips1 : k0_t1_loop.trips = 64 := by decide
theorem trips2 : k0_t2_loop.trips = 9 := by decide
theorem trips3 : k0_t3_loop.trips = 32 := by decide
theorem trips4 : k0_t4_loop.trips = 32 := by decide
theorem trips5 : k0_t5_loop.trips = 32 := by decide
theorem trips6 : k0_t6_loop.trips = 32 := by decide

theorem wp_clr (k : Fin k0_t1_loop.trips) {A B : S64x384.Idx → F .f32} :
    iprop(held d cV jV arg11 (mixBy posZ (24 * k.val) clearC A) ∗ held d cV jV arg12 (mixBy posZ (24 * k.val) clearC B))
      ⊢ wp frame (wpE (defs₀ (F := F)) 𝒱₀ (V d cV jV) none) Set.univ (seqL (clr i arg11 arg12 k))
        (fun _ => iprop(held d cV jV arg11 (mixBy posZ (24 * (k.val + 1)) clearC A) ∗ held d cV jV arg12 (mixBy posZ (24 * (k.val + 1)) clearC B))) := by
  unfold clr
  obtain ⟨k, hk⟩ := k
  have hk' : k < 64 := trips1 ▸ hk
  refine wp_seq d (wp_zeroStep d ⟨k, hk'⟩ 0 rfl) ?_
  refine wp_seq d (wp_zeroStep d ⟨k, hk'⟩ 1 rfl) ?_
  refine wp_seq d (wp_zeroStep d ⟨k, hk'⟩ 2 rfl) ?_
  refine wp_seq d (wp_zeroStep d ⟨k, hk'⟩ 3 rfl) ?_
  refine wp_seq d (wp_zeroStep d ⟨k, hk'⟩ 4 rfl) ?_
  refine wp_seq d (wp_zeroStep d ⟨k, hk'⟩ 5 rfl) ?_
  refine wp_seq d (wp_zeroStep d ⟨k, hk'⟩ 6 rfl) ?_
  refine wp_seq d (wp_zeroStep d ⟨k, hk'⟩ 7 rfl) ?_
  refine wp_seq d (wp_zeroStep d ⟨k, hk'⟩ 8 rfl) ?_
  refine wp_seq d (wp_zeroStep d ⟨k, hk'⟩ 9 rfl) ?_
  refine wp_seq d (wp_zeroStep d ⟨k, hk'⟩ 10 rfl) ?_
  refine wp_seq d (wp_zeroStep d ⟨k, hk'⟩ 11 rfl) ?_
  refine wp_seq d (wp_zeroStep d ⟨k, hk'⟩ 12 rfl) ?_
  refine wp_seq d (wp_zeroStep d ⟨k, hk'⟩ 13 rfl) ?_
  refine wp_seq d (wp_zeroStep d ⟨k, hk'⟩ 14 rfl) ?_
  refine wp_seq d (wp_zeroStep d ⟨k, hk'⟩ 15 rfl) ?_
  refine wp_seq d (wp_zeroStep d ⟨k, hk'⟩ 16 rfl) ?_
  refine wp_seq d (wp_zeroStep d ⟨k, hk'⟩ 17 rfl) ?_
  refine wp_seq d (wp_zeroStep d ⟨k, hk'⟩ 18 rfl) ?_
  refine wp_seq d (wp_zeroStep d ⟨k, hk'⟩ 19 rfl) ?_
  refine wp_seq d (wp_zeroStep d ⟨k, hk'⟩ 20 rfl) ?_
  refine wp_seq d (wp_zeroStep d ⟨k, hk'⟩ 21 rfl) ?_
  refine wp_seq d (wp_zeroStep d ⟨k, hk'⟩ 22 rfl) ?_
  refine wp_seq d (wp_zeroStep d ⟨k, hk'⟩ 23 rfl) ?_
  exact wp_seq_nil d

/-- The clearing loop leaves both scratches clear. -/
theorem wp_t1 {A B : S64x384.Idx → F .f32} {Q : PUnit → sProp 𝕄} :
    iprop((held d cV jV arg11 A ∗ held d cV jV arg12 B) ∗ (∀ acc, (held d cV jV arg11 clearC ∗ held d cV jV arg12 clearC) -∗ Q acc))
      ⊢ wp frame (wpE (defs₀ (F := F)) 𝒱₀ (V d cV jV) none) Set.univ
        (Scf.Loop.for k0_t1_loop k0_t1_ok PUnit.unit (fun t _ => seqL (clr i arg11 arg12 t))) Q := by
  have h := Scf.wp_for frame (wpE (defs₀ (F := F)) 𝒱₀ (V d cV jV) none) Set.univ k0_t1_loop.lb k0_t1_loop.ub k0_t1_loop.st k0_t1_ok PUnit.unit
    (fun t _ => seqL (clr i arg11 arg12 t))
    (fun n _ => iprop(held d cV jV arg11 (mixBy posZ (24 * n) clearC A) ∗ held d cV jV arg12 (mixBy posZ (24 * n) clearC B)))
    (fun k _ => wp_clr d i arg11 arg12 k) (Q := Q)
  have ht : Scf.trips k0_t1_loop.lb k0_t1_loop.ub k0_t1_loop.st = 64 := trips1
  simp only [Nat.mul_zero, mixBy_zero] at h
  rw [mixBy_all (fun y => by have := posZ_lt y; rw [ht]; omega), mixBy_all (fun y => by have := posZ_lt y; rw [ht]; omega)] at h
  exact h

theorem wp_rest0 (k0_t2 : Fin k0_t2_loop.trips) (k0_h : k0_cond1 k0_t2 = 1#1) (k : Fin k0_t3_loop.trips) {R : S32x192.Idx → BitVec 32} {x : S32x192.Idx → F .f32}
    (hR : Good R) :
    iprop(held d cV jV arg9 R ∗ held d cV jV arg11 (mixBy posO (12 * k.val) clearC (put R x)))
      ⊢ wp frame (wpE (defs₀ (F := F)) 𝒱₀ (V d cV jV) none) Set.univ (seqL (rest0 i arg9 arg11 k0_t2 k0_h k zero16))
        (fun _ => iprop(held d cV jV arg9 R ∗ held d cV jV arg11 (mixBy posO (12 * (k.val + 1)) clearC (put R x)))) := by
  unfold rest0
  obtain ⟨k, hk⟩ := k
  have hk' : k < 32 := trips3 ▸ hk
  refine wp_seq d (wp_restStep d hR ⟨k, hk'⟩ 0 rfl (fun _ _ h _ => h)) ?_
  refine wp_seq d (wp_restStep d hR ⟨k, hk'⟩ 1 rfl (fun _ _ h _ => h)) ?_
  refine wp_seq d (wp_restStep d hR ⟨k, hk'⟩ 2 rfl (fun _ _ h _ => h)) ?_
  refine wp_seq d (wp_restStep d hR ⟨k, hk'⟩ 3 rfl (fun _ _ h _ => h)) ?_
  refine wp_seq d (wp_restStep d hR ⟨k, hk'⟩ 4 rfl (fun _ _ h _ => h)) ?_
  refine wp_seq d (wp_restStep d hR ⟨k, hk'⟩ 5 rfl (fun _ _ h _ => h)) ?_
  refine wp_seq d (wp_restStep d hR ⟨k, hk'⟩ 6 rfl (fun _ _ h _ => h)) ?_
  refine wp_seq d (wp_restStep d hR ⟨k, hk'⟩ 7 rfl (fun _ _ h _ => h)) ?_
  refine wp_seq d (wp_restStep d hR ⟨k, hk'⟩ 8 rfl (fun _ _ h _ => h)) ?_
  refine wp_seq d (wp_restStep d hR ⟨k, hk'⟩ 9 rfl (fun _ _ h _ => h)) ?_
  refine wp_seq d (wp_restStep d hR ⟨k, hk'⟩ 10 rfl (fun _ _ h _ => h)) ?_
  refine wp_seq d (wp_restStep d hR ⟨k, hk'⟩ 11 rfl (fun _ _ h _ => h)) ?_
  exact wp_seq_nil d

/-- The restoring loop clears what a scattered chunk holds. -/
theorem wp_t3 (k0_t2 : Fin k0_t2_loop.trips) (k0_h : k0_cond1 k0_t2 = 1#1) {R : S32x192.Idx → BitVec 32} {x : S32x192.Idx → F .f32}
    (hR : Good R) {Q : PUnit → sProp 𝕄} :
    iprop((held d cV jV arg9 R ∗ held d cV jV arg11 (put R x)) ∗ (∀ acc, (held d cV jV arg9 R ∗ held d cV jV arg11 clearC) -∗ Q acc))
      ⊢ wp frame (wpE (defs₀ (F := F)) 𝒱₀ (V d cV jV) none) Set.univ
        (Scf.Loop.for k0_t3_loop (k0_t3_ok k0_t2 k0_h) PUnit.unit (fun t _ => seqL (rest0 i arg9 arg11 k0_t2 k0_h t zero16))) Q := by
  have h := Scf.wp_for frame (wpE (defs₀ (F := F)) 𝒱₀ (V d cV jV) none) Set.univ k0_t3_loop.lb k0_t3_loop.ub k0_t3_loop.st (k0_t3_ok k0_t2 k0_h) PUnit.unit
    (fun t _ => seqL (rest0 i arg9 arg11 k0_t2 k0_h t zero16))
    (fun n _ => iprop(held d cV jV arg9 R ∗ held d cV jV arg11 (mixBy posO (12 * n) clearC (put R x))))
    (fun k _ => wp_rest0 d i arg9 arg11 k0_t2 k0_h k hR) (Q := Q)
  have ht : Scf.trips k0_t3_loop.lb k0_t3_loop.ub k0_t3_loop.st = 32 := trips3
  simp only [Nat.mul_zero, mixBy_zero] at h
  rw [mixBy_all (fun y => by have := posO_lt y; rw [ht]; omega)] at h
  exact h

theorem wp_rest1 (k0_t2 : Fin k0_t2_loop.trips) (k0_h : k0_cond2 k0_t2 = 1#1) (k : Fin k0_t5_loop.trips) {R : S32x192.Idx → BitVec 32} {x : S32x192.Idx → F .f32}
    (hR : Good R) :
    iprop(held d cV jV arg10 R ∗ held d cV jV arg12 (mixBy posO (12 * k.val) clearC (put R x)))
      ⊢ wp frame (wpE (defs₀ (F := F)) 𝒱₀ (V d cV jV) none) Set.univ (seqL (rest1 i arg10 arg12 k0_t2 k0_h k zero16))
        (fun _ => iprop(held d cV jV arg10 R ∗ held d cV jV arg12 (mixBy posO (12 * (k.val + 1)) clearC (put R x)))) := by
  unfold rest1
  obtain ⟨k, hk⟩ := k
  have hk' : k < 32 := trips5 ▸ hk
  refine wp_seq d (wp_restStep d hR ⟨k, hk'⟩ 0 rfl (fun _ _ h _ => h)) ?_
  refine wp_seq d (wp_restStep d hR ⟨k, hk'⟩ 1 rfl (fun _ _ h _ => h)) ?_
  refine wp_seq d (wp_restStep d hR ⟨k, hk'⟩ 2 rfl (fun _ _ h _ => h)) ?_
  refine wp_seq d (wp_restStep d hR ⟨k, hk'⟩ 3 rfl (fun _ _ h _ => h)) ?_
  refine wp_seq d (wp_restStep d hR ⟨k, hk'⟩ 4 rfl (fun _ _ h _ => h)) ?_
  refine wp_seq d (wp_restStep d hR ⟨k, hk'⟩ 5 rfl (fun _ _ h _ => h)) ?_
  refine wp_seq d (wp_restStep d hR ⟨k, hk'⟩ 6 rfl (fun _ _ h _ => h)) ?_
  refine wp_seq d (wp_restStep d hR ⟨k, hk'⟩ 7 rfl (fun _ _ h _ => h)) ?_
  refine wp_seq d (wp_restStep d hR ⟨k, hk'⟩ 8 rfl (fun _ _ h _ => h)) ?_
  refine wp_seq d (wp_restStep d hR ⟨k, hk'⟩ 9 rfl (fun _ _ h _ => h)) ?_
  refine wp_seq d (wp_restStep d hR ⟨k, hk'⟩ 10 rfl (fun _ _ h _ => h)) ?_
  refine wp_seq d (wp_restStep d hR ⟨k, hk'⟩ 11 rfl (fun _ _ h _ => h)) ?_
  exact wp_seq_nil d

/-- The restoring loop clears what a scattered chunk holds. -/
theorem wp_t5 (k0_t2 : Fin k0_t2_loop.trips) (k0_h : k0_cond2 k0_t2 = 1#1) {R : S32x192.Idx → BitVec 32} {x : S32x192.Idx → F .f32}
    (hR : Good R) {Q : PUnit → sProp 𝕄} :
    iprop((held d cV jV arg10 R ∗ held d cV jV arg12 (put R x)) ∗ (∀ acc, (held d cV jV arg10 R ∗ held d cV jV arg12 clearC) -∗ Q acc))
      ⊢ wp frame (wpE (defs₀ (F := F)) 𝒱₀ (V d cV jV) none) Set.univ
        (Scf.Loop.for k0_t5_loop (k0_t5_ok k0_t2 k0_h) PUnit.unit (fun t _ => seqL (rest1 i arg10 arg12 k0_t2 k0_h t zero16))) Q := by
  have h := Scf.wp_for frame (wpE (defs₀ (F := F)) 𝒱₀ (V d cV jV) none) Set.univ k0_t5_loop.lb k0_t5_loop.ub k0_t5_loop.st (k0_t5_ok k0_t2 k0_h) PUnit.unit
    (fun t _ => seqL (rest1 i arg10 arg12 k0_t2 k0_h t zero16))
    (fun n _ => iprop(held d cV jV arg10 R ∗ held d cV jV arg12 (mixBy posO (12 * n) clearC (put R x))))
    (fun k _ => wp_rest1 d i arg10 arg12 k0_t2 k0_h k hR) (Q := Q)
  have ht : Scf.trips k0_t5_loop.lb k0_t5_loop.ub k0_t5_loop.st = 32 := trips5
  simp only [Nat.mul_zero, mixBy_zero] at h
  rw [mixBy_all (fun y => by have := posO_lt y; rw [ht]; omega)] at h
  exact h

theorem wp_scat0 (b : BitVec 32) (k : Fin k0_t4_loop.trips) {R W R₀ : S32x192.Idx → BitVec 32} {x : S32x192.Idx → F .f32}
    (hR : Good R) (hW : ∀ p, R p = W p - baseW b (p 0).val) :
    iprop(held d cV jV arg5 x ∗ held d cV jV arg7 W ∗ held d cV jV arg9 (mixBy posI (12 * k.val) R R₀)
        ∗ held d cV jV arg11 (mixBy posO (12 * k.val) (put R x) clearC))
      ⊢ wp frame (wpE (defs₀ (F := F)) 𝒱₀ (V d cV jV) none) Set.univ (seqL (scat0 i arg5 arg7 arg9 arg11 b k))
        (fun _ => iprop(held d cV jV arg5 x ∗ held d cV jV arg7 W ∗ held d cV jV arg9 (mixBy posI (12 * (k.val + 1)) R R₀)
        ∗ held d cV jV arg11 (mixBy posO (12 * (k.val + 1)) (put R x) clearC))) := by
  unfold scat0
  obtain ⟨k, hk⟩ := k
  have hk' : k < 32 := trips4 ▸ hk
  refine wp_seq d (wp_scatStep d hR hW ⟨k, hk'⟩ 0 rfl (fun _ _ h => h)) ?_
  refine wp_seq d (wp_scatStep d hR hW ⟨k, hk'⟩ 1 rfl (fun _ _ h => h)) ?_
  refine wp_seq d (wp_scatStep d hR hW ⟨k, hk'⟩ 2 rfl (fun _ _ h => h)) ?_
  refine wp_seq d (wp_scatStep d hR hW ⟨k, hk'⟩ 3 rfl (fun _ _ h => h)) ?_
  refine wp_seq d (wp_scatStep d hR hW ⟨k, hk'⟩ 4 rfl (fun _ _ h => h)) ?_
  refine wp_seq d (wp_scatStep d hR hW ⟨k, hk'⟩ 5 rfl (fun _ _ h => h)) ?_
  refine wp_seq d (wp_scatStep d hR hW ⟨k, hk'⟩ 6 rfl (fun _ _ h => h)) ?_
  refine wp_seq d (wp_scatStep d hR hW ⟨k, hk'⟩ 7 rfl (fun _ _ h => h)) ?_
  refine wp_seq d (wp_scatStep d hR hW ⟨k, hk'⟩ 8 rfl (fun _ _ h => h)) ?_
  refine wp_seq d (wp_scatStep d hR hW ⟨k, hk'⟩ 9 rfl (fun _ _ h => h)) ?_
  refine wp_seq d (wp_scatStep d hR hW ⟨k, hk'⟩ 10 rfl (fun _ _ h => h)) ?_
  refine wp_seq d (wp_scatStep d hR hW ⟨k, hk'⟩ 11 rfl (fun _ _ h => h)) ?_
  exact wp_seq_nil d

/-- The scattering loop turns a clear scratch into the scattered chunk, the words remembered. -/
theorem wp_t4 (b : BitVec 32) {R W R₀ : S32x192.Idx → BitVec 32} {x : S32x192.Idx → F .f32}
    (hR : Good R) (hW : ∀ p, R p = W p - baseW b (p 0).val) {Q : PUnit → sProp 𝕄} :
    iprop((held d cV jV arg5 x ∗ held d cV jV arg7 W ∗ held d cV jV arg9 R₀ ∗ held d cV jV arg11 clearC)
        ∗ (∀ acc, (held d cV jV arg5 x ∗ held d cV jV arg7 W ∗ held d cV jV arg9 R ∗ held d cV jV arg11 (put R x)) -∗ Q acc))
      ⊢ wp frame (wpE (defs₀ (F := F)) 𝒱₀ (V d cV jV) none) Set.univ
        (Scf.Loop.for k0_t4_loop k0_t4_ok PUnit.unit (fun t _ => seqL (scat0 i arg5 arg7 arg9 arg11 b t))) Q := by
  have h := Scf.wp_for frame (wpE (defs₀ (F := F)) 𝒱₀ (V d cV jV) none) Set.univ k0_t4_loop.lb k0_t4_loop.ub k0_t4_loop.st k0_t4_ok PUnit.unit
    (fun t _ => seqL (scat0 i arg5 arg7 arg9 arg11 b t))
    (fun n _ => iprop(held d cV jV arg5 x ∗ held d cV jV arg7 W ∗ held d cV jV arg9 (mixBy posI (12 * n) R R₀)
        ∗ held d cV jV arg11 (mixBy posO (12 * n) (put R x) clearC)))
    (fun k _ => wp_scat0 d i arg5 arg7 arg9 arg11 b k hR hW) (Q := Q)
  have ht : Scf.trips k0_t4_loop.lb k0_t4_loop.ub k0_t4_loop.st = 32 := trips4
  simp only [Nat.mul_zero, mixBy_zero] at h
  rw [mixBy_all (fun y => by have := posI_lt y; rw [ht]; omega), mixBy_all (fun y => by have := posO_lt y; rw [ht]; omega)] at h
  exact h

theorem wp_scat1 (b : BitVec 32) (k : Fin k0_t6_loop.trips) {R W R₀ : S32x192.Idx → BitVec 32} {x : S32x192.Idx → F .f32}
    (hR : Good R) (hW : ∀ p, R p = W p - baseW b (p 0).val) :
    iprop(held d cV jV arg6 x ∗ held d cV jV arg8 W ∗ held d cV jV arg10 (mixBy posI (12 * k.val) R R₀)
        ∗ held d cV jV arg12 (mixBy posO (12 * k.val) (put R x) clearC))
      ⊢ wp frame (wpE (defs₀ (F := F)) 𝒱₀ (V d cV jV) none) Set.univ (seqL (scat1 i arg6 arg8 arg10 arg12 b k))
        (fun _ => iprop(held d cV jV arg6 x ∗ held d cV jV arg8 W ∗ held d cV jV arg10 (mixBy posI (12 * (k.val + 1)) R R₀)
        ∗ held d cV jV arg12 (mixBy posO (12 * (k.val + 1)) (put R x) clearC))) := by
  unfold scat1
  obtain ⟨k, hk⟩ := k
  have hk' : k < 32 := trips6 ▸ hk
  refine wp_seq d (wp_scatStep d hR hW ⟨k, hk'⟩ 0 rfl (fun _ _ h => h)) ?_
  refine wp_seq d (wp_scatStep d hR hW ⟨k, hk'⟩ 1 rfl (fun _ _ h => h)) ?_
  refine wp_seq d (wp_scatStep d hR hW ⟨k, hk'⟩ 2 rfl (fun _ _ h => h)) ?_
  refine wp_seq d (wp_scatStep d hR hW ⟨k, hk'⟩ 3 rfl (fun _ _ h => h)) ?_
  refine wp_seq d (wp_scatStep d hR hW ⟨k, hk'⟩ 4 rfl (fun _ _ h => h)) ?_
  refine wp_seq d (wp_scatStep d hR hW ⟨k, hk'⟩ 5 rfl (fun _ _ h => h)) ?_
  refine wp_seq d (wp_scatStep d hR hW ⟨k, hk'⟩ 6 rfl (fun _ _ h => h)) ?_
  refine wp_seq d (wp_scatStep d hR hW ⟨k, hk'⟩ 7 rfl (fun _ _ h => h)) ?_
  refine wp_seq d (wp_scatStep d hR hW ⟨k, hk'⟩ 8 rfl (fun _ _ h => h)) ?_
  refine wp_seq d (wp_scatStep d hR hW ⟨k, hk'⟩ 9 rfl (fun _ _ h => h)) ?_
  refine wp_seq d (wp_scatStep d hR hW ⟨k, hk'⟩ 10 rfl (fun _ _ h => h)) ?_
  refine wp_seq d (wp_scatStep d hR hW ⟨k, hk'⟩ 11 rfl (fun _ _ h => h)) ?_
  exact wp_seq_nil d

/-- The scattering loop turns a clear scratch into the scattered chunk, the words remembered. -/
theorem wp_t6 (b : BitVec 32) {R W R₀ : S32x192.Idx → BitVec 32} {x : S32x192.Idx → F .f32}
    (hR : Good R) (hW : ∀ p, R p = W p - baseW b (p 0).val) {Q : PUnit → sProp 𝕄} :
    iprop((held d cV jV arg6 x ∗ held d cV jV arg8 W ∗ held d cV jV arg10 R₀ ∗ held d cV jV arg12 clearC)
        ∗ (∀ acc, (held d cV jV arg6 x ∗ held d cV jV arg8 W ∗ held d cV jV arg10 R ∗ held d cV jV arg12 (put R x)) -∗ Q acc))
      ⊢ wp frame (wpE (defs₀ (F := F)) 𝒱₀ (V d cV jV) none) Set.univ
        (Scf.Loop.for k0_t6_loop k0_t6_ok PUnit.unit (fun t _ => seqL (scat1 i arg6 arg8 arg10 arg12 b t))) Q := by
  have h := Scf.wp_for frame (wpE (defs₀ (F := F)) 𝒱₀ (V d cV jV) none) Set.univ k0_t6_loop.lb k0_t6_loop.ub k0_t6_loop.st k0_t6_ok PUnit.unit
    (fun t _ => seqL (scat1 i arg6 arg8 arg10 arg12 b t))
    (fun n _ => iprop(held d cV jV arg6 x ∗ held d cV jV arg8 W ∗ held d cV jV arg10 (mixBy posI (12 * n) R R₀)
        ∗ held d cV jV arg12 (mixBy posO (12 * n) (put R x) clearC)))
    (fun k _ => wp_scat1 d i arg6 arg8 arg10 arg12 b k hR hW) (Q := Q)
  have ht : Scf.trips k0_t6_loop.lb k0_t6_loop.ub k0_t6_loop.st = 32 := trips6
  simp only [Nat.mul_zero, mixBy_zero] at h
  rw [mixBy_all (fun y => by have := posI_lt y; rw [ht]; omega), mixBy_all (fun y => by have := posO_lt y; rw [ht]; omega)] at h
  exact h

end Loops

end Cert.Proof
-- ==== Proof.Transfer.lean ====
/-
  The copies between the arrays and a tile's scratches: what is in flight, and the rules for starting and awaiting them
  in terms of what the scratches hold.
-/
module

public import proofs.«01_k».proof.Proof.Loops

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig (HIx 1) (Elt F) ℕ UU ℕ

/-! ## The arrays and their chunks -/

abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

abbrev xV : Memref sig .scVector .hbm S4x96x192x192 .f32 := Memref.whole main_arg0_scv
abbrev iV : Memref sig .scVector .hbm S4x96x192x192 .i32 := Memref.whole main_arg1_scv
abbrev oV : Memref sig .scVector .hbm S96x384x384 .f32 := Memref.whole main_v0_scv

/-- Where tile `w`'s chunk `t` of the last batch starts: 18 chunks of 32 rows, 6 a plane, 3 planes a tile. -/
def xo (w : Fin 32) (t : Nat) : Fin 4 → Nat := ![3, 3 * w.val + t / 6 % 3, 32 * (t % 6), 0]
/-- Where its result goes. -/
def oo (w : Fin 32) (t : Nat) : Fin 3 → Nat := ![3 * w.val + t / 6 % 3, 64 * (t % 6), 0]

theorem xo_inb (w : Fin 32) (t : Nat) : ∀ a, xo w t a + S1x1x32x192.size a ≤ S4x96x192x192.size a := by
  intro a
  have hw := w.isLt
  match a with
  | ⟨0, _⟩ => show 3 + 1 ≤ 4; omega
  | ⟨1, _⟩ => show 3 * w.val + t / 6 % 3 + 1 ≤ 96; omega
  | ⟨2, _⟩ => show 32 * (t % 6) + 32 ≤ 192; omega
  | ⟨3, _⟩ => show 0 + 192 ≤ 192; omega

theorem oo_inb (w : Fin 32) (t : Nat) : ∀ a, oo w t a + S1x64x384.size a ≤ S96x384x384.size a := by
  intro a
  have hw := w.isLt
  match a with
  | ⟨0, _⟩ => show 3 * w.val + t / 6 % 3 + 1 ≤ 96; omega
  | ⟨1, _⟩ => show 64 * (t % 6) + 64 ≤ 384; omega
  | ⟨2, _⟩ => show 0 + 384 ≤ 384; omega

abbrev xCh (w : Fin 32) (t : Nat) : Memref sig .scVector .hbm S32x192 .f32 := xSl xV (xo w t) (xo_inb w t)
abbrev iCh (w : Fin 32) (t : Nat) : Memref sig .scVector .hbm S32x192 .i32 := iSl iV (xo w t) (xo_inb w t)
abbrev oCh (w : Fin 32) (t : Nat) : Memref sig .scVector .hbm S64x384 .f32 := oSl oV (oo w t) (oo_inb w t)

abbrev oSet (w : Fin 32) (t : Nat) : Finset S96x384x384.Idx := (oCh w t).view.set

section Transfers

variable (d : Dev nD) (i : grid0.Coords) (w : Fin 32)

local notation "cV" => (Fin.castLE hcore0 (i 0))
local notation "jV" => (Fin.castLE hsub0 (i 1))

/-- What the waits may have recorded by now: what they had at the start, and waits at no handshake's index. -/
def owed (O : CellTallies nD τ sig (HIx 1)) (W : Waits sig (HIx 1)) : sProp 𝕄 :=
  iprop(∃ W', ⌜∀ p ∈ W', p ∈ W ∨ p.2 = none⌝ ∗ owes (V d cV jV) O W')

theorem owed_insert {O : CellTallies nD τ sig (HIx 1)} {W W' : Waits sig (HIx 1)} (hW : ∀ p ∈ W', p ∈ W ∨ p.2 = none) (sm : SemLoc sig) :
    (owes (V d cV jV) O (insert (sm, (default : HIx 1)) W') : sProp 𝕄) ⊢ owed d i O W := by
  unfold owed
  iintro H
  iexists _; isplitr
  swap; · iexact H
  ipureintro; intro p hp
  rcases Finset.mem_insert.mp hp with hp | hp
  · exact .inr (hp ▸ rfl)
  · exact hW p hp

/-- What a fetch delivers: a chunk of the values in its scratch, or a chunk of the indices in its. -/
def landed (xv : Memref sig .scVector .vmem S32x192 .f32) (iv : Memref sig .scVector .vmem S32x192 .i32) (q : PosShare TreeShare)
    (fx : Buf (Elt F) (xLoc d)) (fi : Buf (Elt F) (iLoc d)) (t : Nat) : Fin 2 → sProp 𝕄
  | 0 => iprop(held d cV jV xv ((xCh w t).view.read (Elt F) fx) ∗ (xLoc d ↦[(xCh w t).view.set]{q} fx))
  | 1 => iprop(held d cV jV iv ((iCh w t).view.read (Elt F) fi) ∗ (iLoc d ↦[(iCh w t).view.set]{q} fi))

instance landed_storable (xv : Memref sig .scVector .vmem S32x192 .f32) (iv : Memref sig .scVector .vmem S32x192 .i32) (q : PosShare TreeShare)
    (fx : Buf (Elt F) (xLoc d)) (fi : Buf (Elt F) (iLoc d)) (t : Nat) (b : Fin 2) :
    BI.Storable (upEmb : UEmb _ 𝕄) (landed d i w xv iv q fx fi t b) := by
  match b with
  | 0 => unfold landed held; infer_instance
  | 1 => unfold landed held; infer_instance

/-- A chunk's two copies in flight on a semaphore, and what of the two arrays' share they leave. -/
def fetching (xv : Memref sig .scVector .vmem S32x192 .f32) (iv : Memref sig .scVector .vmem S32x192 .i32) (sm : DmaSems sig S_) (q : PosShare TreeShare)
    (fx : Buf (Elt F) (xLoc d)) (fi : Buf (Elt F) (iLoc d)) (t : Nat) : sProp 𝕄 :=
  iprop(Transfers.Batch countersEmb (V d cV jV) (.dma sm.sem) (default : HIx 1) xv.view.dmaCredit (landed d i w xv iv q fx fi t) 2 0
    ∗ (xLoc d ↦[Finset.univ \ (xCh w t).view.set]{q} fx) ∗ (iLoc d ↦[Finset.univ \ (iCh w t).view.set]{q} fi))

variable {w}

/-- Starting a chunk's copies. -/
theorem wp_fetchIn {off : Fin 4 → Nat} {hin : ∀ a, off a + S1x1x32x192.size a ≤ S4x96x192x192.size a} {t : Nat} (ho : off = xo w t)
    {xv : Memref sig .scVector .vmem S32x192 .f32} (hxv : xv.IsWhole) {iv : Memref sig .scVector .vmem S32x192 .i32} (hiv : iv.IsWhole)
    (hN : iv.view.dmaCredit = xv.view.dmaCredit) (sm : DmaSems sig S_) {q : PosShare TreeShare}
    {fx : Buf (Elt F) (xLoc d)} {fi : Buf (Elt F) (iLoc d)} {X₀ : S32x192.Idx → F .f32} {I₀ : S32x192.Idx → BitVec 32} {Q : PUnit → sProp 𝕄} :
    iprop((xLoc d ↦{q} fx) ∗ (iLoc d ↦{q} fi) ∗ held d cV jV xv X₀ ∗ held d cV jV iv I₀ ∗ semVal (V d cV jV, SemLoc.dma sm.sem) 0)
      ⊢ iprop((fetching d i w xv iv sm q fx fi t -∗ Q ⟨⟩)
        -∗ wp frame (wpE (defs₀ (F := F)) 𝒱₀ (V d cV jV) none) Set.univ (fetchIn i xV iV off hin xv hxv iv hiv sm) Q) := by
  subst ho
  have hz : fetchIn (F := F) i xV iV (xo w t) hin xv hxv iv hiv sm
      = .op (.enqueueDmaAs (xCh w t) (.here xv) .same (.dma sm.sem) ((View.wordExact_bits rfl).reshape _ _) hxv.wordExact ⟨Or.inl rfl, trivial⟩) fun _ =>
        .op (.enqueueDmaAs (iCh w t) (.here iv) .same (.dma sm.sem) ((View.wordExact_bits rfl).reshape _ _) hiv.wordExact ⟨Or.inl rfl, trivial⟩) fun _ => .ret ⟨⟩ := rfl
  rw [hz]
  unfold fetching held
  iintro ⟨Hx, Hi, ⟨%f0, Hxv, %h0⟩, ⟨%f1, Hiv, %h1⟩, Hsm⟩ Hk
  ihave Hx' := (pointsTo_split_subset (q := q) (f := fx) (S := Finset.univ) (Finset.subset_univ (xCh w t).view.set)).1 $$ Hx
  ihave Hi' := (pointsTo_split_subset (q := q) (f := fi) (S := Finset.univ) (Finset.subset_univ (iCh w t).view.set)).1 $$ Hi
  icases Hx' with ⟨Hx, Hxr⟩
  icases Hi' with ⟨Hi, Hir⟩
  imod (Transfers.batch_alloc' countersEmb (V d cV jV) (default : HIx 1) xv.view.dmaCredit (landed d i w xv iv q fx fi t)) $$ Hsm with HB
  iapply (Transfers.wp_dmaBatch countersEmb 𝒱₀ (V d cV jV) none (src := xCh w t) (dst := xv) (sm := .dma sm.sem) (q := q) (fs := fx) (fd := f0) (D := landed d i w xv iv q fx fi t)
    (default : HIx 1) xv.view.dmaCredit rfl (Finset.Subset.refl _) (j := 0) (by decide) (Nat.zero_le _) (by
      show _ ⊢ iprop(held d cV jV xv ((xCh w t).view.read (Elt F) fx) ∗ (xLoc d ↦[(xCh w t).view.set]{q} fx))
      unfold held
      iintro ⟨Ha, Hb⟩
      isplitl [Ha]
      · iexists _; isplitl [Ha]
        · iexact Ha
        · ipureintro; exact View.read_write_univ _ _
      · iexact Hb)) $$ [Hx Hxv HB]
  · isplitl [Hx]; · iexact Hx
    isplitl [Hxv]; · iexact Hxv
    iexact HB
  iintro HB
  iapply (Transfers.wp_dmaBatch countersEmb 𝒱₀ (V d cV jV) none (src := iCh w t) (dst := iv) (sm := .dma sm.sem) (q := q) (fs := fi) (fd := f1) (D := landed d i w xv iv q fx fi t)
    (default : HIx 1) xv.view.dmaCredit hN (Finset.Subset.refl _) (j := 1) (by decide) (Nat.zero_le _) (by
      show _ ⊢ iprop(held d cV jV iv ((iCh w t).view.read (Elt F) fi) ∗ (iLoc d ↦[(iCh w t).view.set]{q} fi))
      unfold held
      iintro ⟨Ha, Hb⟩
      isplitl [Ha]
      · iexists _; isplitl [Ha]
        · iexact Ha
        · ipureintro; exact View.read_write_univ _ _
      · iexact Hb)) $$ [Hi Hiv HB]
  · isplitl [Hi]; · iexact Hi
    isplitl [Hiv]; · iexact Hiv
    iexact HB
  iintro HB
  rw [wp_ret]
  imodintro
  iapply Hk
  isplitl [HB]; · iexact HB
  isplitl [Hxr]; · iexact Hxr
  iexact Hir

/-- Awaiting a chunk's copies. -/
theorem wp_awaitIn {xv : Memref sig .scVector .vmem S32x192 .f32} (hxv : xv.IsWhole) {iv : Memref sig .scVector .vmem S32x192 .i32} (hiv : iv.IsWhole)
    (hN : iv.view.dmaCredit = xv.view.dmaCredit) (sm : DmaSems sig S_) {q : PosShare TreeShare} {t : Nat}
    {fx : Buf (Elt F) (xLoc d)} {fi : Buf (Elt F) (iLoc d)} {O : CellTallies nD τ sig (HIx 1)} {W : Waits sig (HIx 1)} {Q : PUnit → sProp 𝕄} :
    iprop(Transfers.MayWaits (V d cV jV) (default : HIx 1) O ∗ fetching d i w xv iv sm q fx fi t ∗ owed d i O W)
      ⊢ iprop((((xLoc d ↦{q} fx) ∗ (iLoc d ↦{q} fi) ∗ held d cV jV xv ((xCh w t).view.read (Elt F) fx) ∗ held d cV jV iv ((iCh w t).view.read (Elt F) fi)
            ∗ semVal (V d cV jV, SemLoc.dma sm.sem) 0 ∗ owed d i O W) -∗ Q ⟨⟩)
        -∗ wp frame (wpE (defs₀ (F := F)) 𝒱₀ (V d cV jV) none) Set.univ (awaitIn i xV iV xv hxv iv hiv sm) Q) := by
  have hz : awaitIn (F := F) i xV iV xv hxv iv hiv sm
      = .op (.waitDma2 sm.sem (xSl xV ![0, 0, 0, 0] inb_S4x96x192x192_S1x1x32x192_0_0_0_0) xv ((View.wordExact_bits rfl).reshape _ _) hxv.wordExact) fun _ =>
        .op (.waitDma2 sm.sem (iSl iV ![0, 0, 0, 0] inb_S4x96x192x192_S1x1x32x192_0_0_0_0) iv ((View.wordExact_bits rfl).reshape _ _) hiv.wordExact) fun _ => .ret ⟨⟩ := rfl
  rw [hz]
  have hpos : 0 < xv.view.dmaCredit := View.dmaCredit_pos _ (by decide)
  unfold fetching
  iintro ⟨#Hmw, ⟨HB, Hxr, Hir⟩, HO⟩ Hk
  ihave HO := (Entails.of_eq (by unfold owed; rfl)) $$ HO
  icases HO with ⟨%W', %hW, HO⟩
  iapply (Transfers.wp_waitBatchO countersEmb 𝒱₀ (V d cV jV) none (default : HIx 1) (rfl : xv.view.dmaCredit = _) (D := landed d i w xv iv q fx fi t) (u := 0) (by omega)) $$ [HB HO]
  · isplitl [HB]; · iexact HB
    isplitl [HO]; · iexact HO
    iapply (Transfers.MayWaits.elim (SemLoc.dma sm.sem)) $$ Hmw
  iintro ⟨HB, HO⟩
  iapply (Transfers.wp_waitBatchLastO countersEmb 𝒱₀ (V d cV jV) none (default : HIx 1) hN hpos (D := landed d i w xv iv q fx fi t) (u := 0 + xv.view.dmaCredit) (by omega)) $$ [HB HO]
  · isplitl [HB]; · iexact HB
    isplitl [HO]; · iexact HO
    iapply (Transfers.MayWaits.elim (SemLoc.dma sm.sem)) $$ Hmw
  iintro ⟨HD, Hsm, HO⟩
  rw [wp_ret]
  imodintro
  iapply Hk
  ihave HD := (Entails.of_eq ((bigSep_univ_two (landed d i w xv iv q fx fi t)).trans
    (rfl : _ = iprop((held d cV jV xv ((xCh w t).view.read (Elt F) fx) ∗ (xLoc d ↦[(xCh w t).view.set]{q} fx))
      ∗ (held d cV jV iv ((iCh w t).view.read (Elt F) fi) ∗ (iLoc d ↦[(iCh w t).view.set]{q} fi)))))) $$ HD
  icases HD with ⟨⟨Hxv, Hx⟩, ⟨Hiv, Hi⟩⟩
  isplitl [Hx Hxr]
  · iapply (pointsTo_split_subset (q := q) (f := fx) (S := Finset.univ) (Finset.subset_univ (xCh w t).view.set)).2
    isplitl [Hx]; · iexact Hx
    iexact Hxr
  isplitl [Hi Hir]
  · iapply (pointsTo_split_subset (q := q) (f := fi) (S := Finset.univ) (Finset.subset_univ (iCh w t).view.set)).2
    isplitl [Hi]; · iexact Hi
    iexact Hir
  isplitl [Hxv]; · iexact Hxv
  isplitl [Hiv]; · iexact Hiv
  isplitl [Hsm]; · iexact Hsm
  iapply (owed_insert d i (fun p hp => ?_) (SemLoc.dma sm.sem)) $$ HO
  rcases Finset.mem_insert.mp hp with hp | hp
  · exact .inr (hp ▸ rfl)
  · exact hW p hp

/-- A chunk's copy out in flight on a semaphore: it delivers the chunk's place in the result at `fo` and the scratch back. -/
abbrev sending (o : Memref sig .scVector .vmem S64x384 .f32) (sm : DmaSems sig S_) (w : Fin 32) (t : Nat) (Y : S64x384.Idx → F .f32) (fo : Buf (Elt F) (oLoc d)) : sProp 𝕄 :=
  Transfers.Flight countersEmb (V d cV jV) (.dma sm.sem) (default : HIx 1) (oCh 0 0).view.dmaCredit
    iprop((oLoc d ↦[oSet w t]{fullShare} fo) ∗ held d cV jV o Y)

/-- Starting a chunk's copy out. -/
theorem wp_sendOut {off : Fin 3 → Nat} {hin : ∀ a, off a + S1x64x384.size a ≤ S96x384x384.size a} {t : Nat} (ho : off = oo w t)
    {o : Memref sig .scVector .vmem S64x384 .f32} (hw : o.IsWhole) (sm : DmaSems sig S_) {Y : S64x384.Idx → F .f32}
    {f₀ fo : Buf (Elt F) (oLoc d)} (hY : (oCh w t).view.read (Elt F) fo = Y) {Q : PUnit → sProp 𝕄} :
    iprop(held d cV jV o Y ∗ (oLoc d ↦[oSet w t]{fullShare} f₀) ∗ semVal (V d cV jV, SemLoc.dma sm.sem) 0)
      ⊢ iprop((sending d i o sm w t Y fo -∗ Q ⟨⟩)
        -∗ wp frame (wpE (defs₀ (F := F)) 𝒱₀ (V d cV jV) none) Set.univ (sendOut i oV off hin o hw sm) Q) := by
  subst ho
  have hz : sendOut (F := F) i oV (oo w t) hin o hw sm
      = .op (.enqueueDmaAs o (.here (oCh w t)) .same (.dma sm.sem) hw.wordExact ((View.wordExact_bits rfl).reshape _ _) ⟨Or.inl rfl, trivial⟩) fun _ => .ret ⟨⟩ := rfl
  rw [hz]
  unfold sending held
  iintro ⟨⟨%f, Hs, %hf⟩, Ho, Hsm⟩ Hk
  iapply (Transfers.wp_dmaLocal countersEmb 𝒱₀ (V d cV jV) none (src := o) (dst := oCh w t) (q := fullShare) (fs := f) (fd := f₀) (default : HIx 1)
    (oCh 0 0).view.dmaCredit rfl (View.dmaCredit_pos _ (by decide)) (Finset.Subset.refl _)) $$ [Hs Ho Hsm]
  · isplitl [Hs]; · iexact Hs
    isplitl [Ho]; · iexact Ho
    iexact Hsm
  iintro HF
  rw [wp_ret]
  imodintro
  iapply Hk
  iapply (Transfers.Flight_mono countersEmb (V d cV jV) (?_)) $$ HF
  iintro ⟨Ha, Hb⟩
  isplitl [Ha]
  · iapply (Entails.of_eq (pointsTo_congr (fun p hp => ?_))) $$ Ha
    obtain ⟨y, -, rfl⟩ := Finset.mem_map.mp hp
    have h1 := congrFun (View.read_write_univ (v := (oCh w t).view) (Val := Elt F) f₀ (o.view.read (Elt F) f)) y
    have h2 := congrFun hY y
    have hr : ∀ g, (oCh w t).view.read (Elt F) g y = g ((oCh w t).view.emb y) := fun g => (View.read_apply _ _).trans (cast_eq _ _)
    have h3 : o.view.read (Elt F) f y = Y y := congrFun hf y
    rw [h3, ← h2, hr, hr] at h1
    exact h1
  · iexists f; isplitl [Hb]; · iexact Hb
    ipureintro; exact hf

/-- Awaiting a chunk's copy out. -/
theorem wp_awaitOut {t : Nat} {o : Memref sig .scVector .vmem S64x384 .f32} (hw : o.IsWhole) (sm : DmaSems sig S_) {Y : S64x384.Idx → F .f32}
    {fo : Buf (Elt F) (oLoc d)} {O : CellTallies nD τ sig (HIx 1)} {W : Waits sig (HIx 1)} {Q : PUnit → sProp 𝕄} :
    iprop(Transfers.MayWaits (V d cV jV) (default : HIx 1) O ∗ sending d i o sm w t Y fo ∗ owed d i O W)
      ⊢ iprop(((held d cV jV o Y ∗ (oLoc d ↦[oSet w t]{fullShare} fo) ∗ semVal (V d cV jV, SemLoc.dma sm.sem) 0 ∗ owed d i O W) -∗ Q ⟨⟩)
        -∗ wp frame (wpE (defs₀ (F := F)) 𝒱₀ (V d cV jV) none) Set.univ (awaitOut i oV o hw sm) Q) := by
  have hz : awaitOut (F := F) i oV o hw sm
      = .op (.waitDma2 sm.sem o (oSl oV ![0, 0, 0] inb_S96x384x384_S1x64x384_0_0_0) hw.wordExact ((View.wordExact_bits rfl).reshape _ _)) fun _ => .ret ⟨⟩ := rfl
  rw [hz]
  iintro ⟨#Hmw, HF, HO⟩ Hk
  ihave HO := (Entails.of_eq (by unfold owed; rfl)) $$ HO
  icases HO with ⟨%W', %hW, HO⟩
  iapply (Transfers.wp_waitLocalO countersEmb 𝒱₀ (V d cV jV) none (srcw := o) (dstw := oSl oV ![0, 0, 0] inb_S96x384x384_S1x64x384_0_0_0)
    (hsrc := hw.wordExact) (hdst := (View.wordExact_bits rfl).reshape _ _) (N := (oCh 0 0).view.dmaCredit) (default : HIx 1) rfl) $$ [HF HO]
  · isplitl [HF]; · iexact HF
    isplitl [HO]; · iexact HO
    iapply (Transfers.MayWaits.elim (SemLoc.dma sm.sem)) $$ Hmw
  iintro ⟨⟨Ho, Hs⟩, Hsm, HO⟩
  rw [wp_ret]
  imodintro
  iapply Hk
  isplitl [Hs]; · iexact Hs
  isplitl [Ho]; · iexact Ho
  isplitl [Hsm]; · iexact Hsm
  iapply (owed_insert d i hW (SemLoc.dma sm.sem)) $$ HO

end Transfers

end Cert.Proof
-- ==== Proof.Unpool.lean ====
/-
  The unpooled array as one function, and what the chunks of the values, of the words and of the result are of it.
-/
module

public import proofs.«01_k».proof.Proof.Transfer

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig (HIx 1) (Elt F) ℕ UU ℕ

/-- Every word names an element of its own window: an even row and column twice the window's, or one past either. -/
def InWindow (ix : S4x96x192x192.Idx → BitVec 32) : Prop :=
  ∀ j, ∃ di dj : Nat, di < 2 ∧ dj < 2 ∧ (ix j).toNat = 384 * (2 * (j 2).val + di) + 2 * (j 3).val + dj

/-- Half a row or column number. -/
abbrev half (n : Fin 384) : Fin 192 := ⟨n.val / 2, by omega⟩

/-- The window of an element of batch `b`. -/
def wIx (b : Fin 4) (y : S96x384x384.Idx) : S4x96x192x192.Idx := ix4 b (y 0) (half (y 1)) (half (y 2))

/-- A plane's element after unpooling: its window's value where the window's word names it, zero elsewhere. -/
def unp (x : S4x96x192x192.Idx → F .f32) (ix : S4x96x192x192.Idx → BitVec 32) (b : Fin 4) : S96x384x384.Idx → F .f32 :=
  fun y => if (ix (wIx b y)).toNat = 384 * (y 1).val + (y 2).val then x (wIx b y) else z0

section Chunks

variable (w : Fin 32) (t : Nat)

/-- The plane of chunk `t` of tile `w`. -/
abbrev planeOf : Fin 96 := ⟨3 * w.val + t / 6 % 3, by have := w.isLt; omega⟩

/-- The window, in the last batch, of an element of a chunk. -/
def srcIx (p : S32x192.Idx) : S4x96x192x192.Idx := ix4 3 (planeOf w t) ⟨32 * (t % 6) + (p 0).val, by have := idx2_lt0 p; omega⟩ (p 1)
/-- The element of the result under an element of a chunk's place. -/
def dstIx (y : S64x384.Idx) : S96x384x384.Idx := ix3 (planeOf w t) ⟨64 * (t % 6) + (y 0).val, by have := idx2_lt0 y; omega⟩ (y 1)

theorem xCh_read (f : S4x96x192x192.Idx → F .f32) (p : S32x192.Idx) :
    (xCh w t).view.read (Elt F) f p = f (srcIx w t p) := by
  have h := congrFun (Memref.read_squeeze_slice (Val := Elt F) xV (Rect.unit (s := S4x96x192x192) (xo w t) S1x1x32x192.size (xo_inb w t)) (fun _ => rfl)
    squeezes_S1x1x32x192_S32x192 squeezes_S1x1x32x192_S32x192.numel_eq f) p
  refine h.trans ((shapeCast_apply _ _ p (ix4 (n0 := 1) (n1 := 1) (n2 := 32) (n3 := 192) 0 0 (p 0) (p 1)) ?_).trans ?_)
  · rw [Shape.rowMajor_val_two, Shape.rowMajor_val_four]
    show ((0 * 1 + 0) * 32 + (p 0).val) * 192 + (p 1).val = (p 0).val * 192 + (p 1).val
    omega
  · refine congrArg f (funext fun a => ?_)
    match a with
    | ⟨0, _⟩ => rfl
    | ⟨1, _⟩ => exact Fin.ext (show 3 * w.val + t / 6 % 3 + 1 * 0 = _ by rfl)
    | ⟨2, _⟩ => exact Fin.ext (show 32 * (t % 6) + 1 * (p 0).val = 32 * (t % 6) + (p 0).val by omega)
    | ⟨3, _⟩ => exact Fin.ext (show 0 + 1 * (p 1).val = (p 1).val by omega)

theorem iCh_read (f : S4x96x192x192.Idx → BitVec 32) (p : S32x192.Idx) :
    (iCh w t).view.read (Elt F) f p = f (srcIx w t p) := by
  have h := congrFun (Memref.read_squeeze_slice (Val := Elt F) iV (Rect.unit (s := S4x96x192x192) (xo w t) S1x1x32x192.size (xo_inb w t)) (fun _ => rfl)
    squeezes_S1x1x32x192_S32x192 squeezes_S1x1x32x192_S32x192.numel_eq f) p
  refine h.trans ((shapeCast_apply _ _ p (ix4 (n0 := 1) (n1 := 1) (n2 := 32) (n3 := 192) 0 0 (p 0) (p 1)) ?_).trans ?_)
  · rw [Shape.rowMajor_val_two, Shape.rowMajor_val_four]
    show ((0 * 1 + 0) * 32 + (p 0).val) * 192 + (p 1).val = (p 0).val * 192 + (p 1).val
    omega
  · refine congrArg f (funext fun a => ?_)
    match a with
    | ⟨0, _⟩ => rfl
    | ⟨1, _⟩ => exact Fin.ext (show 3 * w.val + t / 6 % 3 + 1 * 0 = _ by rfl)
    | ⟨2, _⟩ => exact Fin.ext (show 32 * (t % 6) + 1 * (p 0).val = 32 * (t % 6) + (p 0).val by omega)
    | ⟨3, _⟩ => exact Fin.ext (show 0 + 1 * (p 1).val = (p 1).val by omega)

theorem oCh_read (f : S96x384x384.Idx → F .f32) (y : S64x384.Idx) :
    (oCh w t).view.read (Elt F) f y = f (dstIx w t y) := by
  have h := congrFun (Memref.read_squeeze_slice (Val := Elt F) oV (Rect.unit (s := S96x384x384) (oo w t) S1x64x384.size (oo_inb w t)) (fun _ => rfl)
    squeezes_S1x64x384_S64x384 squeezes_S1x64x384_S64x384.numel_eq f) y
  refine h.trans ((shapeCast_apply _ _ y (ix3 (n0 := 1) (n1 := 64) (n2 := 384) 0 (y 0) (y 1)) ?_).trans ?_)
  · rw [Shape.rowMajor_val_two, Shape.rowMajor_val_three]
    show (0 * 64 + (y 0).val) * 384 + (y 1).val = (y 0).val * 384 + (y 1).val
    omega
  · refine congrArg f (funext fun a => ?_)
    match a with
    | ⟨0, _⟩ => exact Fin.ext (show 3 * w.val + t / 6 % 3 + 1 * 0 = _ by rfl)
    | ⟨1, _⟩ => exact Fin.ext (show 64 * (t % 6) + 1 * (y 0).val = 64 * (t % 6) + (y 0).val by omega)
    | ⟨2, _⟩ => exact Fin.ext (show 0 + 1 * (y 1).val = (y 1).val by omega)

/-- The element under a chunk's place: the chunk's plane and its 64 rows. -/
theorem mem_oSet (y : S96x384x384.Idx) : y ∈ oSet w t ↔ (y 0).val = 3 * w.val + t / 6 % 3 ∧ (y 1).val / 64 = t % 6 := by
  have e : oSet w t = (Rect.unit (s := S96x384x384) (oo w t) S1x64x384.size (oo_inb w t)).set := by
    show (((oV).view.slice (Rect.unit (s := S96x384x384) (oo w t) S1x64x384.size (oo_inb w t))).reshape S64x384 squeezes_S1x64x384_S64x384.numel_eq).set = _
    rw [View.set_reshape]
    show ((View.whole (main_v0_scv : Ref sig .scVector)).slice _).set = _
    rw [View.set_slice]; exact Finset.map_refl
  have h1 : (y 1).val < 384 := (y 1).isLt
  have h2 : (y 2).val < 384 := (y 2).isLt
  rw [e, Rect.mem_set_unit]
  constructor
  · intro h
    have a0 := h 0
    have a1 := h 1
    have b0 : 3 * w.val + t / 6 % 3 ≤ (y 0).val ∧ (y 0).val < 3 * w.val + t / 6 % 3 + 1 := a0
    have b1 : 64 * (t % 6) ≤ (y 1).val ∧ (y 1).val < 64 * (t % 6) + 64 := a1
    omega
  · intro h a
    match a with
    | ⟨0, _⟩ => show 3 * w.val + t / 6 % 3 ≤ (y 0).val ∧ (y 0).val < 3 * w.val + t / 6 % 3 + 1; omega
    | ⟨1, _⟩ => show 64 * (t % 6) ≤ (y 1).val ∧ (y 1).val < 64 * (t % 6) + 64; omega
    | ⟨2, _⟩ => show 0 ≤ (y 2).val ∧ (y 2).val < 0 + 384; omega

end Chunks

/-- The words of the planes before a window's row, as a number. -/
theorem base_toNat (t k : Nat) (hk : k < 32) : (baseW (BitVec.ofNat 32 (32 * (t % 6))) k).toNat = 768 * (32 * (t % 6) + k) := by
  have e : baseW (BitVec.ofNat 32 (32 * (t % 6))) k = 768#32 * (BitVec.ofNat 32 (32 * (t % 6)) + ivW k) := rfl
  rw [e, BitVec.toNat_mul, BitVec.toNat_add, ivW_toNat (by omega)]
  simp only [BitVec.toNat_ofNat]
  omega

variable {ix : S4x96x192x192.Idx → BitVec 32} (hix : InWindow ix)

include hix in
/-- What is remembered of a chunk's words, as numbers. -/
theorem rem_toNat (w : Fin 32) (t : Nat) (p : S32x192.Idx) :
    ∃ di dj : Nat, di < 2 ∧ dj < 2
      ∧ (ix (srcIx w t p)).toNat = 384 * (2 * (32 * (t % 6) + (p 0).val) + di) + 2 * (p 1).val + dj
      ∧ ((iCh w t).view.read (Elt F) ix p - baseW (BitVec.ofNat 32 (32 * (t % 6))) (p 0).val).toNat = 384 * di + 2 * (p 1).val + dj := by
  have h0 := idx2_lt0 p
  have h1 := idx2_lt1 p
  obtain ⟨di, dj, hdi, hdj, he⟩ := hix (srcIx w t p)
  have he' : (ix (srcIx w t p)).toNat = 384 * (2 * (32 * (t % 6) + (p 0).val) + di) + 2 * (p 1).val + dj := he
  refine ⟨di, dj, hdi, hdj, he', ?_⟩
  rw [iCh_read]
  have hb := base_toNat t (p 0).val h0
  have hs : ∀ a b : BitVec 32, b.toNat ≤ a.toNat → (a - b).toNat = a.toNat - b.toNat := fun a b h => BitVec.toNat_sub_of_le h
  rw [hs _ _ (by rw [hb, he']; omega), hb, he']
  omega

include hix in
theorem good_chunk (w : Fin 32) (t : Nat) :
    Good (fun p => (iCh w t).view.read (Elt F) ix p - baseW (BitVec.ofNat 32 (32 * (t % 6))) (p 0).val) := by
  intro p
  obtain ⟨di, dj, hdi, hdj, -, h⟩ := rem_toNat (F := F) hix w t p
  exact ⟨di, dj, hdi, hdj, h⟩

include hix in
/-- What a chunk's scatter leaves is the chunk's place in the unpooled array. -/
theorem put_chunk (x : S4x96x192x192.Idx → F .f32) (w : Fin 32) (t : Nat) :
    (oCh w t).view.read (Elt F) (unp x ix 3)
      = put (fun p => (iCh w t).view.read (Elt F) ix p - baseW (BitVec.ofNat 32 (32 * (t % 6))) (p 0).val) ((xCh w t).view.read (Elt F) x) := by
  funext y
  have h0 := idx2_lt0 y
  have h1 := idx2_lt1 y
  rw [oCh_read]
  obtain ⟨di, dj, hdi, hdj, he, hr⟩ := rem_toNat (F := F) hix w t (srcOf y)
  have hs0 : (srcOf y 0).val = (y 0).val / 2 := rfl
  have hs1 : (srcOf y 1).val = (y 1).val / 2 := rfl
  have hi : wIx 3 (dstIx w t y) = srcIx w t (srcOf y) := by
    funext a
    match a with
    | ⟨0, _⟩ => rfl
    | ⟨1, _⟩ => rfl
    | ⟨2, _⟩ => exact Fin.ext (show (64 * (t % 6) + (y 0).val) / 2 = 32 * (t % 6) + (y 0).val / 2 by omega)
    | ⟨3, _⟩ => rfl
  unfold put unp
  show (if (ix (wIx 3 (dstIx w t y))).toNat = 384 * (64 * (t % 6) + (y 0).val) + (y 1).val then x (wIx 3 (dstIx w t y)) else z0) = _
  rw [hi, he]
  have hx := xCh_read w t x (srcOf y)
  by_cases hn : Names (fun p => (iCh w t).view.read (Elt F) ix p - baseW (BitVec.ofNat 32 (32 * (t % 6))) (p 0).val) y
  · rw [if_pos hn]
    have hn' : _ = _ := hn
    rw [hr, hs1] at hn'
    rw [if_pos (by rw [hs0, hs1]; omega), ← hx]
  · rw [if_neg hn, if_neg]
    intro hc
    apply hn
    show _ = _
    rw [hr]
    rw [hs0, hs1] at hc
    rw [hs1]; omega

end Cert.Proof
-- ==== Proof.Pre.lean ====
/-
  The certificate's precondition, read at one word: each index lies in its window of two by two.
-/
module

public import proofs.«01_k».proof.Proof.Unpool
public import proofs.«01_k».proof.Proof.Gen.Pre_pooling_indices
public import Idealize.ShloMosaic.Lib.ReduceAll
public import Idealize.ShloMosaic.Lib.WordCmp

@[expose] public section

noncomputable section

namespace Cert.Proof

open Idealize.ShloMosaic
open Idealize.ShloMosaic.ValueIdx

variable {F : FTy → Type} [FloatOps F]

theorem ori_ofBool (p q : Bool) : IntOp.ori (BitVec.ofBool p) (BitVec.ofBool q) = BitVec.ofBool (p || q) := by
  cases p <;> cases q <;> decide

theorem ofBool_one (p : Bool) : (BitVec.ofBool p = 1#1) ↔ p = true := by cases p <;> decide

/-- A word whose difference from `768 * i + 2 * j` is one of the four offsets of a window, as a number. -/
theorem word_in_window (v : BitVec 32) (i j : ℕ) (hi : i < 192) (hj : j < 192)
    (e : IntOp.ori (IntOp.ori (IntOp.ori
        (IntOp.cmpi .eq (IntOp.subi v (IntOp.addi (IntOp.muli 768#32 (BitVec.ofNat 32 i)) (IntOp.muli 2#32 (BitVec.ofNat 32 j)))) 0#32)
        (IntOp.cmpi .eq (IntOp.subi v (IntOp.addi (IntOp.muli 768#32 (BitVec.ofNat 32 i)) (IntOp.muli 2#32 (BitVec.ofNat 32 j)))) 1#32))
        (IntOp.cmpi .eq (IntOp.subi v (IntOp.addi (IntOp.muli 768#32 (BitVec.ofNat 32 i)) (IntOp.muli 2#32 (BitVec.ofNat 32 j)))) 384#32))
        (IntOp.cmpi .eq (IntOp.subi v (IntOp.addi (IntOp.muli 768#32 (BitVec.ofNat 32 i)) (IntOp.muli 2#32 (BitVec.ofNat 32 j)))) 385#32) = 1#1) :
    ∃ di dj, di < 2 ∧ dj < 2 ∧ v.toNat = 384 * (2 * i + di) + 2 * j + dj := by
  rw [show (768#32 : BitVec 32) = BitVec.ofNat 32 768 from rfl, show (2#32 : BitVec 32) = BitVec.ofNat 32 2 from rfl,
    WordCmp.muli_ofNat, WordCmp.muli_ofNat, WordCmp.addi_ofNat] at e
  simp only [WordCmp.cmpi_eq_eq, ori_ofBool, ofBool_one, Bool.or_eq_true, decide_eq_true_eq] at e
  have key : ∀ k : ℕ, k < 2 ^ 31 → IntOp.subi v (BitVec.ofNat 32 (768 * i + 2 * j)) = BitVec.ofNat 32 k → v.toNat = 768 * i + 2 * j + k := by
    intro k hk q
    have hv : v = BitVec.ofNat 32 (768 * i + 2 * j + k) := by
      rw [BitVec.ofNat_add, ← q]
      show v = BitVec.ofNat 32 (768 * i + 2 * j) + (v - BitVec.ofNat 32 (768 * i + 2 * j))
      rw [BitVec.add_comm, BitVec.sub_add_cancel]
    rw [hv, BitVec.toNat_ofNat]
    exact Nat.mod_eq_of_lt (by omega)
  rcases e with ((e | e) | e) | e
  · exact ⟨0, 0, by omega, by omega, by have := key 0 (by omega) e; omega⟩
  · exact ⟨0, 1, by omega, by omega, by have := key 1 (by omega) e; omega⟩
  · exact ⟨1, 0, by omega, by omega, by have := key 384 (by omega) e; omega⟩
  · exact ⟨1, 1, by omega, by omega, by have := key 385 (by omega) e; omega⟩

instance : Subsingleton Cert.Pre_pooling_indices.S_.Idx := ⟨fun a b => funext fun k => k.elim0⟩

/-- Words that satisfy the precondition are each in its window. -/
theorem inWindow_of_pre [Cert.Pre_pooling_indices.Facts] (x : FVec F Cert.Pre_pooling_indices.S4x96x192x192 .f32)
    (ix : IVec Cert.Pre_pooling_indices.S4x96x192x192 32) (h : Cert.Pre_pooling_indices.fn (F := F) x ix = fun _ => 1#1) : InWindow ix := by
  intro j
  have e := congrFun h (fun k => k.elim0)
  have e' := Host.reduce_andi_all _ _ _ _ _ e j
  exact word_in_window (ix j) (j 2).val (j 3).val (j 2).isLt (j 3).isLt e'

end Cert.Proof

end
-- ==== Proof.Tile.lean ====
/-
  A tile's main loop and whole program: the state between two trips, one trip, all of them.
-/
module

public import proofs.«01_k».proof.Proof.Transfer

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig (HIx 1) (Elt F) ℕ UU ℕ

/-! ## The chunk's words -/

/-- A word minus the words of its plane before its window's row. -/
abbrev chunkBase (t : Nat) : BitVec 32 := BitVec.ofNat 32 (32 * (t % 6))

theorem chunk_even : ∀ k : Fin 9, chunkW (tW k.val 0#32) = chunkBase (2 * k.val) := by decide +kernel
theorem chunk_odd : ∀ k : Fin 9, chunkW (tW k.val 1#32) = chunkBase (2 * k.val + 1) := by decide +kernel

theorem cond1_iff : ∀ k : Fin k0_t2_loop.trips, k0_cond1 k = 1#1 ↔ k.val ≠ 0 := by decide +kernel
theorem cond2_iff : ∀ k : Fin k0_t2_loop.trips, k0_cond2 k = 1#1 ↔ k.val ≠ 0 := by decide +kernel
theorem cond3_iff : ∀ k : Fin k0_t2_loop.trips, k0_cond3 k = 1#1 ↔ k.val + 1 < 9 := by decide +kernel

/-- A tile's number: two a subcore number, one on each SparseCore. -/
def wid (i : grid0.Coords) : Fin 32 :=
  ⟨2 * (i 1).val + (i 0).val, by
    have h0 : (i 0).val < 2 := (i 0).isLt
    have h1 : (i 1).val < 16 := (i 1).isLt
    omega⟩

theorem off25_eq : ∀ i : grid0.Coords, ∀ a, k0_off25 i a = xo (wid i) 0 a := by decide +kernel
theorem off38_eq : ∀ (i : grid0.Coords) (k : Fin k0_t2_loop.trips), ∀ a, k0_off38 i k a = xo (wid i) (2 * k.val + 1) a := by decide +kernel
theorem off64_eq : ∀ (i : grid0.Coords) (k : Fin k0_t2_loop.trips), k.val + 1 < 9 → ∀ a, k0_off64 i k a = xo (wid i) (2 * k.val + 2) a := by decide +kernel
theorem off51_even : ∀ (i : grid0.Coords) (k : Fin k0_t2_loop.trips), ∀ a, k0_off51 i k 0#32 a = oo (wid i) (2 * k.val) a := by decide +kernel
theorem off51_odd : ∀ (i : grid0.Coords) (k : Fin k0_t2_loop.trips), ∀ a, k0_off51 i k 1#32 a = oo (wid i) (2 * k.val + 1) a := by decide +kernel

/-! ## The state between two trips -/

section Tile

variable (d : Dev nD) (i : grid0.Coords)
variable {arg5 arg6 : Memref sig .scVector .vmem S32x192 .f32} {arg7 arg8 arg9 arg10 : Memref sig .scVector .vmem S32x192 .i32}
  {arg11 arg12 : Memref sig .scVector .vmem S64x384 .f32}
  (h5 : arg5.IsWhole) (h6 : arg6.IsWhole) (h7 : arg7.IsWhole) (h8 : arg8.IsWhole) (h11 : arg11.IsWhole) (h12 : arg12.IsWhole)
  {sA sB sC sD : DmaSems sig S_}
  (hN0 : arg7.view.dmaCredit = arg5.view.dmaCredit) (hN1 : arg8.view.dmaCredit = arg6.view.dmaCredit)
variable {q : PosShare TreeShare} {fx : Buf (Elt F) (xLoc d)} {fi : Buf (Elt F) (iLoc d)} {f₀ fo : Buf (Elt F) (oLoc d)}
  {O : CellTallies nD τ sig (HIx 1)} {W : Waits sig (HIx 1)}

local notation "cV" => (Fin.castLE hcore0 (i 0))
local notation "jV" => (Fin.castLE hsub0 (i 1))

/-- A scratch at some contents. -/
abbrev some' {s : Shape} {e : EltTy} (m : Memref sig .scVector .vmem s e) : sProp 𝕄 := iprop(∃ X, held d cV jV m X)

/-- A chunk's values, its words, and what is remembered of the words. -/
abbrev xC (fx : Buf (Elt F) (xLoc d)) (t : Nat) : S32x192.Idx → F .f32 := (xCh (wid i) t).view.read (Elt F) fx
abbrev iC (fi : Buf (Elt F) (iLoc d)) (t : Nat) : S32x192.Idx → BitVec 32 := (iCh (wid i) t).view.read (Elt F) fi
abbrev rC (fi : Buf (Elt F) (iLoc d)) (t : Nat) : S32x192.Idx → BitVec 32 := fun p => iC d i fi t p - baseW (chunkBase t) (p 0).val
/-- What a chunk's scatter leaves in its scratch. -/
abbrev oC (fx : Buf (Elt F) (xLoc d)) (fi : Buf (Elt F) (iLoc d)) (t : Nat) : S64x384.Idx → F .f32 := put (rC d i fi t) (xC d i fx t)

/-- An output scratch before trip `k`: clear and idle before the first, then sending chunk `t`. -/
def outSt (o : Memref sig .scVector .vmem S64x384 .f32) (r : Memref sig .scVector .vmem S32x192 .i32) (sm : DmaSems sig S_)
    (fx : Buf (Elt F) (xLoc d)) (fi : Buf (Elt F) (iLoc d)) (fo : Buf (Elt F) (oLoc d)) (k t : Nat) : sProp 𝕄 :=
  if k = 0 then iprop(held d cV jV o clearC ∗ some' d i r ∗ semVal (V d cV jV, SemLoc.dma sm.sem) 0)
  else iprop(sending d i o sm (wid i) t (oC d i fx fi t) fo ∗ held d cV jV r (rC d i fi t))

/-- The place in the result of a chunk, done; nothing before the first trip. -/
def sent (fo : Buf (Elt F) (oLoc d)) (k t : Nat) : sProp 𝕄 := if k = 0 then iprop(emp) else oLoc d ↦[oSet (wid i) t]{fullShare} fo

/-- The first input buffer before trip `k`: chunk `2 k` on its way, idle after the last. -/
def inSt (arg5 : Memref sig .scVector .vmem S32x192 .f32) (arg7 : Memref sig .scVector .vmem S32x192 .i32) (sm : DmaSems sig S_) (q : PosShare TreeShare)
    (fx : Buf (Elt F) (xLoc d)) (fi : Buf (Elt F) (iLoc d)) (k : Nat) : sProp 𝕄 :=
  if k < 9 then fetching d i (wid i) arg5 arg7 sm q fx fi (2 * k)
  else iprop((xLoc d ↦{q} fx) ∗ (iLoc d ↦{q} fi) ∗ some' d i arg5 ∗ some' d i arg7 ∗ semVal (V d cV jV, SemLoc.dma sm.sem) 0)

/-- The first `n` chunks' places, done. -/
def doneP (fo : Buf (Elt F) (oLoc d)) (n : Nat) : sProp 𝕄 := bigSep (Finset.range n) fun t => oLoc d ↦[oSet (wid i) t]{fullShare} fo
/-- The other chunks' places, as found. -/
def todoP (f₀ : Buf (Elt F) (oLoc d)) (n : Nat) : sProp 𝕄 := bigSep (Finset.Ico n 18) fun t => oLoc d ↦[oSet (wid i) t]{fullShare} f₀

theorem doneP_succ (n : Nat) :
    iprop((oLoc d ↦[oSet (wid i) n]{fullShare} fo) ∗ doneP d i fo n) ⊢ (doneP d i fo (n + 1) : sProp 𝕄) := by
  unfold doneP
  rw [Finset.range_add_one, bigSep_insert (by simp)]
  exact Entails.refl _

theorem todoP_step {n : Nat} (hn : n < 18) :
    (todoP d i f₀ n : sProp 𝕄) ⊢ iprop((oLoc d ↦[oSet (wid i) n]{fullShare} f₀) ∗ todoP d i f₀ (n + 1)) := by
  unfold todoP
  rw [← Finset.insert_Ico_add_one_left_eq_Ico hn, bigSep_insert (by simp)]
  exact Entails.refl _

theorem doneP_trip (k : Nat) :
    iprop(sent d i fo k (2 * k - 2) ∗ sent d i fo k (2 * k - 1) ∗ doneP d i fo (2 * k - 2)) ⊢ (doneP d i fo (2 * (k + 1) - 2) : sProp 𝕄) := by
  unfold sent
  rcases k with _ | k
  · simp only [if_pos rfl]
    iintro ⟨-, -, H⟩; iexact H
  · rw [if_neg (by omega), if_neg (by omega), show 2 * (k + 1) - 2 = 2 * k by omega, show 2 * (k + 1) - 1 = 2 * k + 1 by omega,
      show 2 * (k + 1 + 1) - 2 = 2 * k + 1 + 1 by omega]
    iintro ⟨H0, H1, H⟩
    iapply (doneP_succ d i (2 * k + 1))
    isplitl [H1]; · iexact H1
    iapply (doneP_succ d i (2 * k))
    isplitl [H0]; · iexact H0
    iexact H

variable (hgood : ∀ t, t < 18 → Good (rC d i fi t)) (hfo : ∀ t, t < 18 → (oCh (wid i) t).view.read (Elt F) fo = oC d i fx fi t)

include hgood in
/-- The first output scratch made clear again. -/
theorem wp_clean0 (k : Fin k0_t2_loop.trips) {Q : PUnit → sProp 𝕄} :
    iprop(Transfers.MayWaits (V d cV jV) (default : HIx 1) O ∗ outSt d i arg11 arg9 sC fx fi fo k.val (2 * k.val - 2) ∗ owed d i O W)
      ⊢ iprop(((held d cV jV arg11 clearC ∗ some' d i arg9 ∗ semVal (V d cV jV, SemLoc.dma sC.sem) 0 ∗ sent d i fo k.val (2 * k.val - 2) ∗ owed d i O W) -∗ Q ⟨⟩)
        -∗ wp frame (wpE (defs₀ (F := F)) 𝒱₀ (V d cV jV) none) Set.univ (clean0 i oV arg9 arg11 h11 sC zero16 k) Q) := by
  have hk : k.val < 9 := trips2 ▸ k.isLt
  unfold outSt sent clean0
  by_cases h0 : k.val = 0
  · rw [if_pos h0, if_pos h0, dif_neg (fun h => (cond1_iff k).mp h h0)]
    iintro ⟨-, ⟨Ho, Hr, Hs⟩, HO⟩ Hk
    rw [wp_pure]
    imodintro
    iapply Hk
    isplitl [Ho]; · iexact Ho
    isplitl [Hr]; · iexact Hr
    isplitl [Hs]; · iexact Hs
    isplitr; · iempintro
    iexact HO
  · rw [if_neg h0, if_neg h0, dif_pos ((cond1_iff k).mpr h0), wp_bind]
    iintro ⟨#Hmw, ⟨Hf, Hr⟩, HO⟩ Hk
    iapply (wp_awaitOut d i h11 sC (fo := fo)) $$ [Hf HO]
    · isplitr; · iexact Hmw
      isplitl [Hf]; · iexact Hf
      iexact HO
    iintro ⟨Ho, Hp, Hs, HO⟩
    iapply (wp_t3 d i arg9 arg11 k ((cond1_iff k).mpr h0) (hgood (2 * k.val - 2) (by omega)))
    isplitl [Hr Ho]
    · isplitl [Hr]; · iexact Hr
      iexact Ho
    iintro %acc ⟨Hr, Ho⟩
    iapply Hk
    isplitl [Ho]; · iexact Ho
    isplitl [Hr]; · iexists _; iexact Hr
    isplitl [Hs]; · iexact Hs
    isplitl [Hp]; · iexact Hp
    iexact HO

include hgood in
/-- The second output scratch made clear again. -/
theorem wp_clean1 (k : Fin k0_t2_loop.trips) {Q : PUnit → sProp 𝕄} :
    iprop(Transfers.MayWaits (V d cV jV) (default : HIx 1) O ∗ outSt d i arg12 arg10 sD fx fi fo k.val (2 * k.val - 1) ∗ owed d i O W)
      ⊢ iprop(((held d cV jV arg12 clearC ∗ some' d i arg10 ∗ semVal (V d cV jV, SemLoc.dma sD.sem) 0 ∗ sent d i fo k.val (2 * k.val - 1) ∗ owed d i O W) -∗ Q ⟨⟩)
        -∗ wp frame (wpE (defs₀ (F := F)) 𝒱₀ (V d cV jV) none) Set.univ (clean1 i oV arg10 arg12 h12 sD zero16 k) Q) := by
  have hk : k.val < 9 := trips2 ▸ k.isLt
  unfold outSt sent clean1
  by_cases h0 : k.val = 0
  · rw [if_pos h0, if_pos h0, dif_neg (fun h => (cond2_iff k).mp h h0)]
    iintro ⟨-, ⟨Ho, Hr, Hs⟩, HO⟩ Hk
    rw [wp_pure]
    imodintro
    iapply Hk
    isplitl [Ho]; · iexact Ho
    isplitl [Hr]; · iexact Hr
    isplitl [Hs]; · iexact Hs
    isplitr; · iempintro
    iexact HO
  · rw [if_neg h0, if_neg h0, dif_pos ((cond2_iff k).mpr h0), wp_bind]
    iintro ⟨#Hmw, ⟨Hf, Hr⟩, HO⟩ Hk
    iapply (wp_awaitOut d i h12 sD (fo := fo)) $$ [Hf HO]
    · isplitr; · iexact Hmw
      isplitl [Hf]; · iexact Hf
      iexact HO
    iintro ⟨Ho, Hp, Hs, HO⟩
    iapply (wp_t5 d i arg10 arg12 k ((cond2_iff k).mpr h0) (hgood (2 * k.val - 1) (by omega)))
    isplitl [Hr Ho]
    · isplitl [Hr]; · iexact Hr
      iexact Ho
    iintro %acc ⟨Hr, Ho⟩
    iapply Hk
    isplitl [Ho]; · iexact Ho
    isplitl [Hr]; · iexists _; iexact Hr
    isplitl [Hs]; · iexact Hs
    isplitl [Hp]; · iexact Hp
    iexact HO

include hN0 in
/-- The next trip's first chunk set on its way, where there is one. -/
theorem wp_fetchNext (k : Fin k0_t2_loop.trips) {Q : PUnit → sProp 𝕄} :
    iprop((xLoc d ↦{q} fx) ∗ (iLoc d ↦{q} fi) ∗ some' d i arg5 ∗ some' d i arg7 ∗ semVal (V d cV jV, SemLoc.dma sA.sem) 0)
      ⊢ iprop((inSt d i arg5 arg7 sA q fx fi (k.val + 1) -∗ Q ⟨⟩)
        -∗ wp frame (wpE (defs₀ (F := F)) 𝒱₀ (V d cV jV) none) Set.univ (fetchNext i xV iV arg5 h5 arg7 h7 sA k) Q) := by
  unfold inSt fetchNext
  by_cases h : k.val + 1 < 9
  · rw [if_pos h, dif_pos ((cond3_iff k).mpr h)]
    iintro ⟨Hx, Hi, ⟨%X, Hxv⟩, ⟨%I, Hiv⟩, Hs⟩ Hk
    iapply (wp_fetchIn d i (w := wid i) (t := 2 * (k.val + 1)) (funext (off64_eq i k h)) h5 h7 hN0 sA) $$ [Hx Hi Hxv Hiv Hs]
    · isplitl [Hx]; · iexact Hx
      isplitl [Hi]; · iexact Hi
      isplitl [Hxv]; · iexact Hxv
      isplitl [Hiv]; · iexact Hiv
      iexact Hs
    iexact Hk
  · rw [if_neg h, dif_neg (fun h' => h ((cond3_iff k).mp h'))]
    iintro H Hk
    rw [wp_pure]
    imodintro
    iapply Hk
    iexact H

/-- The tile's whole state before trip `k`. -/
def tripSt (arg5 arg6 : Memref sig .scVector .vmem S32x192 .f32) (arg7 arg8 arg9 arg10 : Memref sig .scVector .vmem S32x192 .i32)
    (arg11 arg12 : Memref sig .scVector .vmem S64x384 .f32) (sA sB sC sD : DmaSems sig S_) (q : PosShare TreeShare)
    (fx : Buf (Elt F) (xLoc d)) (fi : Buf (Elt F) (iLoc d)) (f₀ fo : Buf (Elt F) (oLoc d)) (O : CellTallies nD τ sig (HIx 1)) (W : Waits sig (HIx 1))
    (k : Nat) : sProp 𝕄 :=
  iprop(Transfers.MayWaits (V d cV jV) (default : HIx 1) O
    ∗ inSt d i arg5 arg7 sA q.left fx fi k
    ∗ (xLoc d ↦{q.right} fx) ∗ (iLoc d ↦{q.right} fi) ∗ some' d i arg6 ∗ some' d i arg8 ∗ semVal (V d cV jV, SemLoc.dma sB.sem) 0
    ∗ outSt d i arg11 arg9 sC fx fi fo k (2 * k - 2) ∗ outSt d i arg12 arg10 sD fx fi fo k (2 * k - 1)
    ∗ doneP d i fo (2 * k - 2) ∗ todoP d i f₀ (2 * k) ∗ owed d i O W)

include hgood hfo hN0 hN1 in
/-- One trip. -/
theorem wp_pairBody (k : Fin k0_t2_loop.trips) :
    tripSt d i arg5 arg6 arg7 arg8 arg9 arg10 arg11 arg12 sA sB sC sD q fx fi f₀ fo O W k.val
      ⊢ wp frame (wpE (defs₀ (F := F)) 𝒱₀ (V d cV jV) none) Set.univ
        (pairBody i xV iV oV arg5 h5 arg6 h6 arg7 h7 arg8 h8 arg9 arg10 arg11 h11 arg12 h12 sA sB sC sD zero16 k)
        (fun _ => tripSt d i arg5 arg6 arg7 arg8 arg9 arg10 arg11 arg12 sA sB sC sD q fx fi f₀ fo O W (k.val + 1)) := by
  have hk : k.val < 9 := trips2 ▸ k.isLt
  unfold tripSt pairBody
  simp only [wp_bind]
  iintro ⟨#Hmw, Hin, Hx, Hi, ⟨%X1, Hxv1⟩, ⟨%I1, Hiv1⟩, HsB, Ho0, Ho1, Hd, Ht, HO⟩
  iapply (wp_clean0 d i h11 hgood k) $$ [Ho0 HO]
  · isplitr; · iexact Hmw
    isplitl [Ho0]; · iexact Ho0
    iexact HO
  iintro ⟨Ho0, ⟨%R0, Hr0⟩, HsC, Hp0, HO⟩
  ihave Hin := (Entails.of_eq (show inSt d i arg5 arg7 sA q.left fx fi k.val = fetching d i (wid i) arg5 arg7 sA q.left fx fi (2 * k.val) from if_pos hk)) $$ Hin
  iapply (wp_awaitIn d i h5 h7 hN0 sA) $$ [Hin HO]
  · isplitr; · iexact Hmw
    isplitl [Hin]; · iexact Hin
    iexact HO
  iintro ⟨HxL, HiL, Hxv0, Hiv0, HsA, HO⟩
  iapply (wp_fetchIn d i (w := wid i) (t := 2 * k.val + 1) (funext (off38_eq i k)) h6 h8 hN1 sB) $$ [Hx Hi Hxv1 Hiv1 HsB]
  · isplitl [Hx]; · iexact Hx
    isplitl [Hi]; · iexact Hi
    isplitl [Hxv1]; · iexact Hxv1
    isplitl [Hiv1]; · iexact Hiv1
    iexact HsB
  iintro HfB
  iapply (wp_t4 d i arg5 arg7 arg9 arg11 (chunkW (tW k.val 0#32)) (hgood (2 * k.val) (by omega)) (W := iC d i fi (2 * k.val))
    (fun p => by rw [chunk_even ⟨k.val, hk⟩]))
  isplitl [Hxv0 Hiv0 Hr0 Ho0]
  · isplitl [Hxv0]; · iexact Hxv0
    isplitl [Hiv0]; · iexact Hiv0
    isplitl [Hr0]; · iexact Hr0
    iexact Ho0
  iintro %a0 ⟨Hxv0, Hiv0, Hr0, Ho0⟩
  ihave Ht := (todoP_step d i (show 2 * k.val < 18 by omega)) $$ Ht
  icases Ht with ⟨Hq0, Ht⟩
  iapply (wp_sendOut d i (w := wid i) (t := 2 * k.val) (funext (off51_even i k)) h11 sC (hfo (2 * k.val) (by omega))) $$ [Ho0 Hq0 HsC]
  · isplitl [Ho0]; · iexact Ho0
    isplitl [Hq0]; · iexact Hq0
    iexact HsC
  iintro Hf0
  iapply (wp_clean1 d i h12 hgood k) $$ [Ho1 HO]
  · isplitr; · iexact Hmw
    isplitl [Ho1]; · iexact Ho1
    iexact HO
  iintro ⟨Ho1, ⟨%R1, Hr1⟩, HsD, Hp1, HO⟩
  iapply (wp_awaitIn d i h6 h8 hN1 sB) $$ [HfB HO]
  · isplitr; · iexact Hmw
    isplitl [HfB]; · iexact HfB
    iexact HO
  iintro ⟨Hx, Hi, Hxv1, Hiv1, HsB, HO⟩
  iapply (wp_fetchNext d i h5 h7 hN0 k) $$ [HxL HiL Hxv0 Hiv0 HsA]
  · isplitl [HxL]; · iexact HxL
    isplitl [HiL]; · iexact HiL
    isplitl [Hxv0]; · iexists _; iexact Hxv0
    isplitl [Hiv0]; · iexists _; iexact Hiv0
    iexact HsA
  iintro Hin
  iapply (wp_t6 d i arg6 arg8 arg10 arg12 (chunkW (tW k.val 1#32)) (hgood (2 * k.val + 1) (by omega)) (W := iC d i fi (2 * k.val + 1))
    (fun p => by rw [chunk_odd ⟨k.val, hk⟩]))
  isplitl [Hxv1 Hiv1 Hr1 Ho1]
  · isplitl [Hxv1]; · iexact Hxv1
    isplitl [Hiv1]; · iexact Hiv1
    isplitl [Hr1]; · iexact Hr1
    iexact Ho1
  iintro %a1 ⟨Hxv1, Hiv1, Hr1, Ho1⟩
  ihave Ht := (todoP_step d i (show 2 * k.val + 1 < 18 by omega)) $$ Ht
  icases Ht with ⟨Hq1, Ht⟩
  iapply (wp_sendOut d i (w := wid i) (t := 2 * k.val + 1) (funext (off51_odd i k)) h12 sD (hfo (2 * k.val + 1) (by omega))) $$ [Ho1 Hq1 HsD]
  · isplitl [Ho1]; · iexact Ho1
    isplitl [Hq1]; · iexact Hq1
    iexact HsD
  iintro Hf1
  isplitr; · iexact Hmw
  isplitl [Hin]; · iexact Hin
  isplitl [Hx]; · iexact Hx
  isplitl [Hi]; · iexact Hi
  isplitl [Hxv1]; · iexists _; iexact Hxv1
  isplitl [Hiv1]; · iexists _; iexact Hiv1
  isplitl [HsB]; · iexact HsB
  isplitl [Hf0 Hr0]
  · unfold outSt
    rw [if_neg (by omega), show 2 * (k.val + 1) - 2 = 2 * k.val by omega]
    isplitl [Hf0]; · iexact Hf0
    iexact Hr0
  isplitl [Hf1 Hr1]
  · unfold outSt
    rw [if_neg (by omega), show 2 * (k.val + 1) - 1 = 2 * k.val + 1 by omega]
    isplitl [Hf1]; · iexact Hf1
    iexact Hr1
  isplitl [Hp0 Hp1 Hd]
  · iapply (doneP_trip d i k.val)
    isplitl [Hp0]; · iexact Hp0
    isplitl [Hp1]; · iexact Hp1
    iexact Hd
  isplitl [Ht]; · iexact Ht
  iexact HO

include hgood hfo hN0 hN1 in
/-- The tile's program: its places in the result, as found, to its places in the result, done. -/
theorem wp_tileProg :
    iprop(Transfers.MayWaits (V d cV jV) (default : HIx 1) O
        ∗ (xLoc d ↦{q} fx) ∗ (iLoc d ↦{q} fi) ∗ todoP d i f₀ 0
        ∗ (some' d i arg5 ∗ some' d i arg6 ∗ some' d i arg7 ∗ some' d i arg8 ∗ some' d i arg9 ∗ some' d i arg10 ∗ some' d i arg11 ∗ some' d i arg12)
        ∗ (semVal (V d cV jV, SemLoc.dma sA.sem) 0 ∗ semVal (V d cV jV, SemLoc.dma sB.sem) 0 ∗ semVal (V d cV jV, SemLoc.dma sC.sem) 0 ∗ semVal (V d cV jV, SemLoc.dma sD.sem) 0)
        ∗ owed d i O W)
      ⊢ wp frame (wpE (defs₀ (F := F)) 𝒱₀ (V d cV jV) none) Set.univ
        (tileProg (F := F) i xV iV oV arg5 h5 arg6 h6 arg7 h7 arg8 h8 arg9 arg10 arg11 h11 arg12 h12 sA sB sC sD)
        (fun _ => iprop((xLoc d ↦{q} fx) ∗ (iLoc d ↦{q} fi) ∗ doneP d i fo 18
          ∗ (some' d i arg5 ∗ some' d i arg6 ∗ some' d i arg7 ∗ some' d i arg8 ∗ some' d i arg9 ∗ some' d i arg10 ∗ some' d i arg11 ∗ some' d i arg12)
          ∗ (semVal (V d cV jV, SemLoc.dma sA.sem) 0 ∗ semVal (V d cV jV, SemLoc.dma sB.sem) 0 ∗ semVal (V d cV jV, SemLoc.dma sC.sem) 0 ∗ semVal (V d cV jV, SemLoc.dma sD.sem) 0)
          ∗ owed d i O W)) := by
  unfold tileProg
  simp only [wp_bind]
  iintro ⟨#Hmw, Hx, Hi, Ht, ⟨⟨%X0, Hxv0⟩, ⟨%X1, Hxv1⟩, ⟨%I0, Hiv0⟩, ⟨%I1, Hiv1⟩, ⟨%R0, Hr0⟩, ⟨%R1, Hr1⟩, ⟨%Y0, Ho0⟩, ⟨%Y1, Ho1⟩⟩, ⟨HsA, HsB, HsC, HsD⟩, HO⟩
  iapply (wp_t1 d i arg11 arg12)
  isplitl [Ho0 Ho1]
  · isplitl [Ho0]; · iexact Ho0
    iexact Ho1
  iintro %a0 ⟨Ho0, Ho1⟩
  ihave Hx := (pointsTo_share (PosShare.mem_left_op_right q)).1 $$ Hx
  icases Hx with ⟨HxL, Hx⟩
  ihave Hi := (pointsTo_share (PosShare.mem_left_op_right q)).1 $$ Hi
  icases Hi with ⟨HiL, Hi⟩
  iapply (wp_fetchIn d i (w := wid i) (t := 0) (funext (off25_eq i)) h5 h7 hN0 sA) $$ [HxL HiL Hxv0 Hiv0 HsA]
  · isplitl [HxL]; · iexact HxL
    isplitl [HiL]; · iexact HiL
    isplitl [Hxv0]; · iexact Hxv0
    isplitl [Hiv0]; · iexact Hiv0
    iexact HsA
  iintro Hin
  have hloop := fun (Q : PUnit → sProp 𝕄) => Scf.wp_for frame (wpE (defs₀ (F := F)) 𝒱₀ (V d cV jV) none) Set.univ k0_t2_loop.lb k0_t2_loop.ub k0_t2_loop.st k0_t2_ok PUnit.unit
    (fun t _ => pairBody i xV iV oV arg5 h5 arg6 h6 arg7 h7 arg8 h8 arg9 arg10 arg11 h11 arg12 h12 sA sB sC sD zero16 t)
    (fun n _ => tripSt d i arg5 arg6 arg7 arg8 arg9 arg10 arg11 arg12 sA sB sC sD q fx fi f₀ fo O W n)
    (fun k _ => wp_pairBody d i h5 h6 h7 h8 h11 h12 hN0 hN1 hgood hfo k) (Q := Q)
  iapply (hloop _)
  isplitl [Hin Hx Hi Hxv1 Hiv1 HsB Ho0 Hr0 HsC Ho1 Hr1 HsD Ht HO]
  · unfold tripSt
    isplitr; · iexact Hmw
    isplitl [Hin]
    · iapply (Entails.of_eq (show fetching d i (wid i) arg5 arg7 sA q.left fx fi 0 = inSt d i arg5 arg7 sA q.left fx fi 0 from (if_pos (by omega)).symm))
      iexact Hin
    isplitl [Hx]; · iexact Hx
    isplitl [Hi]; · iexact Hi
    isplitl [Hxv1]; · iexists _; iexact Hxv1
    isplitl [Hiv1]; · iexists _; iexact Hiv1
    isplitl [HsB]; · iexact HsB
    isplitl [Ho0 Hr0 HsC]
    · unfold outSt; rw [if_pos rfl]
      isplitl [Ho0]; · iexact Ho0
      isplitl [Hr0]; · iexists _; iexact Hr0
      iexact HsC
    isplitl [Ho1 Hr1 HsD]
    · unfold outSt; rw [if_pos rfl]
      isplitl [Ho1]; · iexact Ho1
      isplitl [Hr1]; · iexists _; iexact Hr1
      iexact HsD
    isplitr
    · unfold doneP; rw [show 2 * 0 - 2 = 0 from rfl, Finset.range_zero, bigSep_empty]; iempintro
    isplitl [Ht]; · iexact Ht
    iexact HO
  iintro %acc Hst
  ihave Hst := (Entails.of_eq (show tripSt d i arg5 arg6 arg7 arg8 arg9 arg10 arg11 arg12 sA sB sC sD q fx fi f₀ fo O W (Scf.trips k0_t2_loop.lb k0_t2_loop.ub k0_t2_loop.st)
    = iprop(Transfers.MayWaits (V d cV jV) (default : HIx 1) O
    ∗ ((xLoc d ↦{q.left} fx) ∗ (iLoc d ↦{q.left} fi) ∗ some' d i arg5 ∗ some' d i arg7 ∗ semVal (V d cV jV, SemLoc.dma sA.sem) 0)
    ∗ (xLoc d ↦{q.right} fx) ∗ (iLoc d ↦{q.right} fi) ∗ some' d i arg6 ∗ some' d i arg8 ∗ semVal (V d cV jV, SemLoc.dma sB.sem) 0
    ∗ (sending d i arg11 sC (wid i) 16 (oC d i fx fi 16) fo ∗ held d cV jV arg9 (rC d i fi 16))
    ∗ (sending d i arg12 sD (wid i) 17 (oC d i fx fi 17) fo ∗ held d cV jV arg10 (rC d i fi 17))
    ∗ doneP d i fo 16 ∗ todoP d i f₀ 18 ∗ owed d i O W) from by
      rw [show Scf.trips k0_t2_loop.lb k0_t2_loop.ub k0_t2_loop.st = 9 from trips2]; rfl)) $$ Hst
  icases Hst with ⟨-, ⟨HxL, HiL, Hxv0, Hiv0, HsA⟩, Hx, Hi, Hxv1, Hiv1, HsB, ⟨Hf0, Hr0⟩, ⟨Hf1, Hr1⟩, Hd, -, HO⟩
  iapply (wp_awaitOut d i h11 sC (fo := fo)) $$ [Hf0 HO]
  · isplitr; · iexact Hmw
    isplitl [Hf0]; · iexact Hf0
    iexact HO
  iintro ⟨Ho0, Hp0, HsC, HO⟩
  iapply (wp_awaitOut d i h12 sD (fo := fo)) $$ [Hf1 HO]
  · isplitr; · iexact Hmw
    isplitl [Hf1]; · iexact Hf1
    iexact HO
  iintro ⟨Ho1, Hp1, HsD, HO⟩
  isplitl [HxL Hx]
  · iapply (pointsTo_share (PosShare.mem_left_op_right q)).2
    isplitl [HxL]; · iexact HxL
    iexact Hx
  isplitl [HiL Hi]
  · iapply (pointsTo_share (PosShare.mem_left_op_right q)).2
    isplitl [HiL]; · iexact HiL
    iexact Hi
  isplitl [Hp0 Hp1 Hd]
  · iapply (doneP_succ d i 17)
    isplitl [Hp1]; · iexact Hp1
    iapply (doneP_succ d i 16)
    isplitl [Hp0]; · iexact Hp0
    iexact Hd
  isplitl [Hxv0 Hxv1 Hiv0 Hiv1 Hr0 Hr1 Ho0 Ho1]
  · isplitl [Hxv0]; · iexact Hxv0
    isplitl [Hxv1]; · iexact Hxv1
    isplitl [Hiv0]; · iexact Hiv0
    isplitl [Hiv1]; · iexact Hiv1
    isplitl [Hr0]; · iexists _; iexact Hr0
    isplitl [Hr1]; · iexists _; iexact Hr1
    isplitl [Ho0]; · iexists _; iexact Ho0
    iexists _; iexact Ho1
  isplitl [HsA HsB HsC HsD]
  · isplitl [HsA]; · iexact HsA
    isplitl [HsB]; · iexact HsB
    isplitl [HsC]; · iexact HsC
    iexact HsD
  iexact HO

end Tile

end Cert.Proof
-- ==== Proof.Task.lean ====
/-
  A tile's own buffers and semaphores, and the tile's task from them.
-/
module

public import proofs.«01_k».proof.Proof.Tile
public import proofs.«01_k».proof.Proof.Unpool

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

section Own

variable (d : Dev nD) (c : Fin τ.nSC) (j : Fin τ.nSub)

/-- A whole buffer at some contents is its memref held at some contents. -/
theorem some_whole (b : Ref sig .scVector) :
    (iprop(∃ f, (V d c j).loc b ↦{fullShare} f) : sProp 𝕄) = iprop(∃ X, held d c j (Memref.whole b) X) := by
  have hs : (Memref.whole b).view.set = Finset.univ := View.set_whole _
  have h1 : (iprop(∃ f, (V d c j).loc b ↦{fullShare} f) : sProp 𝕄) ⊢ iprop(∃ X, held d c j (Memref.whole b) X) := by
    iintro ⟨%f, H⟩
    iexists ((Memref.whole b).view.read (Elt F) f)
    unfold held
    iexists f
    rw [hs]
    isplitl [H]; · iexact H
    ipureintro; rfl
  have h2 : (iprop(∃ X, held d c j (Memref.whole b) X) : sProp 𝕄) ⊢ iprop(∃ f, (V d c j).loc b ↦{fullShare} f) := by
    unfold held
    rw [hs]
    iintro ⟨%X, %f, H, -⟩
    iexists f
    iexact H
  exact BI.Entails.antisymm h1 h2

/-- The kernel's eight scratches. -/
abbrev scratches : Finset (Ref sig .scVector) :=
  {cc0_scratch0, cc0_scratch1, cc0_scratch2, cc0_scratch3, cc0_scratch4, cc0_scratch5, cc0_scratch6, cc0_scratch7}

abbrev scratchRefs : Finset (DevRef τ sig) := scratches.map ⟨(Proc.scVector c j).devRef, Proc.devRef_injective _⟩

theorem scratchRefs_sub : scratchRefs c j ⊆ ownRefs (τ := τ) (sig := sig) (.scVector c j) := by
  intro b hb
  obtain ⟨r, hr, rfl⟩ := Finset.mem_map.mp hb
  refine SparseCore.Cfg.mem_ownRefs_of_owner (p := Proc.scVector c j) (b := (Proc.scVector c j).devRef r) ?_
  simp only [scratches, Finset.mem_insert, Finset.mem_singleton] at hr
  rcases hr with rfl | rfl | rfl | rfl | rfl | rfl | rfl | rfl <;> rfl

theorem bigSep_scratches (Φ : Ref sig .scVector → sProp 𝕄) :
    bigSep scratches Φ = iprop(Φ cc0_scratch0 ∗ Φ cc0_scratch1 ∗ Φ cc0_scratch2 ∗ Φ cc0_scratch3 ∗ Φ cc0_scratch4 ∗ Φ cc0_scratch5 ∗ Φ cc0_scratch6 ∗ Φ cc0_scratch7) := by
  have h0 : (cc0_scratch0 : Ref sig .scVector) ∉ ({cc0_scratch1, cc0_scratch2, cc0_scratch3, cc0_scratch4, cc0_scratch5, cc0_scratch6, cc0_scratch7} : Finset (Ref sig .scVector)) := by decide
  have h1 : (cc0_scratch1 : Ref sig .scVector) ∉ ({cc0_scratch2, cc0_scratch3, cc0_scratch4, cc0_scratch5, cc0_scratch6, cc0_scratch7} : Finset (Ref sig .scVector)) := by decide
  have h2 : (cc0_scratch2 : Ref sig .scVector) ∉ ({cc0_scratch3, cc0_scratch4, cc0_scratch5, cc0_scratch6, cc0_scratch7} : Finset (Ref sig .scVector)) := by decide
  have h3 : (cc0_scratch3 : Ref sig .scVector) ∉ ({cc0_scratch4, cc0_scratch5, cc0_scratch6, cc0_scratch7} : Finset (Ref sig .scVector)) := by decide
  have h4 : (cc0_scratch4 : Ref sig .scVector) ∉ ({cc0_scratch5, cc0_scratch6, cc0_scratch7} : Finset (Ref sig .scVector)) := by decide
  have h5 : (cc0_scratch5 : Ref sig .scVector) ∉ ({cc0_scratch6, cc0_scratch7} : Finset (Ref sig .scVector)) := by decide
  have h6 : (cc0_scratch6 : Ref sig .scVector) ∉ ({cc0_scratch7} : Finset (Ref sig .scVector)) := by decide
  rw [SparseCore.bigSep_insert' h0, SparseCore.bigSep_insert' h1, SparseCore.bigSep_insert' h2, SparseCore.bigSep_insert' h3,
    SparseCore.bigSep_insert' h4, SparseCore.bigSep_insert' h5, SparseCore.bigSep_insert' h6, bigSep_singleton]

/-- A subcore's own buffers other than the scratches. -/
def otherBufs : sProp 𝕄 := bigSep (ownRefs (τ := τ) (.scVector c j) \ scratchRefs c j) fun b => iprop(∃ f, ((d, b) : Loc nD τ sig) ↦{fullShare} f)

theorem ownBufs_split :
    (ownBufs (V d c j) : sProp 𝕄)
      = iprop(((∃ X, held d c j (Memref.whole cc0_scratch0) X) ∗ (∃ X, held d c j (Memref.whole cc0_scratch1) X)
          ∗ (∃ X, held d c j (Memref.whole cc0_scratch2) X) ∗ (∃ X, held d c j (Memref.whole cc0_scratch3) X)
          ∗ (∃ X, held d c j (Memref.whole cc0_scratch4) X) ∗ (∃ X, held d c j (Memref.whole cc0_scratch5) X)
          ∗ (∃ X, held d c j (Memref.whole cc0_scratch6) X) ∗ (∃ X, held d c j (Memref.whole cc0_scratch7) X))
        ∗ otherBufs d c j) := by
  unfold SparseCore.Cfg.ownBufs otherBufs
  refine (SparseCore.bigSep_sdiff_split' (scratchRefs_sub c j)).trans ?_
  congr 1
  rw [bigSep_map]
  simp only [← some_whole]
  rw [bigSep_scratches]
  rfl

/-- The kernel's four semaphores. -/
abbrev sems : Finset (SemLoc sig) := {.dma cc0_scratch8.sem, .dma cc0_scratch9.sem, .dma cc0_scratch10.sem, .dma cc0_scratch11.sem}

abbrev semCells : Finset (GSem nD τ sig) := sems.map ⟨fun s => (V d c j, s), fun a b h => (Prod.mk.inj h).2⟩

theorem semCells_sub : semCells d c j ⊆ ownCells (V d c j) := by
  intro g hg
  obtain ⟨s, hs, rfl⟩ := Finset.mem_map.mp hg
  have hall : ∀ s ∈ sems, s.isScoped .scVector = true := by decide
  exact (mem_ownCells ..).mpr ⟨rfl, hall s hs⟩

def otherSems : sProp 𝕄 := bigSep (ownCells (V d c j) \ semCells d c j) fun g => semVal g 0

theorem ownSems_split :
    (ownSems0 (V d c j) : sProp 𝕄)
      = iprop((semVal (V d c j, SemLoc.dma cc0_scratch8.sem) 0 ∗ semVal (V d c j, SemLoc.dma cc0_scratch9.sem) 0
          ∗ semVal (V d c j, SemLoc.dma cc0_scratch10.sem) 0 ∗ semVal (V d c j, SemLoc.dma cc0_scratch11.sem) 0)
        ∗ otherSems d c j) := by
  unfold SparseCore.Cfg.ownSems0 otherSems
  refine (SparseCore.bigSep_sdiff_split' (semCells_sub d c j)).trans ?_
  congr 1
  rw [bigSep_map, sems, SparseCore.bigSep_insert' (by decide), SparseCore.bigSep_insert' (by decide), SparseCore.bigSep_insert' (by decide), bigSep_singleton]
  rfl

end Own

/-! ## A tile's share of the operands -/

section Task

variable (m : (ℓ : Loc nD τ sig) → Buf (Elt F) ℓ) (d : Dev nD)

/-- The share of each input the tile numbered `w` reads under. -/
def shareOf (w : Fin 32) : PosShare TreeShare := Transfers.dealOf fullShare Finset.univ w

/-- The unpooled last image. -/
def lastOut : S96x384x384.Idx → F .f32 := unp (m (xLoc d)) (m (iLoc d)) 3

def goRes (i : grid0.Coords) : sProp 𝕄 :=
  iprop((xLoc d ↦{shareOf (wid i)} m (xLoc d)) ∗ (iLoc d ↦{shareOf (wid i)} m (iLoc d)) ∗ todoP d i (m (oLoc d)) 0)

def tdRes (i : grid0.Coords) : sProp 𝕄 :=
  iprop((xLoc d ↦{shareOf (wid i)} m (xLoc d)) ∗ (iLoc d ↦{shareOf (wid i)} m (iLoc d)) ∗ doneP d i (lastOut m d) 18)

/-- Every index of the second argument lies in its element's window. -/
def PreOK : Prop := ∀ d, InWindow (m (iLoc d))

set_option maxHeartbeats 1000000 in
/-- A tile's task: from its shares of the inputs and its part of the output to that part unpooled. -/
theorem wp_task (i : grid0.Coords) (hF : (K (F := F)).Facts) (hpre : PreOK m) (O : CellTallies nD τ sig (HIx 1)) (W : Waits sig (HIx 1)) (hO : ∀ g, O g none = 0) :
    iprop(levAts (K (F := F)).L (K (F := F)).lev ∗ emp ∗ goRes m d i
        ∗ scopedBufs (V d ((i 0).castLE hcore0) ((i 1).castLE hsub0)) ∗ scopedSems0 (V d ((i 0).castLE hcore0) ((i 1).castLE hsub0))
        ∗ owes (V d ((i 0).castLE hcore0) ((i 1).castLE hsub0)) O W)
      ⊢ wp frame (wpE (defs₀ (F := F)) 𝒱₀ (V d ((i 0).castLE hcore0) ((i 1).castLE hsub0)) none) Set.univ
          (cc0__sc_body i (Memref.whole main_arg0_scv) (Memref.isWhole_whole _) (Memref.whole main_arg1_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) cc0_scratch8 cc0_scratch9 cc0_scratch10 cc0_scratch11)
          fun _ => iprop(tdRes m d i
            ∗ scopedBufs (V d ((i 0).castLE hcore0) ((i 1).castLE hsub0)) ∗ scopedSems0 (V d ((i 0).castLE hcore0) ((i 1).castLE hsub0))
            ∗ ∃ W', ⌜∀ p ∈ W', p ∈ W ∨ p.2 = none⌝ ∗ owes (V d ((i 0).castLE hcore0) ((i 1).castLE hsub0)) O W') := by
  rw [body_eq, (K (F := F)).scopedBufs_V hF d _ _, SparseCore.Cfg.scopedSems0_V (Val := Elt F) d _ _, ownSems_split, ownBufs_split]
  unfold goRes tdRes
  iintro ⟨#Hlv, -, ⟨Hx, Hi, Ht⟩, ⟨Hs, Hbufs⟩, ⟨Hsem, Hsems⟩, HO⟩
  ihave Hmw := (show levAts (K (F := F)).L (K (F := F)).lev ⊢ Transfers.MayWaits (V d ((i 0).castLE hcore0) ((i 1).castLE hsub0)) (default : HIx 1) O from
    (K (F := F)).mayWaits_none (thr := V d ((i 0).castLE hcore0) ((i 1).castLE hsub0)) hO) $$ Hlv
  have hrun := wp_tileProg d i (arg5 := Memref.whole cc0_scratch0) (arg6 := Memref.whole cc0_scratch1) (arg7 := Memref.whole cc0_scratch2)
    (arg8 := Memref.whole cc0_scratch3) (arg9 := Memref.whole cc0_scratch4) (arg10 := Memref.whole cc0_scratch5)
    (arg11 := Memref.whole cc0_scratch6) (arg12 := Memref.whole cc0_scratch7)
    (sA := cc0_scratch8) (sB := cc0_scratch9) (sC := cc0_scratch10) (sD := cc0_scratch11)
    (q := shareOf (wid i)) (fx := m (xLoc d)) (fi := m (iLoc d)) (f₀ := m (oLoc d)) (fo := lastOut m d) (O := O) (W := W)
    (Memref.isWhole_whole _) (Memref.isWhole_whole _) (Memref.isWhole_whole _) (Memref.isWhole_whole _) (Memref.isWhole_whole _) (Memref.isWhole_whole _)
    (by decide) (by decide) (fun t _ => good_chunk (hpre d) (wid i) t) (fun t ht => put_chunk (hpre d) _ (wid i) t)
  iapply (wp_wand_r frame _ Set.univ)
  isplitl [Hmw Hx Hi Ht Hs Hsem HO]
  · iapply hrun
    isplitl [Hmw]; · iexact Hmw
    isplitl [Hx]; · iexact Hx
    isplitl [Hi]; · iexact Hi
    isplitl [Ht]; · iexact Ht
    isplitl [Hs]; · iexact Hs
    isplitl [Hsem]; · iexact Hsem
    unfold owed
    iexists W
    isplitr
    · ipureintro; exact fun p hp => .inl hp
    · iexact HO
  · iintro %a ⟨Hx, Hi, Ht, Hs, Hsem, HO⟩
    isplitl [Hx Hi Ht]
    · isplitl [Hx]; · iexact Hx
      isplitl [Hi]; · iexact Hi
      iexact Ht
    isplitl [Hs Hbufs]
    · isplitl [Hs]; · iexact Hs
      iexact Hbufs
    isplitl [Hsem Hsems]
    · isplitl [Hsem]; · iexact Hsem
      iexact Hsems
    unfold owed
    iexact HO

end Task

end Cert.Proof
-- ==== Proof.Call.lean ====
/-
  The SparseCore call: what its handshakes carry, its tasks, and its operands split among the tiles.
-/
module

public import proofs.«01_k».proof.Proof.Task

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

variable (m : (ℓ : Loc nD τ sig) → Buf (Elt F) ℓ)

/-! ## What the handshakes carry -/

/-- The tile of SparseCore `c` and subcore `i`, numbered as the kernel numbers it. -/
def tileNo (c : Fin 2) (i : Fin 16) : Fin 32 := ⟨2 * i.val + c.val, by omega⟩

/-- The tiles counted core by core are the tiles. -/
def tileEquiv : Fin 2 × Fin 16 ≃ Fin 32 where
  toFun p := tileNo p.1 p.2
  invFun w := (⟨w.val % 2, by omega⟩, ⟨w.val / 2, by omega⟩)
  left_inv p := by
    obtain ⟨c, i⟩ := p
    refine Prod.ext (Fin.ext ?_) (Fin.ext ?_) <;> simp only [tileNo] <;> omega
  right_inv w := Fin.ext (by simp only [tileNo]; omega)

/-- What the tile numbered `w` is handed; -/
def goW (d : Dev nD) (w : Fin 32) : sProp 𝕄 :=
  iprop((xLoc d ↦{shareOf w} m (xLoc d)) ∗ (iLoc d ↦{shareOf w} m (iLoc d))
    ∗ bigSep (Finset.range 18) fun t => oLoc d ↦[oSet w t]{fullShare} m (oLoc d))

/-- and what it brings back. -/
def tdW (d : Dev nD) (w : Fin 32) : sProp 𝕄 :=
  iprop((xLoc d ↦{shareOf w} m (xLoc d)) ∗ (iLoc d ↦{shareOf w} m (iLoc d))
    ∗ bigSep (Finset.range 18) fun t => oLoc d ↦[oSet w t]{fullShare} lastOut m d)

instance goW_storable (d : Dev nD) (w : Fin 32) : BI.Storable (upEmb : UEmb _ 𝕄) (goW m d w) := by
  unfold goW; infer_instance

instance tdW_storable (d : Dev nD) (w : Fin 32) : BI.Storable (upEmb : UEmb _ 𝕄) (tdW m d w) := by
  unfold tdW; infer_instance

theorem goRes_eq (d : Dev nD) (i : grid0.Coords) : goRes m d i = goW m d (wid i) := by
  unfold goRes goW todoP
  rw [Finset.range_eq_Ico]

theorem tdRes_eq (d : Dev nD) (i : grid0.Coords) : tdRes m d i = tdW m d (wid i) := by
  unfold tdRes tdW doneP
  rfl

theorem nCore_zero : (K (F := F)).nCore 0 = 2 := rfl

/-- A SparseCore takes what its tiles take, and brings back what they bring. -/
def P : (K (F := F)).Pay (nD := nD) (Val := Elt F) (Name := ℕ) (U := UU) where
  st := fun q d c => match q with | 0 => bigSep Finset.univ fun i : Fin 16 => goW m d (tileNo (Fin.cast nCore_zero c) i)
  dn := fun q d c => match q with | 0 => bigSep Finset.univ fun i : Fin 16 => tdW m d (tileNo (Fin.cast nCore_zero c) i)
  go := fun q d c i => match q with | 0 => goW m d (tileNo (Fin.cast nCore_zero c) (Fin.cast nSub_zero i))
  td := fun q d c i => match q with | 0 => tdW m d (tileNo (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => goW m d (tileNo (Fin.cast nCore_zero c) i)))
  dn q d c := match q with
    | 0 => (inferInstance : BI.Storable (upEmb : UEmb _ 𝕄) (bigSep Finset.univ fun i : Fin 16 => tdW m d (tileNo (Fin.cast nCore_zero c) i)))
  go q d c i := match q with
    | 0 => (inferInstance : BI.Storable (upEmb : UEmb _ 𝕄) (goW m d (tileNo (Fin.cast nCore_zero c) (Fin.cast nSub_zero i))))
  td q d c i := match q with
    | 0 => (inferInstance : BI.Storable (upEmb : UEmb _ 𝕄) (tdW m d (tileNo (Fin.cast nCore_zero c) (Fin.cast nSub_zero i))))

/-! ## The tasks -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          (Memref.whole main_arg0_scv) (Memref.isWhole_whole _) (Memref.whole main_arg1_scv) (Memref.isWhole_whole _) (Memref.whole main_v0_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) cc0_scratch8 cc0_scratch9 cc0_scratch10 cc0_scratch11) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := wp_task m d (coordsV ⟨_, hci.1⟩ ⟨_, hci.2⟩) hF hpre O W hO
  rw [goRes_eq, tdRes_eq] at h
  exact h.trans (wp_mono frame _ _ fun _ => obl_post)

/-- The tiles of a SparseCore take all it was given, and what they bring is all it returns. -/
theorem vecSplit : (K (F := F)).VecSplit' (P m) 0 := by
  intro d c
  show (bigSep Finset.univ fun i : Fin 16 => goW m d (tileNo (Fin.cast nCore_zero c) i)) ⊢ |={Set.univ}=> iprop(
      (bigSep Finset.univ fun i : Fin 16 => goW m d (tileNo (Fin.cast nCore_zero c) i))
      ∗ ((bigSep Finset.univ fun i : Fin 16 => tdW m d (tileNo (Fin.cast nCore_zero c) i))
          -∗ (bigSep Finset.univ fun i : Fin 16 => tdW m d (tileNo (Fin.cast nCore_zero c) i))))
  iintro H; imodintro
  isplitl [H]; · iexact H
  iintro H; iexact H

/-! ## The operands of the whole call -/

theorem oSet_disjoint (p : Fin 32 × Nat) (hp : p ∈ (Finset.univ : Finset (Fin 32)) ×ˢ Finset.range 18)
    (p' : Fin 32 × Nat) (hp' : p' ∈ (Finset.univ : Finset (Fin 32)) ×ˢ Finset.range 18) (hne : p ≠ p') :
    Disjoint (oSet p.1 p.2) (oSet p'.1 p'.2) := by
  rw [Finset.disjoint_left]
  intro y h h'
  have ht := Finset.mem_range.mp (Finset.mem_product.mp hp).2
  have ht' := Finset.mem_range.mp (Finset.mem_product.mp hp').2
  have e := (mem_oSet _ _ _).mp h
  have e' := (mem_oSet _ _ _).mp h'
  refine hne (Prod.ext (Fin.ext ?_) ?_) <;> omega

set_option maxRecDepth 16384 in
theorem oSet_cover : ((Finset.univ : Finset (Fin 32)) ×ˢ Finset.range 18).biUnion (fun p => oSet p.1 p.2) = Finset.univ := by
  ext y
  rw [Finset.mem_biUnion]
  refine iff_of_true ?_ (Finset.mem_univ y)
  have h0 : (y 0).val < 96 := (y 0).isLt
  have h1 : (y 1).val < 384 := (y 1).isLt
  refine ⟨(⟨(y 0).val / 3, by omega⟩, (y 0).val % 3 * 6 + (y 1).val / 64), ?_, ?_⟩
  · exact Finset.mem_product.mpr ⟨Finset.mem_univ _, Finset.mem_range.mpr (by show (y 0).val % 3 * 6 + (y 1).val / 64 < 18; omega)⟩
  · rw [mem_oSet]
    refine ⟨?_, ?_⟩ <;> dsimp only <;> omega

theorem out_parts (d : Dev nD) (f : Buf (Elt F) (oLoc d)) :
    (oLoc d ↦{fullShare} f : sProp 𝕄) = bigSep Finset.univ fun w : Fin 32 => bigSep (Finset.range 18) fun t => oLoc d ↦[oSet w t]{fullShare} f := by
  have h := pointsTo_biUnion (Ix := HIx 1) (Val := Elt F) (Name := ℕ) (U := UU) (Lvl := ℕ) (ℓ := oLoc d) (q := fullShare) (f := f)
    ((Finset.univ : Finset (Fin 32)) ×ˢ Finset.range 18) (fun p => oSet p.1 p.2) oSet_disjoint
  rw [oSet_cover] at h
  rw [h, SparseCore.bigSep_product]

theorem in_shares {ℓ : Loc nD τ sig} (f : Buf (Elt F) ℓ) :
    (ℓ ↦{fullShare} f : sProp 𝕄) = bigSep Finset.univ fun w : Fin 32 => ℓ ↦{shareOf w} f :=
  Transfers.pointsTo_deal Finset.univ ⟨0, Finset.mem_univ _⟩ fullShare

theorem go_all (d : Dev nD) :
    (bigSep Finset.univ fun c : Fin ((K (F := F)).nCore 0) => (P m).st 0 d c)
      = iprop((xLoc d ↦{fullShare} m (xLoc d)) ∗ (iLoc d ↦{fullShare} m (iLoc d)) ∗ oLoc d ↦{fullShare} m (oLoc d)) := by
  show (bigSep Finset.univ fun c : Fin 2 => bigSep Finset.univ fun i : Fin 16 => goW m d (tileEquiv (c, i))) = _
  rw [← bigSep_univ_prod (fun p : Fin 2 × Fin 16 => goW m d (tileEquiv p)), ← bigSep_univ_equiv tileEquiv]
  unfold goW
  rw [bigSep_sep', bigSep_sep', ← in_shares, ← in_shares, ← out_parts]

theorem td_all (d : Dev nD) :
    (bigSep Finset.univ fun c : Fin ((K (F := F)).nCore 0) => (P m).dn 0 d c)
      = iprop((xLoc d ↦{fullShare} m (xLoc d)) ∗ (iLoc d ↦{fullShare} m (iLoc d)) ∗ oLoc d ↦{fullShare} lastOut m d) := by
  show (bigSep Finset.univ fun c : Fin 2 => bigSep Finset.univ fun i : Fin 16 => tdW m d (tileEquiv (c, i))) = _
  rw [← bigSep_univ_prod (fun p : Fin 2 × Fin 16 => tdW m d (tileEquiv p)), ← bigSep_univ_equiv tileEquiv]
  unfold tdW
  rw [bigSep_sep', bigSep_sep', ← in_shares, ← in_shares, ← out_parts]

end Cert.Proof
-- ==== Proof.Region.lean ====
/-
  The TensorCore call: its body at a grid point, its data, and the call as a region of the main program.
-/
module

public import proofs.«01_k».proof.Proof.Call
public import proofs.«01_k».proof.Proof.Gen.KernelIdeal.Points
public import proofs.«01_k».proof.Proof.Gen.KernelIdeal.Launch
public import Idealize.ShloMosaic.Lib.Pipeline.Value
public import Idealize.ShloMosaic.Lib.Pipeline.FrameBody
public import Idealize.ShloMosaic.Lib.Pipeline.Regions

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-! ## The body -/

/-- The block the body leaves, of the values' block and the indices'. -/
def tcOut (x : Vec F S1x1x192x192 .f32) (ix : Vec F S1x1x192x192 .i32) : Vec F S1x1x384x384 .f32 :=
  k1_pay1 (k1_pay7 x ix) (k1_pay8 x ix) (k1_pay9 x ix) (k1_pay10 x ix) (iota .tc S192x384 32 [1] iota_S192x384_d1_w32)
    (k1_pay11 (F := F)) k1_pay12 k1_pay13

theorem zeros4 : (![0, 0, 0, 0] : Fin 4 → Nat) = fun _ => 0 := funext fun a => by fin_cases a <;> rfl

section Owned

variable (c : Thread nD τ) {sp : CoreSpace} {s : Shape} {e : EltTy} {M : Memref sig c.2.kind sp s e} {X : s.Idx → Elt F e} {α : Type}

/-- A load of the whole of a memref reads what it is owned at. -/
theorem owns_load {Q : α → sProp 𝕄} {off : Fin s.rank → Nat} {hin : ∀ a, off a + s.size a ≤ s.size a} (hoff : off = fun _ => 0)
    {hl : M.view.LoadsAt (Rect.unit off s.size hin).toLoadRect} {k : (s.Idx → Elt F e) → Prog (TpuEff nD τ sig (Elt F) Λ₀ c.2) α} :
    (owns c M fullShare X : sProp 𝕄)
      ⊢ iprop((owns c M fullShare X -∗ wp frame (wpE (defs₀ (F := F)) 𝒱₀ c none) Set.univ (k X) Q)
        -∗ wp frame (wpE (defs₀ (F := F)) 𝒱₀ c none) Set.univ (.op (.load M (Rect.unit off s.size hin).toLoadRect hl) k) Q) := by
  unfold owns
  iintro ⟨%f, %hf, H⟩ Hk
  iapply (wp_load_rect (defs := defs₀ (F := F)) 𝒱₀ c none Set.univ (m := M) (r := Rect.unit off s.size hin) (hl := hl) (k := k)
    (q := fullShare) (f := f) (S := M.view.set) (View.set_slice_subset _ _)) $$ H
  iintro H
  have e1 : (M.access (Rect.unit off s.size hin)).read (Elt F) f = X := by
    rw [← hf]
    exact View.ld_unit_zero hoff hin (M.view.read (Elt F) f)
  rw [e1]
  iapply Hk
  iexists f
  isplitr
  · ipureintro; exact hf
  · iexact H

/-- A store of the whole of a memref leaves it owned at the payload. -/
theorem owns_store {Q : α → sProp 𝕄} {off : Fin s.rank → Nat} {hin : ∀ a, off a + s.size a ≤ s.size a} (hoff : off = fun _ => 0)
    {w : s.Idx → Elt F e} {hx : (M.access (Rect.unit off s.size hin)).Stores Finset.univ}
    {hm : (Finset.univ : Finset s.Idx) = Finset.univ ∨ ∀ a, (Rect.unit off s.size hin).stride a = 1}
    {k : PUnit → Prog (TpuEff nD τ sig (Elt F) Λ₀ c.2) α} :
    (owns c M fullShare X : sProp 𝕄)
      ⊢ iprop((owns c M fullShare w -∗ wp frame (wpE (defs₀ (F := F)) 𝒱₀ c none) Set.univ (k ⟨⟩) Q)
        -∗ wp frame (wpE (defs₀ (F := F)) 𝒱₀ c none) Set.univ (.op (.store M (Rect.unit off s.size hin) w Finset.univ hx hm) k) Q) := by
  unfold owns
  iintro ⟨%f, %hf, H⟩ Hk
  iapply (wp_store (defs := defs₀ (F := F)) 𝒱₀ c none Set.univ (m := M) (r := Rect.unit off s.size hin) (w := w) (hx := hx) (hm := hm) (k := k)
    (f := f) (S := M.view.set) ((View.setOn_subset_set _ _).trans (View.set_slice_subset _ _))) $$ H
  iintro H
  iapply Hk
  iexists ((M.access (Rect.unit off s.size hin)).write (Elt F) f w Finset.univ)
  isplitr
  · ipureintro
    funext y
    have hy : (Rect.unit off s.size hin).emb y = y := by
      subst hoff
      funext a
      exact Fin.ext (by show 0 + 1 * (y a).val = (y a).val; omega)
    have h := View.read_slice_write_emb (v := M.view) (Val := Elt F) (Rect.unit off s.size hin) f w (Finset.mem_univ y)
    rw [hy] at h
    exact h
  · iexact H

end Owned

/-- The body reads the two input blocks and writes `tcOut` of them. -/
theorem wp_tcBody (c : Dev nD) (i : grid1.Coords)
    (M1 : Memref sig .tc .vmem S1x1x192x192 .f32) (h1 : M1.IsWhole) (M2 : Memref sig .tc .vmem S1x1x192x192 .i32) (h2 : M2.IsWhole)
    (M3 : Memref sig .tc .vmem S1x1x384x384 .f32) (h3 : M3.IsWhole)
    (x : Vec F S1x1x192x192 .f32) (ix : Vec F S1x1x192x192 .i32) (z : Vec F S1x1x384x384 .f32) (Q : PUnit → sProp 𝕄) :
    iprop(owns (c : Thread nD τ) M1 fullShare x ∗ owns (c : Thread nD τ) M2 fullShare ix ∗ owns (c : Thread nD τ) M3 fullShare z
        ∗ (iprop(owns (c : Thread nD τ) M1 fullShare x ∗ owns (c : Thread nD τ) M2 fullShare ix ∗ owns (c : Thread nD τ) M3 fullShare (tcOut x ix)) -∗ Q ⟨⟩))
      ⊢ wp frame (wpE (defs₀ (F := F)) 𝒱₀ (c : Thread nD τ) none) Set.univ (cc1__tc_body i M1 h1 M2 h2 M3 h3) Q := by
  rw [cc1__tc_body_eq_skeleton]
  unfold cc1__tc_body_skel
  rw [k1_part1_eq_skeleton]
  unfold k1_part1_skel
  iintro ⟨H1, H2, H3, Hk⟩
  simp only [Prog.lift, Prog.bind_assoc, Prog.bind_op, Prog.bind_ret]
  iapply (owns_load (c : Thread nD τ) zeros4) $$ H1
  iintro H1
  iapply (owns_load (c : Thread nD τ) zeros4) $$ H2
  iintro H2
  iapply (owns_load (c : Thread nD τ) zeros4) $$ H3
  iintro H3
  iapply (owns_store (c : Thread nD τ) zeros4) $$ H3
  iintro H3
  rw [wp_pure]
  imodintro
  iapply Hk
  isplitl [H1]; · iexact H1
  isplitl [H2]; · iexact H2
  iexact H3

/-! ## The call's data -/

/-- The region's ghost state, within the launch's. -/
abbrev EP : Emb (UR sig nD τ) 𝕄 := (Emb.inl : Emb (UR sig nD τ) (UR sig nD τ × Counters)).trans embR

/-- The one pipeline's side conditions. -/
abbrev adm : (p : Fin 1) → (pcfgs (F := F) p).Adm := fun p => (cfgs p).toPCfg_adm

section Data

variable (m : (ℓ : Loc nD τ sig) → Buf (Elt F) ℓ)

/-- What the call writes: at a plane, what the body leaves of the plane's blocks. -/
def xBlk (d : Dev nD) (t : Fin cfg1.N) : Vec F S1x1x192x192 .f32 := ((cfg1.win 0).blk t).view.read (Elt F) (m ((d : Thread nD τ).loc main_arg0))
def iBlk (d : Dev nD) (t : Fin cfg1.N) : Vec F S1x1x192x192 .i32 := ((cfg1.win 1).blk t).view.read (Elt F) (m ((d : Thread nD τ).loc main_arg1))

/-- The call's proof data: the arrays as the call finds them, and after the body the inputs' blocks as fetched and the
    output's at `tcOut` of them. -/
def dat (d : Dev nD) : Dat τ (Elt F) (HIx 1) ℕ UU ℕ cfg1 d where
  A w := m ((d : Thread nD τ).loc (Pipeline.arrRef spec1 w))
  after w t := match w with
    | ⟨0, _⟩ => xBlk m d t
    | ⟨1, _⟩ => iBlk m d t
    | ⟨2, _⟩ => tcOut (xBlk m d t) (iBlk m d t)
  Φ _ := Pipeline.scopedRest (Ix := HIx 1) (Name := ℕ) (U := UU) (Lvl := ℕ) (Val := Elt F) spec1 d
  q _ := fullShare
  owed _ := 0
  recorded _ := {p | (K (F := F)).lev ((SparseCore.T d, p.1) : GSem nD τ sig) p.2 ≤ 8}

def pdats : (p : Fin 1) → (c : Dev nD) → Dat τ (Elt F) (HIx 1) ℕ UU ℕ (Pipeline.pin (pcfgs (F := F)) adm p) c
  | ⟨0, _⟩ => fun c => dat m c

theorem before_x (c : Dev nD) (t : Fin cfg1.N) (d) : (dat m c).before 0 t d = xBlk m c t :=
  ((dat m c).before_fetched 0 t (fetch1_0 t) d).trans rfl

theorem before_i (c : Dev nD) (t : Fin cfg1.N) (d) : (dat m c).before 1 t d = iBlk m c t :=
  ((dat m c).before_fetched 1 t (fetch1_1 t) d).trans rfl

theorem body_obligation (c : Dev nD) : BodyObligation (dat m c) (defs₀ (F := F)) 𝒱₀ none Set.univ := fun t => by
  rw [bigSep_W1, bigSep_W1]
  rw [show (dat m c).Φ t.succ = (dat m c).Φ t.castSucc from rfl,
    show (dat m c).owesAt none t.succ = (dat m c).owesAt none t.castSucc from rfl]
  iintro ⟨HΦ, Howes, ⟨%d0, H0⟩, ⟨%d1, H1⟩, ⟨%d2, H2⟩⟩
  rw [before_x, before_i]
  iapply (wp_tcBody c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (xBlk m c t) (iBlk m c t) _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-- The output's array after the call. -/
def tcVal (d : Dev nD) : Buf (Elt F) ((d : Thread nD τ).loc main_v1) := (dat m d).arrAt 2 cfg1.N

/-- What the call is entered with: its three arrays and nothing owed; what it leaves: the output's array written. -/
def regPre (d : Dev nD) : sProp 𝕄 :=
  iprop((((d : Thread nD τ).loc main_arg0) ↦{fullShare} m ((d : Thread nD τ).loc main_arg0))
    ∗ (((d : Thread nD τ).loc main_arg1) ↦{fullShare} m ((d : Thread nD τ).loc main_arg1))
    ∗ (((d : Thread nD τ).loc main_v1) ↦{fullShare} m ((d : Thread nD τ).loc main_v1))
    ∗ ∃ W, ⌜(K (F := F)).WBelow (SparseCore.T d) W 8⌝ ∗ owes (d : Thread nD τ) (0 : CellTallies nD τ sig (HIx 1)) W)

def regPost (d : Dev nD) : sProp 𝕄 :=
  iprop((((d : Thread nD τ).loc main_arg0) ↦{fullShare} m ((d : Thread nD τ).loc main_arg0))
    ∗ (((d : Thread nD τ).loc main_arg1) ↦{fullShare} m ((d : Thread nD τ).loc main_arg1))
    ∗ (((d : Thread nD τ).loc main_v1) ↦{fullShare} tcVal m d)
    ∗ ∃ W, ⌜(K (F := F)).WBelow (SparseCore.T d) W 8⌝ ∗ owes (d : Thread nD τ) (0 : CellTallies nD τ sig (HIx 1)) W)

theorem arrays_dat (d : Dev nD) (A : (w : Fin cfg1.W) → Buf (Elt F) ((cfg1.spec w).arr.view.loc (d : Thread nD τ))) :
    ((dat m d).arrays A : sProp 𝕄)
      = iprop((((d : Thread nD τ).loc main_arg0) ↦{fullShare} A 0) ∗ (((d : Thread nD τ).loc main_arg1) ↦{fullShare} A 1)
        ∗ (((d : Thread nD τ).loc main_v1) ↦{fullShare} A 2)) :=
  (Pipeline.arrays_eq (Pipeline.pin (pcfgs (F := F)) adm) (pdats m) 0 d launch1.arr_whole ((dat m d).share_full fun _ => rfl) A).trans
    (bigSep_W1 _)

set_option backward.isDefEq.respectTransparency.types false in
def reg : Pipeline.RegionSeg (pcfgs (F := F)) adm (pdats m) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation m c).loose
  hwaits := Pipeline.hwaits_of_owed_zero _ _ _ _ (K (F := F)).L (K (F := F)).lev 0 fun _ _ => rfl
  pre c := regPre m c
  post c := regPost m c
  X _ := BI.emp
  Y _ := BI.emp
  Z _ := BI.emp
  hentry c := by
    rw [Pipeline.ownSems0_none]
    rw [show (pdats m 0 c).arrays ((pdats m 0 c).arrAt · 0) = _ from arrays_dat m c _]
    unfold regPre
    iintro ⟨⟨Hx, Hi, Ho, HO⟩, -, -⟩
    imodintro
    isplitl [Hx Hi Ho]
    · isplitl [Hx]; · iexact Hx
      isplitl [Hi]; · iexact Hi
      iexact Ho
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats m 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats m 0 c).Φ (Fin.last _)
      = Pipeline.scopedRest (Ix := HIx 1) (Name := ℕ) (U := UU) (Lvl := ℕ) (Val := Elt F) spec1 c from rfl]
    iintro Hr
    isplitr; · iempintro
    isplitr; · iempintro
    iexact Hr
  hexit c := by
    rw [show (pdats m 0 c).arrays ((pdats m 0 c).arrAt · _) = _ from arrays_dat m c _]
    unfold regPost
    have h0 : (dat m c).arrAt 0 cfg1.N = m ((c : Thread nD τ).loc main_arg0) := (dat m c).arrAt_in 0 rfl _
    have h1 : (dat m c).arrAt 1 cfg1.N = m ((c : Thread nD τ).loc main_arg1) := (dat m c).arrAt_in 1 rfl _
    rw [← h0, ← h1]
    iintro ⟨⟨Hx, Hi, Ho⟩, HO, -, -⟩
    imodintro
    isplitl [Hx]; · iexact Hx
    isplitl [Hi]; · iexact Hi
    isplitl [Ho]; · iexact Ho
    unfold Pipeline.Dat.owesAt Pipeline.owesWithin
    icases HO with ⟨%W, %hW, HO⟩
    iexists W
    isplitr
    · ipureintro
      intro p hp
      rcases hW hp with h | ⟨w, s, rfl⟩
      · exact h
      · exact Nat.zero_le _
    · iexact HO

end Data

end Cert.Proof
-- ==== Proof.Main.lean ====
/-
  The main program: the SparseCore call, the TensorCore call as a region, and the two host operations that join them;
  and the program's run.
-/
module

public import proofs.«01_k».proof.Proof.Region

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

instance EP_landsIn : (EP (F := F)).LandsIn (upEmb : UEmb _ 𝕄) := by unfold EP; infer_instance

variable (m : (ℓ : Loc nD τ sig) → Buf (Elt F) ℓ) (ρ : Dev nD → PrngReg)

abbrev vLoc (d : Dev nD) : Loc nD τ sig := (SparseCore.T d).loc main_v1
abbrev rLoc (d : Dev nD) : Loc nD τ sig := (SparseCore.T d).loc main_v2
abbrev fLoc (d : Dev nD) : Loc nD τ sig := (SparseCore.T d).loc main_v3

/-! ## The launch's ghost state -/

def u₀ : UU :=
  (initOf (K (F := F)).hsCells (K (F := F)).hsToks,
    (initOf (Pipeline.cells (Pipeline.pin (pcfgs (F := F)) adm) cellOf_inj)
      (Pipeline.launchToks (Pipeline.pin (pcfgs (F := F)) adm) cellOf_inj), 1))

/-- The region's ghost state on a device. -/
def G (d : Dev nD) : sProp 𝕄 :=
  iprop(Pipeline.cellsGhost (Pipeline.pin (pcfgs (F := F)) adm) EP 0 d ∗ Pipeline.toksInit (Pipeline.pin (pcfgs (F := F)) adm) EP 0 d)

theorem one_pipe (Φ : Fin 1 → Dev nD → sProp 𝕄) :
    (bigSep Finset.univ fun c : Dev nD => bigSep Finset.univ fun p : Fin 1 => Φ p c) = bigSep Finset.univ fun c : Dev nD => Φ 0 c :=
  bigSep_congr fun c _ => bigSep_univ_of_subsingleton (0 : Fin 1) (Φ := fun p => Φ p c)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (Pipeline.pin (pcfgs (F := F)) adm) cellOf_inj)
      (Pipeline.launchToks (Pipeline.pin (pcfgs (F := F)) adm) cellOf_inj), 1) : UR sig nD τ × Counters)) $$ Hu
  icases H with ⟨HH, HR⟩
  ihave HR := (own_pair_emb (embR : Emb (UR sig nD τ × Counters) 𝕄)
    (initOf (Pipeline.cells (Pipeline.pin (pcfgs (F := F)) adm) cellOf_inj)
      (Pipeline.launchToks (Pipeline.pin (pcfgs (F := F)) adm) cellOf_inj)) (1 : Counters)) $$ HR
  icases HR with ⟨HP, -⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep', ← one_pipe, ← one_pipe]
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The main program's pieces -/

theorem unscoped_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1)
      ∗ (oLoc d ↦{fullShare} W main_v0) ∗ (vLoc d ↦{fullShare} W main_v1) ∗ (rLoc d ↦{fullShare} W main_v2) ∗ fLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- After the call the TensorCore owes nothing; what else its state holds passes through the region. -/
theorem tcSt_after (d : Dev nD) : ∃ R : sProp 𝕄, ((K (F := F)).tcSt EH d 1 : sProp 𝕄)
    = iprop((∃ W, ⌜(K (F := F)).WBelow (SparseCore.T d) W 8⌝ ∗ owes (d : Thread nD τ) (0 : CellTallies nD τ sig (HIx 1)) W) ∗ R) := by
  have h : (K (F := F)).Otc d 1 = 0 := by
    unfold SparseCore.Cfg.Otc
    exact Finset.sum_eq_zero fun q _ => if_neg (by omega)
  unfold SparseCore.Cfg.tcSt
  rw [h]
  exact ⟨_, rfl⟩

/-- The call in the pipelines' own signature. -/
def second : Prog (TpuEff nD τ sig (Elt F) (ΛP (F := F)) .tc) PUnit := .op (.customCall (Pipeline.entry 0) ()) fun x => .ret x

theorem second_eq : (Prog.lift (.customCall (SparseCore.inner (Pipeline.entry 0)) ())
      : Prog (TpuEff nD τ sig (Elt F) (SparseCore.Sig (ΛP (F := F)) 1) .tc) PUnit)
    = SparseCore.liftProg (second (F := F)) := rfl

/-- The TensorCore call, run as its region. -/
theorem wp_second [∀ e, Nonempty (Elt F e)] (d : Dev nD) (Q : PUnit → sProp 𝕄) :
    iprop((iprop(boundary (d : Thread nD τ) ∗ regPost m d) -∗ Q ⟨⟩)
        ∗ boundary (d : Thread nD τ) ∗ regPre m d ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  rw [second_eq]
  refine BI.Entails.trans ?_ ((K (F := F)).wp_liftProg (D (F := F)) 𝒱 (SparseCore.T d) Set.univ none (second (F := F)) Q)
  unfold second
  unfold G
  have key : iprop((iprop(boundary (d : Thread nD τ) ∗ regPost m d)
          -∗ wp frame (wpE (D (F := F)) 𝒱 (d : Thread nD τ) none) Set.univ (.ret ⟨⟩) Q)
        ∗ boundary (d : Thread nD τ) ∗ regPre m d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d : Thread nD τ) none) Set.univ (.op (.customCall (Pipeline.entry 0) ()) fun x => .ret x) Q :=
    Pipeline.RegionSeg.wp (pcfgs (F := F)) adm (pdats m) none cellOf_inj EP defs₀ 𝒱₀ (K (F := F)).L (K (F := F)).lev
      (reg m) d none (fun _ h => nomatch h) (fun x => .ret x) Q
  refine BIBase.Entails.trans ?_ key
  iintro ⟨Hk, Hb, Hpre, HL, Hg, Ht⟩
  isplitl [Hk]
  · iintro H
    rw [wp_ret]
    imodintro
    iapply Hk
    iexact H
  isplitl [Hb]; · iexact Hb
  isplitl [Hpre]; · iexact Hpre
  isplitl [HL]; · iexact HL
  isplitl [Hg]; · iexact Hg
  iexact Ht

/-! ## The host operations -/

abbrev opR : HloOp τ sig (Elt F) :=
  StableHlo.reshape main_v0 main_v2 (rfl : (.f32 : EltTy) = .f32) shapeCasts_S96x384x384_S1x96x384x384
abbrev opC : HloOp τ sig (Elt F) :=
  StableHlo.binary main_v1 main_v2 main_v3 ((fun a b => concatenate S4x96x384x384 0 [⟨S3x96x384x384, a⟩, ⟨S1x96x384x384, b⟩]
    concatenates_S3x96x384x384_S1x96x384x384_S4x96x384x384_d0) : (⟨S3x96x384x384, .f32⟩ : BufTy).Contents (Elt F)
      → (⟨S1x96x384x384, .f32⟩ : BufTy).Contents (Elt F) → (⟨S4x96x384x384, .f32⟩ : BufTy).Contents (Elt F))

abbrev o' : DevRef τ sig := (main_v0 : DevRef τ sig)
abbrev v' : DevRef τ sig := (main_v1 : DevRef τ sig)
abbrev r' : DevRef τ sig := (main_v2 : DevRef τ sig)
abbrev f' : DevRef τ sig := (main_v3 : DevRef τ sig)

/-- The reshaped last plane block, and the whole result. -/
def lastVal (d : Dev nD) : Vec F S1x96x384x384 .f32 := shapeCast S1x96x384x384 (lastOut m d : Vec F S96x384x384 .f32) shapeCasts_S96x384x384_S1x96x384x384
def outVal (d : Dev nD) : Vec F S4x96x384x384 .f32 :=
  concatenate S4x96x384x384 0 [⟨S3x96x384x384, (tcVal m d : Vec F S3x96x384x384 .f32)⟩, ⟨S1x96x384x384, lastVal m d⟩]
    concatenates_S3x96x384x384_S1x96x384x384_S4x96x384x384_d0

/-- The valuations before the two operations. -/
def W1 (d : Dev nD) : Valuation τ sig (Elt F) := Function.update (fun b => m (d, b)) o' (lastOut m d)
def W2 (d : Dev nD) : Valuation τ sig (Elt F) := Function.update (Function.update (fun b => m (d, b)) v' (tcVal m d)) r' (lastVal m d)

theorem W1_o (d : Dev nD) : W1 m d o' = lastOut m d := Function.update_self _ _ _
theorem W1_r (d : Dev nD) : W1 m d r' = m (rLoc d) := Function.update_of_ne (show r' ≠ o' by decide) _ _
theorem W2_v (d : Dev nD) : W2 m d v' = tcVal m d :=
  (Function.update_of_ne (show v' ≠ r' by decide) _ _).trans (Function.update_self _ _ _)
theorem W2_r (d : Dev nD) : W2 m d r' = lastVal m d := Function.update_self _ _ _
theorem W2_f (d : Dev nD) : W2 m d f' = m (fLoc d) :=
  (Function.update_of_ne (show f' ≠ r' by decide) _ _).trans (Function.update_of_ne (show f' ≠ v' by decide) _ _)

theorem bufsR_eq (d : Dev nD) (W : Valuation τ sig (Elt F)) :
    (bigSep (opR (F := F)).bufs (fun b => ((d, b) : Loc nD τ sig) ↦{fullShare} W b) : sProp 𝕄)
      = iprop((oLoc d ↦{fullShare} W o') ∗ rLoc d ↦{fullShare} W r') := by
  show bigSep ({o', r'} : Finset (DevRef τ sig)) (fun b => ((d, b) : Loc nD τ sig) ↦{fullShare} W b) = _
  rw [SparseCore.bigSep_insert' (by decide), bigSep_singleton]

theorem bufsC_eq (d : Dev nD) (W : Valuation τ sig (Elt F)) :
    (bigSep (opC (F := F)).bufs (fun b => ((d, b) : Loc nD τ sig) ↦{fullShare} W b) : sProp 𝕄)
      = iprop((vLoc d ↦{fullShare} W v') ∗ (rLoc d ↦{fullShare} W r') ∗ fLoc d ↦{fullShare} W f') := by
  show bigSep ({v', r', f'} : Finset (DevRef τ sig)) (fun b => ((d, b) : Loc nD τ sig) ↦{fullShare} W b) = _
  rw [SparseCore.bigSep_insert' (by decide), SparseCore.bigSep_insert' (by decide), bigSep_singleton]

/-! ## The main program -/

abbrev FIN (d : Dev nD) : sProp 𝕄 :=
  iprop((xLoc d ↦{fullShare} m (xLoc d)) ∗ (iLoc d ↦{fullShare} m (iLoc d)) ∗ fLoc d ↦{fullShare} (outVal m d : Buf (Elt F) (fLoc d)))

set_option maxRecDepth 8192 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_after (F := F) d
  unfold SparseCore.Cfg.tcRes SparseCore.Cfg.tcEnd
  rw [unscoped_eq]
  simp only [main, wp_bind, wp_pure]
  iintro ⟨#Hctx, Hst, ⟨Hb, ⟨Hx, Hi, Ho, Hv, Hr, Hf⟩, Hts, -⟩, HG⟩
  iapply ((K (F := F)).wp_run (D (F := F)) 𝒱 (EH := EH) (P := P m) κ d 0) $$ [Hst Hx Hi Ho Hb Hv Hr Hf Hts HG]
  isplitr; · iexact Hctx
  isplitl [Hst]; · iexact Hst
  isplitl [Hx Hi Ho]
  · rw [go_all]
    isplitl [Hx]; · iexact Hx
    isplitl [Hi]; · iexact Hi
    iexact Ho
  iintro ⟨Hst, Hdn⟩
  ihave Hdn' := (Entails.of_eq (td_all m d)) $$ Hdn
  icases Hdn' with ⟨Hx, Hi, Ho⟩
  ihave Hst' := (Entails.of_eq (show (K (F := F)).tcSt EH d ((0 : Fin 1).val + 1) = _ from hR)) $$ Hst
  icases Hst' with ⟨HO, HR⟩
  iapply (wp_second m d)
  isplitr [Hb Hx Hi Hv HO HG]
  · unfold regPost
    iintro ⟨Hb, Hx, Hi, Hv, HO⟩
    iapply (wp_hlo 𝒱 (SparseCore.T d) none Set.univ (op := opR) (q := fun _ => fullShare) (F := W1 m d) (fun _ _ => rfl)) $$ [Hb Ho Hr]
    · isplitl [Hb]; · iexact Hb
      rw [bufsR_eq, W1_o, W1_r]
      isplitl [Ho]; · iexact Ho
      iexact Hr
    rw [bufsR_eq, show (opR (F := F)).result (W1 m d) r' = lastVal m d from
      (StableHlo.reshape_result _ _ _ _ _ _ _).trans (by rw [W1_o]; rfl)]
    iintro ⟨Hb, -, Hr⟩
    rw [wp_ret]; imodintro
    iapply (wp_hlo 𝒱 (SparseCore.T d) none Set.univ (op := opC) (q := fun _ => fullShare) (F := W2 m d) (fun _ _ => rfl)) $$ [Hb Hv Hr Hf]
    · isplitl [Hb]; · iexact Hb
      rw [bufsC_eq, W2_v, W2_r, W2_f]
      isplitl [Hv]; · iexact Hv
      isplitl [Hr]; · iexact Hr
      iexact Hf
    rw [bufsC_eq, show (opC (F := F)).result (W2 m d) f' = outVal m d from
      (StableHlo.binary_result _ _ _ _ _ _ _ _).trans (by rw [W2_v, W2_r]; rfl)]
    iintro ⟨Hb, -, -, Hf⟩
    rw [wp_ret]; imodintro; imodintro
    rw [hR]
    isplitl [HO HR]
    · isplitl [HO]; · iexact HO
      iexact HR
    isplitr [Hb Hts]
    · isplitl [Hx]; · iexact Hx
      isplitl [Hi]; · iexact Hi
      iexact Hf
    isplitl [Hb] <;> iassumption
  isplitl [Hb]; · iexact Hb
  isplitl [Hx Hi Hv HO]
  · unfold regPre
    isplitl [Hx]; · iexact Hx
    isplitl [Hi]; · iexact Hi
    isplitl [Hv]; · iexact Hv
    iexact HO
  isplitr
  · iapply ((K (F := F)).ctx_levAts (EH := EH) (P := P m) κ)
    iexact Hctx
  iexact HG

def fq (d : Dev nD) (s' : Phys nD τ sig (Elt F)) : Prop :=
  s'.mem.mem (fLoc d) = outVal m d ∧ s'.mem.mem (xLoc d) = m (xLoc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Hx, Hi, Hf⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := fLoc d) (I := Finset.univ) (q := fullShare) (f := outVal m d)) $$ [HSI Hf]
  · isplitl [HSI] <;> iassumption
  icases H with %h3
  ipureintro
  exact ⟨funext fun i => h3 i (Finset.mem_univ i), funext fun i => h1 i (Finset.mem_univ i), funext fun i => h2 i (Finset.mem_univ i)⟩

/-! ## The run -/

def QC : PUnit × MemSt nD τ sig (Elt F) → Prop := fun r =>
  (∀ c : Dev nD, r.2.mem (fLoc c) = outVal m c ∧ r.2.mem (xLoc c) = m (xLoc c) ∧ r.2.mem (iLoc c) = m (iLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof
-- ==== Proof.Same.lean ====
/-
  The kernel as printed and the kernel read at the ideal floats are one program.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem
variable {F : FTy → Type} [FloatOps F]

/-- The two programs' kernels are one table. -/
theorem defs₀_eq : (Cert.Kernel.defs₀ (F := F)) = Cert.KernelIdeal.defs₀ := by
  funext p ℓ a
  match p, ℓ, a with
  | .scVector c s, ⟨0, _⟩, _ => rfl
  | .scVector c s, ⟨1, _⟩, _ => rfl
  | .scScalar c, ⟨0, _⟩, _ => rfl
  | .scScalar c, ⟨1, _⟩, _ => rfl
  | .tc, ⟨0, _⟩, _ => rfl
  | .tc, ⟨1, _⟩, (t, s) => rfl

/-- So are their body tables. -/
theorem defs_eq : (Cert.Kernel.defs (F := F)) = Cert.KernelIdeal.defs :=
  congrArg (fun D => Cert.KernelIdeal.sc.defs (Pipeline.defs Cert.KernelIdeal.pcfgs D)) defs₀_eq

end Cert.Proof

end
-- ==== Proof.TcBlock.lean ====
/-
  The TensorCore call's block at the ideal values: each element of the block is its window's value where the window's word names
  the element, and zero elsewhere.
-/
module

public import proofs.«01_k».proof.Proof.Region
public import Idealize.ShloMosaic.Lib.MatmulPlain
public import Idealize.ShloMosaic.Lib.WordCmp

@[expose] public section

set_option maxRecDepth 16384

noncomputable section

namespace Cert.Proof

open Idealize.ShloMosaic
open Idealize.ShloMosaic.ValueIdx
open Idealize.ShloMosaic.WordCmp
open Cert.KernelIdeal Cert.KernelIdeal.Gen

/-! ## A selection matrix and the products with it -/

/-- A comparison's bit, widened and read as a number. -/
theorem bit_real (p : Prop) [Decidable p] :
    ((((BitVec.ofBool (decide p)).setWidth 32).toInt : ℝ) : EReal) = if p then 1 else 0 := by
  by_cases h : p <;> simp [h]

/-- The entry of a selection matrix: one where the two words agree. -/
theorem hot_apply {s : Shape} (x y : IVec s 32) (h : 1 < 32) (h' : FTy.bits .bf16 < FTy.bits .f32) (j : s.Idx) (a b : ℕ)
    (hx : x j = BitVec.ofNat 32 a) (hy : y j = BitVec.ofNat 32 b) (ha : a < 2 ^ 32) (hb : b < 2 ^ 32) :
    truncf (F := Ideal) .bf16 (sitofp (F := Ideal) .f32 (extui 32 (cmpi .eq x y) h)) h' j = (if a = b then (1 : EReal) else 0) := by
  show ((((IntOp.cmpi .eq (x j) (y j)).setWidth 32).toInt : ℝ) : EReal) = _
  rw [hx, hy, cmpi_eq_ofNat ha hb]
  exact bit_real _

/-- A sum against a selection column. -/
theorem sum_pick_right (f : Fin 192 → EReal) (n : Fin 384) (e : ℕ) (he : e < 2) :
    ∑ k : Fin 192, f k * (if n.val = 2 * k.val + e then (1 : EReal) else 0) = if n.val % 2 = e then f (half n) else 0 := by
  have hv : (half n).val = n.val / 2 := rfl
  by_cases h : n.val % 2 = e
  · rw [if_pos h, Finset.sum_eq_single (half n)]
    · rw [if_pos (by omega), mul_one]
    · intro k _ hk
      rw [if_neg (fun h2 => hk (Fin.ext (by omega))), mul_zero]
    · intro h2; exact absurd (Finset.mem_univ _) h2
  · rw [if_neg h]
    refine Finset.sum_eq_zero fun k _ => ?_
    rw [if_neg (by omega), mul_zero]

/-- A sum against a selection row. -/
theorem sum_pick_left (f : Fin 192 → EReal) (n : Fin 384) (e : ℕ) (he : e < 2) :
    ∑ k : Fin 192, (if n.val = 2 * k.val + e then (1 : EReal) else 0) * f k = if n.val % 2 = e then f (half n) else 0 := by
  rw [← sum_pick_right f n e he]
  exact Finset.sum_congr rfl fun k _ => mul_comm _ _

/-- A block times a selection matrix: the columns spread out. -/
theorem mm_right (a : FVec Ideal S192x192 .bf16) (b : FVec Ideal S192x384 .bf16) (e : ℕ) (he : e < 2)
    (hb : ∀ (i : Fin 192) (c : Fin 384), b (ix2 i c) = (if c.val = 2 * i.val + e then (1 : EReal) else 0)) (i : Fin 192) (c : Fin 384) :
    matmul (F := Ideal) dot_S192x192_S192x384_S192x384_1_0_0_1_n_n none a b (constant (F := Ideal) S192x384 .f32 0x00000000#32) (ix2 i c)
      = (if c.val % 2 = e then (a (ix2 i (half c)) : EReal) else 0) := by
  refine (Ideal.matmul_plain_apply (M := 192) (K := 192) (N := 384) none a b _ i c).trans ?_
  show Ideal.ofBits .f32 0x00000000#32 + _ = _
  rw [Ideal.ofBits_zero_f32, zero_add, ← sum_pick_right (fun k => a (ix2 i k)) c e he]
  exact Finset.sum_congr rfl fun k _ => by rw [hb]

/-- A selection matrix times a block: the rows spread out. -/
theorem mm_left (l : FVec Ideal S384x192 .bf16) (b : FVec Ideal S192x384 .bf16) (e : ℕ) (he : e < 2)
    (hl : ∀ (r : Fin 384) (i : Fin 192), l (ix2 r i) = (if r.val = 2 * i.val + e then (1 : EReal) else 0)) (r c : Fin 384) :
    matmul (F := Ideal) dot_S384x192_S192x384_S384x384_1_0_0_1_n_n none l b (constant (F := Ideal) S384x384 .f32 0x00000000#32) (ix2 r c)
      = (if r.val % 2 = e then (b (ix2 (half r) c) : EReal) else 0) := by
  refine (Ideal.matmul_plain_apply (M := 384) (K := 192) (N := 384) none l b _ r c).trans ?_
  show Ideal.ofBits .f32 0x00000000#32 + _ = _
  rw [Ideal.ofBits_zero_f32, zero_add, ← sum_pick_left (fun k => b (ix2 k c)) r e he]
  exact Finset.sum_congr rfl fun k _ => by rw [hl]

/-! ## The block as products -/

/-- The word `2 * k`. -/
theorem twice_word (k : ℕ) : IntOp.muli 2#32 (BitVec.ofNat 32 k) = BitVec.ofNat 32 (2 * k) := muli_ofNat 2 k
/-- The word `2 * k + 1`. -/
theorem twice_succ_word (k : ℕ) : IntOp.addi (IntOp.muli 2#32 (BitVec.ofNat 32 k)) 1#32 = BitVec.ofNat 32 (2 * k + 1) := by
  rw [twice_word]; exact addi_ofNat _ 1

theorem col_even (i : Fin 192) (c : Fin 384) :
    k1_pay11 (F := Ideal) (ix2 i c) = (if c.val = 2 * i.val + 0 then (1 : EReal) else 0) :=
  hot_apply _ _ _ _ (ix2 i c) c.val (2 * i.val + 0) (iota_single_apply _ _ _ _ _ _)
    ((congrArg (IntOp.muli 2#32) (iota_single_apply _ _ _ _ _ _)).trans (twice_word i.val)) (by omega) (by omega)

/-- The odd columns' selection matrix. -/
abbrev colOdd : FVec Ideal S192x384 .bf16 :=
  truncf (F := Ideal) .bf16 (sitofp (F := Ideal) .f32 (extui 32 (cmpi .eq (iota .tc S192x384 32 [1] iota_S192x384_d1_w32)
    (addi k1_pay12 k1_pay13)) natLt_1_32)) bitsLt_bf16_f32

theorem col_odd (i : Fin 192) (c : Fin 384) : colOdd (ix2 i c) = (if c.val = 2 * i.val + 1 then (1 : EReal) else 0) :=
  hot_apply _ _ _ _ (ix2 i c) c.val (2 * i.val + 1) (iota_single_apply _ _ _ _ _ _)
    ((congrArg (fun w => IntOp.addi (IntOp.muli 2#32 w) 1#32) (iota_single_apply _ _ _ _ _ _)).trans (twice_succ_word i.val)) (by omega) (by omega)

/-- The even rows' selection matrix. -/
abbrev rowEven : FVec Ideal S384x192 .bf16 :=
  truncf (F := Ideal) .bf16 (sitofp (F := Ideal) .f32 (extui 32 (cmpi .eq (iota .tc S384x192 32 [0] iota_S384x192_d0_w32)
    (muli (broadcast S384x192 2#32) (iota .tc S384x192 32 [1] iota_S384x192_d1_w32))) natLt_1_32)) bitsLt_bf16_f32
/-- The odd rows' selection matrix. -/
abbrev rowOdd : FVec Ideal S384x192 .bf16 :=
  truncf (F := Ideal) .bf16 (sitofp (F := Ideal) .f32 (extui 32 (cmpi .eq (iota .tc S384x192 32 [0] iota_S384x192_d0_w32)
    (addi (muli (broadcast S384x192 2#32) (iota .tc S384x192 32 [1] iota_S384x192_d1_w32)) (broadcast S384x192 1#32))) natLt_1_32)) bitsLt_bf16_f32

theorem row_even (r : Fin 384) (i : Fin 192) : rowEven (ix2 r i) = (if r.val = 2 * i.val + 0 then (1 : EReal) else 0) :=
  hot_apply _ _ _ _ (ix2 r i) r.val (2 * i.val + 0) (iota_single_apply _ _ _ _ _ _)
    ((congrArg (IntOp.muli 2#32) (iota_single_apply _ _ _ _ _ _)).trans (twice_word i.val)) (by omega) (by omega)

theorem row_odd (r : Fin 384) (i : Fin 192) : rowOdd (ix2 r i) = (if r.val = 2 * i.val + 1 then (1 : EReal) else 0) :=
  hot_apply _ _ _ _ (ix2 r i) r.val (2 * i.val + 1) (iota_single_apply _ _ _ _ _ _)
    ((congrArg (fun w => IntOp.addi (IntOp.muli 2#32 w) 1#32) (iota_single_apply _ _ _ _ _ _)).trans (twice_succ_word i.val)) (by omega) (by omega)

/-- Two blocks spread over the even and the odd columns. -/
abbrev spread (a b : FVec Ideal S192x192 .bf16) : FVec Ideal S192x384 .f32 :=
  addf (F := Ideal)
    (matmul (F := Ideal) dot_S192x192_S192x384_S192x384_1_0_0_1_n_n none a (k1_pay11 (F := Ideal)) (constant (F := Ideal) S192x384 .f32 0x00000000#32))
    (matmul (F := Ideal) dot_S192x192_S192x384_S192x384_1_0_0_1_n_n none b colOdd (constant (F := Ideal) S192x384 .f32 0x00000000#32))

theorem spread_apply (a b : FVec Ideal S192x192 .bf16) (i : Fin 192) (c : Fin 384) :
    spread a b (ix2 i c) = (if c.val % 2 = 0 then (a (ix2 i (half c)) : EReal) else b (ix2 i (half c))) := by
  refine (congrArg₂ (fun p q : EReal => p + q) (mm_right a _ 0 (by omega) col_even i c) (mm_right b _ 1 (by omega) col_odd i c)).trans ?_
  by_cases h : c.val % 2 = 0
  · rw [if_pos h, if_pos h, if_neg (by omega), add_zero]
  · rw [if_neg h, if_neg h, if_pos (by omega), zero_add]

/-- The block read at an element: the one of the four masked blocks the element's parities choose. -/
theorem tcOut_pick (x : FVec Ideal S1x1x192x192 .f32) (ix : IVec S1x1x192x192 32) (j : S1x1x384x384.Idx) (r c : Fin 384)
    (hr : (j 2).val = r.val) (hc : (j 3).val = c.val) :
    tcOut (F := Ideal) x ix j = (if r.val % 2 = 0
      then (if c.val % 2 = 0 then (k1_pay7 (F := Ideal) x ix (ix2 (half r) (half c)) : EReal) else k1_pay8 (F := Ideal) x ix (ix2 (half r) (half c)))
      else (if c.val % 2 = 0 then (k1_pay9 (F := Ideal) x ix (ix2 (half r) (half c)) : EReal) else k1_pay10 (F := Ideal) x ix (ix2 (half r) (half c)))) := by
  have h0 : (j 0).val < 1 := (j 0).isLt
  have h1 : (j 1).val < 1 := (j 1).isLt
  have e : tcOut (F := Ideal) x ix = shapeCast S1x1x384x384 (addf (F := Ideal)
      (matmul (F := Ideal) dot_S384x192_S192x384_S384x384_1_0_0_1_n_n none rowEven
        (truncf (F := Ideal) .bf16 (spread (k1_pay7 x ix) (k1_pay8 x ix)) bitsLt_bf16_f32) (constant (F := Ideal) S384x384 .f32 0x00000000#32))
      (matmul (F := Ideal) dot_S384x192_S192x384_S384x384_1_0_0_1_n_n none rowOdd
        (truncf (F := Ideal) .bf16 (spread (k1_pay9 x ix) (k1_pay10 x ix)) bitsLt_bf16_f32) (constant (F := Ideal) S384x384 .f32 0x00000000#32)))
      shapeCasts_S384x384_S1x1x384x384 := rfl
  rw [e]
  refine (shapeCast_apply _ shapeCasts_S384x384_S1x1x384x384 j (ix2 r c) (by
    rw [Shape.rowMajor_val_two, Shape.rowMajor_val_four]
    show r.val * 384 + c.val = (((j 0).val * 1 + (j 1).val) * 384 + (j 2).val) * 384 + (j 3).val
    omega)).trans ?_
  refine (congrArg₂ (fun p q : EReal => p + q)
    (mm_left rowEven (truncf (F := Ideal) .bf16 (spread (k1_pay7 x ix) (k1_pay8 x ix)) bitsLt_bf16_f32) 0 (by omega) row_even r c)
    (mm_left rowOdd (truncf (F := Ideal) .bf16 (spread (k1_pay9 x ix) (k1_pay10 x ix)) bitsLt_bf16_f32) 1 (by omega) row_odd r c)).trans ?_
  have e1 (a b : FVec Ideal S192x192 .bf16) : truncf (F := Ideal) .bf16 (spread a b) bitsLt_bf16_f32 (ix2 (half r) c) = _ :=
    spread_apply a b (half r) c
  rw [e1, e1]
  by_cases h : r.val % 2 = 0
  · have h' : ¬ r.val % 2 = 1 := by omega
    rw [if_pos h, if_pos h, if_neg h', add_zero]
  · have h' : r.val % 2 = 1 := by omega
    rw [if_neg h, if_neg h, if_pos h', zero_add]

/-! ## The masks -/

/-- The index of a block's element `(i, k)`. -/
def cellIx (i k : Fin 192) : S1x1x192x192.Idx := ix4 0 0 i k

theorem cell_cast {α : Type} (x : S1x1x192x192.Idx → α) (i k : Fin 192) :
    shapeCast S192x192 x shapeCasts_S1x1x192x192_S192x192 (ix2 i k) = x (cellIx i k) :=
  shapeCast_apply _ _ _ _ (by
    rw [Shape.rowMajor_val_two, Shape.rowMajor_val_four]
    show ((0 * 1 + 0) * 192 + i.val) * 192 + k.val = i.val * 192 + k.val
    omega)

section Masks

variable (x : FVec Ideal S1x1x192x192 .f32) (ix : IVec S1x1x192x192 32) (i k : Fin 192) (di dj : ℕ) (hdi : di < 2) (hdj : dj < 2)
  (hw : (ix (cellIx i k)).toNat = 384 * (2 * i.val + di) + 2 * k.val + dj)

include hdi hdj hw

/-- The row mask: the word names the lower row of its window. -/
theorem mask_row : k1_pay3 (F := Ideal) ix (ix2 i k) = BitVec.ofBool (decide (di = 1)) := by
  have e1 : k1_pay2 (F := Ideal) ix (ix2 i k) = BitVec.ofNat 32 (768 * i.val + (384 * di + 2 * k.val + dj)) := by
    refine (cell_cast ix i k).trans (BitVec.eq_of_toNat_eq ?_)
    rw [hw, BitVec.toNat_ofNat]; omega
  have e2 : k1_pay3 (F := Ideal) ix (ix2 i k)
      = IntOp.cmpi .sge (IntOp.subi (k1_pay2 (F := Ideal) ix (ix2 i k)) (IntOp.muli 768#32 (BitVec.ofNat 32 i.val))) 384#32 := by
    exact congrArg (fun w => IntOp.cmpi .sge (IntOp.subi (k1_pay2 (F := Ideal) ix (ix2 i k)) (IntOp.muli 768#32 w)) 384#32)
      (iota_single_apply .tc S192x192 32 0 iota_S192x192_d0_w32 (ix2 i k))
  have e3 : IntOp.subi (BitVec.ofNat 32 (768 * i.val + (384 * di + 2 * k.val + dj))) (BitVec.ofNat 32 (768 * i.val))
      = BitVec.ofNat 32 (384 * di + 2 * k.val + dj) := by
    apply BitVec.eq_of_toNat_eq
    show (BitVec.ofNat 32 _ - BitVec.ofNat 32 _).toNat = _
    rw [BitVec.toNat_sub, BitVec.toNat_ofNat, BitVec.toNat_ofNat, BitVec.toNat_ofNat]
    omega
  rw [e2, e1, show IntOp.muli 768#32 (BitVec.ofNat 32 i.val) = BitVec.ofNat 32 (768 * i.val) from muli_ofNat 768 _, e3]
  refine (cmpi_sge_ofNat (w := 32) (a := 384 * di + 2 * k.val + dj) (b := 384) (by omega) (by omega)).trans (congrArg BitVec.ofBool (decide_eq_decide.mpr ?_))
  omega

/-- The column mask: the word names the right column of its window. -/
theorem mask_col : k1_pay4 (F := Ideal) ix (ix2 i k) = BitVec.ofBool (decide (dj = 1)) := by
  have e1 : k1_pay2 (F := Ideal) ix (ix2 i k) = ix (cellIx i k) := cell_cast ix i k
  have e2 : k1_pay4 (F := Ideal) ix (ix2 i k) = IntOp.cmpi .eq (IntOp.andi (k1_pay2 (F := Ideal) ix (ix2 i k)) 1#32) 1#32 := rfl
  have e3 : IntOp.andi (ix (cellIx i k)) 1#32 = BitVec.ofNat 32 dj := by
    apply BitVec.eq_of_toNat_eq
    show (ix (cellIx i k) &&& 1#32).toNat = _
    rw [BitVec.toNat_and, hw, BitVec.toNat_ofNat]
    show (_ &&& 1) = dj % 2 ^ 32
    rw [Nat.and_one_is_mod]; omega
  rw [e2, e1, e3]
  exact cmpi_eq_ofNat (w := 32) (a := dj) (b := 1) (by omega) (by omega)

theorem zero_half : (Scalar.ofBits (F := Ideal) .bf16 0x0000#16 : EReal) = 0 := by
  show Ideal.ofBits .bf16 0x0000#16 = 0
  simp [Ideal.ofBits, Ideal.ieee]

/-- The value a masked block keeps of the element. -/
theorem kept : k1_pay5 (F := Ideal) x (ix2 i k) = x (cellIx i k) := cell_cast x i k

theorem pick00 : k1_pay7 (F := Ideal) x ix (ix2 i k) = (if di = 0 ∧ dj = 0 then (x (cellIx i k) : EReal) else 0) := by
  have e : k1_pay7 (F := Ideal) x ix (ix2 i k)
      = Scalar.select (IntOp.andi (IntOp.xori (k1_pay3 (F := Ideal) ix (ix2 i k)) 1#1) (IntOp.xori (k1_pay4 (F := Ideal) ix (ix2 i k)) 1#1))
        (k1_pay5 (F := Ideal) x (ix2 i k)) (Scalar.ofBits (F := Ideal) .bf16 0x0000#16) := rfl
  rw [e, mask_row ix i k di dj hdi hdj hw, mask_col ix i k di dj hdi hdj hw, kept x ix i k di dj hdi hdj hw]
  interval_cases di <;> interval_cases dj <;> first | rfl | exact zero_half ix i k _ _ hdi hdj hw

theorem pick01 : k1_pay8 (F := Ideal) x ix (ix2 i k) = (if di = 0 ∧ dj = 1 then (x (cellIx i k) : EReal) else 0) := by
  have e : k1_pay8 (F := Ideal) x ix (ix2 i k)
      = Scalar.select (IntOp.andi (IntOp.xori (k1_pay3 (F := Ideal) ix (ix2 i k)) 1#1) (k1_pay4 (F := Ideal) ix (ix2 i k)))
        (k1_pay5 (F := Ideal) x (ix2 i k)) (Scalar.ofBits (F := Ideal) .bf16 0x0000#16) := rfl
  rw [e, mask_row ix i k di dj hdi hdj hw, mask_col ix i k di dj hdi hdj hw, kept x ix i k di dj hdi hdj hw]
  interval_cases di <;> interval_cases dj <;> first | rfl | exact zero_half ix i k _ _ hdi hdj hw

theorem pick10 : k1_pay9 (F := Ideal) x ix (ix2 i k) = (if di = 1 ∧ dj = 0 then (x (cellIx i k) : EReal) else 0) := by
  have e : k1_pay9 (F := Ideal) x ix (ix2 i k)
      = Scalar.select (IntOp.andi (k1_pay3 (F := Ideal) ix (ix2 i k)) (IntOp.xori (k1_pay4 (F := Ideal) ix (ix2 i k)) 1#1))
        (k1_pay5 (F := Ideal) x (ix2 i k)) (Scalar.ofBits (F := Ideal) .bf16 0x0000#16) := rfl
  rw [e, mask_row ix i k di dj hdi hdj hw, mask_col ix i k di dj hdi hdj hw, kept x ix i k di dj hdi hdj hw]
  interval_cases di <;> interval_cases dj <;> first | rfl | exact zero_half ix i k _ _ hdi hdj hw

theorem pick11 : k1_pay10 (F := Ideal) x ix (ix2 i k) = (if di = 1 ∧ dj = 1 then (x (cellIx i k) : EReal) else 0) := by
  have e : k1_pay10 (F := Ideal) x ix (ix2 i k)
      = Scalar.select (IntOp.andi (k1_pay3 (F := Ideal) ix (ix2 i k)) (k1_pay4 (F := Ideal) ix (ix2 i k)))
        (k1_pay5 (F := Ideal) x (ix2 i k)) (Scalar.ofBits (F := Ideal) .bf16 0x0000#16) := rfl
  rw [e, mask_row ix i k di dj hdi hdj hw, mask_col ix i k di dj hdi hdj hw, kept x ix i k di dj hdi hdj hw]
  interval_cases di <;> interval_cases dj <;> first | rfl | exact zero_half ix i k _ _ hdi hdj hw

end Masks

/-- The block read at an element, where the element's window holds a word of the window. -/
theorem tcOut_apply (x : FVec Ideal S1x1x192x192 .f32) (ix : IVec S1x1x192x192 32) (j : S1x1x384x384.Idx) (r c : Fin 384)
    (hr : (j 2).val = r.val) (hc : (j 3).val = c.val)
    (hw : ∃ di dj : ℕ, di < 2 ∧ dj < 2
      ∧ (ix (cellIx (half r) (half c))).toNat = 384 * (2 * (half r).val + di) + 2 * (half c).val + dj) :
    tcOut (F := Ideal) x ix j = (if (ix (cellIx (half r) (half c))).toNat = 384 * r.val + c.val
      then (x (cellIx (half r) (half c)) : EReal) else 0) := by
  obtain ⟨di, dj, hdi, hdj, hw⟩ := hw
  have h2 : (half r).val = r.val / 2 := rfl
  have h3 : (half c).val = c.val / 2 := rfl
  rw [tcOut_pick x ix j r c hr hc, pick00 x ix _ _ di dj hdi hdj hw, pick01 x ix _ _ di dj hdi hdj hw, pick10 x ix _ _ di dj hdi hdj hw,
    pick11 x ix _ _ di dj hdi hdj hw, hw, h2, h3]
  by_cases p2 : r.val % 2 = 0 <;> by_cases p3 : c.val % 2 = 0 <;> simp only [p2, p3, if_true, if_false] <;>
    exact if_congr (by omega) rfl rfl

end Cert.Proof
-- ==== Proof.RefValue.lean ====
/-
  The reference's value: its scatter, read at an element of the result, is the element's window's value where the window's word
  names the element, and zero elsewhere.
-/
module

public import proofs.«01_k».proof.Proof.Unpool
public import proofs.«01_k».proof.Proof.Gen.ReferenceIdeal.Run
public import Idealize.ShloMosaic.Lib.Routing.OpsSet
public import Idealize.ShloMosaic.Lib.Routing.OpsPair
public import Idealize.ShloMosaic.Lib.WordCmp

@[expose] public section

noncomputable section

namespace Cert.Proof

open Idealize.ShloMosaic
open Idealize.ShloMosaic.ValueIdx
open Cert.ReferenceIdeal Cert.ReferenceIdeal.Gen

variable {F : FTy → Type} [FloatOps F]

/-- The scatter's dimension numbers. -/
abbrev scat : ScatterDims S4x96x147456 S4x96x36864x3 S4x96x36864 := scatter_S4x96x147456_S4x96x36864x3_S4x96x36864_n_012_012_3

/-- The index of component `q` of update `j`'s words. -/
def compIx (j : S4x96x36864.Idx) (q : Fin 3) : S4x96x36864x3.Idx := ix4 (j 0) (j 1) (j 2) q

theorem scat_start (idx : IVec S4x96x36864x3 32) (j : S4x96x36864.Idx) (q : Fin 3) : scat.start j idx q = (idx (compIx j q)).toInt := by
  match q with
  | ⟨0, _⟩ =>
    refine congrArg (fun k => (idx k).toInt) (funext fun b => ?_)
    match b with
    | ⟨0, _⟩ => rfl
    | ⟨1, _⟩ => rfl
    | ⟨2, _⟩ => rfl
    | ⟨3, _⟩ => rfl
  | ⟨1, _⟩ =>
    refine congrArg (fun k => (idx k).toInt) (funext fun b => ?_)
    match b with
    | ⟨0, _⟩ => rfl
    | ⟨1, _⟩ => rfl
    | ⟨2, _⟩ => rfl
    | ⟨3, _⟩ => rfl
  | ⟨2, _⟩ =>
    refine congrArg (fun k => (idx k).toInt) (funext fun b => ?_)
    match b with
    | ⟨0, _⟩ => rfl
    | ⟨1, _⟩ => rfl
    | ⟨2, _⟩ => rfl
    | ⟨3, _⟩ => rfl

theorem scat_window (j : S4x96x36864.Idx) (q : Fin 3) : scat.window j q = 0 := by
  match q with
  | ⟨0, _⟩ => rfl
  | ⟨1, _⟩ => rfl
  | ⟨2, _⟩ => rfl

/-- Update `j` lands at `ι` exactly when its three words, read signed, are `ι`'s coordinates. -/
theorem scat_lands (idx : IVec S4x96x36864x3 32) (j : S4x96x36864.Idx) (ι : S4x96x147456.Idx) :
    scat.resultIdx? j idx = some ι ↔ ∀ q : Fin 3, (idx (compIx j q)).toInt = ((ι q).val : Int) := by
  rw [Routing.resultIdx?_eq_some]
  refine forall_congr' fun q => ?_
  rw [scat_start idx j q, scat_window j q]
  simp

/-- jnp's wrap of a word that may count from the end, `n` added where it is negative. -/
abbrev wrap {s : Shape} (x z n : IVec s 32) : IVec s 32 := select (cmpi .slt x z) (addi x n) x

/-- The words of the batch, of the plane and of the element, each as one component. -/
abbrev piece0 : IVec S4x96x36864x1 32 :=
  broadcastInDim S4x96x36864x1 ![0, 1, 2] bcast_S4x96x36864_S4x96x36864x1_0_1_2
    (broadcastInDim S4x96x36864 ![0, 1, 2] bcast_S4x1x1_S4x96x36864_0_1_2
      (wrap (broadcastInDim S4x1x1 ![0] bcast_S4_S4x1x1_0 (iotaInDim S4 32 0))
        (broadcastInDim S4x1x1 ![] bcast_S_S4x1x1 (constantI S_ 32 0#32)) (broadcastInDim S4x1x1 ![] bcast_S_S4x1x1 (constantI S_ 32 4#32))))
abbrev piece1 : IVec S4x96x36864x1 32 :=
  broadcastInDim S4x96x36864x1 ![0, 1, 2] bcast_S4x96x36864_S4x96x36864x1_0_1_2
    (broadcastInDim S4x96x36864 ![0, 1, 2] bcast_S1x96x1_S4x96x36864_0_1_2
      (wrap (broadcastInDim S1x96x1 ![1] bcast_S96_S1x96x1_1 (iotaInDim S96 32 0))
        (broadcastInDim S1x96x1 ![] bcast_S_S1x96x1 (constantI S_ 32 0#32)) (broadcastInDim S1x96x1 ![] bcast_S_S1x96x1 (constantI S_ 32 96#32))))
abbrev piece2 (f : IVec S4x96x36864 32) : IVec S4x96x36864x1 32 :=
  broadcastInDim S4x96x36864x1 ![0, 1, 2] bcast_S4x96x36864_S4x96x36864x1_0_1_2
    (wrap f (broadcastInDim S4x96x36864 ![] bcast_S_S4x96x36864 (constantI S_ 32 0#32))
      (broadcastInDim S4x96x36864 ![] bcast_S_S4x96x36864 (constantI S_ 32 147456#32)))

abbrev pieces (f : IVec S4x96x36864 32) : List ((s : Shape) × IVec s 32) :=
  [⟨S4x96x36864x1, piece0⟩, ⟨S4x96x36864x1, piece1⟩, ⟨S4x96x36864x1, piece2 f⟩]

/-- The scatter's words: the three pieces along the last axis. -/
def refWords (f : IVec S4x96x36864 32) : IVec S4x96x36864x3 32 :=
  concatenate S4x96x36864x3 3 (pieces f)
    concatenates_S4x96x36864x1_S4x96x36864x1_S4x96x36864x1_S4x96x36864x3_d3

/-- The index of update `j` in a piece. -/
def pieceIx (j : S4x96x36864.Idx) : S4x96x36864x1.Idx := ix4 (j 0) (j 1) (j 2) 0

theorem wrap_apply {s : Shape} (x z n : IVec s 32) (i : s.Idx) (hz : z i = 0#32) (hx : (x i).toNat < 2 ^ 31) : wrap x z n i = x i := by
  show Scalar.select (IntOp.cmpi .slt (x i) (z i)) (addi x n i) (x i) = x i
  rw [hz]
  exact Routing.wrap_of_lt _ _ hx

theorem refWords_zero (f : IVec S4x96x36864 32) (j : S4x96x36864.Idx) : (refWords f (compIx j 0)).toInt = ((j 0).val : Int) := by
  have e : refWords f (compIx j 0) = piece0 (pieceIx j) := by
    refine concatenate_apply_piece (t := S4x96x36864x3) 3 (pieces f) _ (compIx j 0) 0 (show 0 < 3 by decide) S4x96x36864x1 piece0 rfl rfl 0 rfl (pieceIx j) (fun b hb => ?_) rfl
    match b with
    | ⟨0, _⟩ => rfl
    | ⟨1, _⟩ => rfl
    | ⟨2, _⟩ => rfl
    | ⟨3, _⟩ => exact absurd rfl hb
  have h : (j 0).val < 4 := (j 0).isLt
  have hv : (BitVec.ofNat 32 (j 0).val).toNat = (j 0).val := by rw [BitVec.toNat_ofNat]; omega
  have e' : piece0 (pieceIx j) = BitVec.ofNat 32 (j 0).val :=
    wrap_apply _ _ _ _ rfl (show (BitVec.ofNat 32 (j 0).val).toNat < 2 ^ 31 by rw [hv]; omega)
  rw [e, e', WordCmp.toInt_eq_toNat_of_lt_half (by rw [hv]; omega), hv]

theorem refWords_one (f : IVec S4x96x36864 32) (j : S4x96x36864.Idx) : (refWords f (compIx j 1)).toInt = ((j 1).val : Int) := by
  have e : refWords f (compIx j 1) = piece1 (pieceIx j) := by
    refine concatenate_apply_piece (t := S4x96x36864x3) 3 (pieces f) _ (compIx j 1) 1 (show 1 < 3 by decide) S4x96x36864x1 piece1 rfl rfl 1 rfl (pieceIx j) (fun b hb => ?_) rfl
    match b with
    | ⟨0, _⟩ => rfl
    | ⟨1, _⟩ => rfl
    | ⟨2, _⟩ => rfl
    | ⟨3, _⟩ => exact absurd rfl hb
  have h : (j 1).val < 96 := (j 1).isLt
  have hv : (BitVec.ofNat 32 (j 1).val).toNat = (j 1).val := by rw [BitVec.toNat_ofNat]; omega
  have e' : piece1 (pieceIx j) = BitVec.ofNat 32 (j 1).val :=
    wrap_apply _ _ _ _ rfl (show (BitVec.ofNat 32 (j 1).val).toNat < 2 ^ 31 by rw [hv]; omega)
  rw [e, e', WordCmp.toInt_eq_toNat_of_lt_half (by rw [hv]; omega), hv]

theorem refWords_two (f : IVec S4x96x36864 32) (j : S4x96x36864.Idx) (hf : (f j).toNat < 147456) :
    (refWords f (compIx j 2)).toInt = ((f j).toNat : Int) := by
  have e : refWords f (compIx j 2) = piece2 f (pieceIx j) := by
    refine concatenate_apply_piece (t := S4x96x36864x3) 3 (pieces f) _ (compIx j 2) 2 (show 2 < 3 by decide) S4x96x36864x1 (piece2 f) rfl rfl 2 rfl (pieceIx j) (fun b hb => ?_) rfl
    match b with
    | ⟨0, _⟩ => rfl
    | ⟨1, _⟩ => rfl
    | ⟨2, _⟩ => rfl
    | ⟨3, _⟩ => exact absurd rfl hb
  have hj : (fun a => if h1 : S4x96x36864.size a = 1 then ⟨0, by omega⟩ else ⟨(pieceIx j (![0, 1, 2] a)).val, by
      match a with
      | ⟨0, _⟩ => exact (j 0).isLt
      | ⟨1, _⟩ => exact (j 1).isLt
      | ⟨2, _⟩ => exact (j 2).isLt⟩ : S4x96x36864.Idx) = j := by
    funext a
    match a with
    | ⟨0, _⟩ => rfl
    | ⟨1, _⟩ => rfl
    | ⟨2, _⟩ => rfl
  have e' : piece2 f (pieceIx j) = f j := by
    refine Eq.trans (congrArg (wrap f (broadcastInDim S4x96x36864 ![] bcast_S_S4x96x36864 (constantI S_ 32 0#32))
      (broadcastInDim S4x96x36864 ![] bcast_S_S4x96x36864 (constantI S_ 32 147456#32))) hj) ?_
    exact wrap_apply _ _ _ _ rfl (by omega)
  rw [e, e', WordCmp.toInt_eq_toNat_of_lt_half (by omega)]

/-- The element of the pooled arrays under place `j` of their planes laid flat. -/
def flatIx (j : S4x96x36864.Idx) : S4x96x192x192.Idx :=
  ix4 (j 0) (j 1) ⟨(j 2).val / 192, by have h : (j 2).val < 36864 := (j 2).isLt; omega⟩ ⟨(j 2).val % 192, Nat.mod_lt _ (by omega)⟩

theorem flat_apply {α : Type} (x : S4x96x192x192.Idx → α) (j : S4x96x36864.Idx) :
    shapeCast S4x96x36864 x shapeCasts_S4x96x192x192_S4x96x36864 j = x (flatIx j) := by
  refine shapeCast_apply _ _ _ _ ?_
  rw [Shape.rowMajor_val_three, Shape.rowMajor_val_four]
  show (((j 0).val * 96 + (j 1).val) * 192 + (j 2).val / 192) * 192 + (j 2).val % 192 = ((j 0).val * 96 + (j 1).val) * 36864 + (j 2).val
  omega

/-- The reference's result, as its run leaves it. -/
def refOut (x : FVec F S4x96x192x192 .f32) (ix : IVec S4x96x192x192 32) : FVec F S4x96x384x384 .f32 :=
  shapeCast _ (Host.scatter scat (fun _ b => b) (broadcastInDim S4x96x147456 ![] bcast_S_S4x96x147456 (constant S_ .f32 0x00000000#32))
    (refWords (shapeCast _ ix shapeCasts_S4x96x192x192_S4x96x36864)) (shapeCast _ x shapeCasts_S4x96x192x192_S4x96x36864))
    shapeCasts_S4x96x147456_S4x96x384x384

/-- The place in its plane laid flat of an element of the result. -/
def placeIx (y : S4x96x384x384.Idx) : S4x96x147456.Idx :=
  ix3 (y 0) (y 1) ⟨384 * (y 2).val + (y 3).val, by have h2 : (y 2).val < 384 := (y 2).isLt; have h3 : (y 3).val < 384 := (y 3).isLt; omega⟩

/-- The update of an element's window. -/
def updIx (y : S4x96x384x384.Idx) : S4x96x36864.Idx :=
  ix3 (y 0) (y 1) ⟨192 * ((y 2).val / 2) + (y 3).val / 2, by have h2 : (y 2).val < 384 := (y 2).isLt; have h3 : (y 3).val < 384 := (y 3).isLt; omega⟩

/-- An element in its plane. -/
abbrev inPlane (y : S4x96x384x384.Idx) : Cert.KernelIdeal.S96x384x384.Idx := ix3 (y 1) (y 2) (y 3)

theorem flatIx_updIx (y : S4x96x384x384.Idx) : flatIx (updIx y) = wIx (y 0) (inPlane y) := by
  have h2 : (y 2).val < 384 := (y 2).isLt
  have h3 : (y 3).val < 384 := (y 3).isLt
  funext a
  match a with
  | ⟨0, _⟩ => rfl
  | ⟨1, _⟩ => rfl
  | ⟨2, _⟩ => exact Fin.ext (show (192 * ((y 2).val / 2) + (y 3).val / 2) / 192 = (y 2).val / 2 by omega)
  | ⟨3, _⟩ => exact Fin.ext (show (192 * ((y 2).val / 2) + (y 3).val / 2) % 192 = (y 3).val / 2 by omega)

/-- An update lands at an element exactly when it is its window's and the window's word names the element. -/
theorem lands_iff (ix : IVec S4x96x192x192 32) (hix : InWindow ix) (k : S4x96x36864.Idx) (y : S4x96x384x384.Idx) :
    scat.resultIdx? k (refWords (shapeCast _ ix shapeCasts_S4x96x192x192_S4x96x36864)) = some (placeIx y)
      ↔ k = updIx y ∧ (ix (wIx (y 0) (inPlane y))).toNat = 384 * (y 2).val + (y 3).val := by
  have h2 : (y 2).val < 384 := (y 2).isLt
  have h3 : (y 3).val < 384 := (y 3).isLt
  have hk2 : (k 2).val < 36864 := (k 2).isLt
  obtain ⟨di, dj, hdi, hdj, hw⟩ := hix (flatIx k)
  have hw' : (ix (flatIx k)).toNat = 384 * (2 * ((k 2).val / 192) + di) + 2 * ((k 2).val % 192) + dj := hw
  have hlt : (shapeCast S4x96x36864 ix shapeCasts_S4x96x192x192_S4x96x36864 k).toNat < 147456 := by
    rw [flat_apply, hw']; omega
  rw [scat_lands]
  constructor
  · intro h
    have e0 : ((k 0).val : Int) = (y 0).val := (refWords_zero _ k).symm.trans (h 0)
    have e1 : ((k 1).val : Int) = (y 1).val := (refWords_one _ k).symm.trans (h 1)
    have e2 : ((shapeCast S4x96x36864 ix shapeCasts_S4x96x192x192_S4x96x36864 k).toNat : Int) = ((384 * (y 2).val + (y 3).val : ℕ) : Int) :=
      (refWords_two _ k hlt).symm.trans (h 2)
    rw [flat_apply] at e2
    have e3 : (ix (flatIx k)).toNat = 384 * (y 2).val + (y 3).val := by omega
    have hk : k = updIx y := by
      funext a
      match a with
      | ⟨0, _⟩ => exact Fin.ext (by have := e0; show (k 0).val = (y 0).val; omega)
      | ⟨1, _⟩ => exact Fin.ext (by have := e1; show (k 1).val = (y 1).val; omega)
      | ⟨2, _⟩ => exact Fin.ext (by show (k 2).val = 192 * ((y 2).val / 2) + (y 3).val / 2; omega)
    refine ⟨hk, ?_⟩
    rw [hk, flatIx_updIx] at e3
    exact e3
  · rintro ⟨rfl, e⟩ q
    match q with
    | ⟨0, _⟩ => exact refWords_zero _ _
    | ⟨1, _⟩ => exact refWords_one _ _
    | ⟨2, _⟩ =>
      refine (refWords_two _ _ hlt).trans ?_
      rw [flat_apply, flatIx_updIx, e]
      rfl

/-- The reference's result at an element is the element unpooled. -/
theorem refOut_eq (x : FVec F S4x96x192x192 .f32) (ix : IVec S4x96x192x192 32) (hix : InWindow ix) (y : S4x96x384x384.Idx) :
    refOut x ix y = unp x ix (y 0) (inPlane y) := by
  have h2 : (y 2).val < 384 := (y 2).isLt
  have h3 : (y 3).val < 384 := (y 3).isLt
  unfold refOut
  rw [shapeCast_apply _ _ y (placeIx y) (by
    rw [Shape.rowMajor_val_three, Shape.rowMajor_val_four]
    show ((y 0).val * 96 + (y 1).val) * 147456 + (384 * (y 2).val + (y 3).val)
      = (((y 0).val * 96 + (y 1).val) * 384 + (y 2).val) * 384 + (y 3).val
    omega)]
  unfold unp
  by_cases h : (ix (wIx (y 0) (inPlane y))).toNat = 384 * (y 2).val + (y 3).val
  · refine Eq.trans ?_ (if_pos h).symm
    refine Routing.scatter_set_hit scat _ _ _ _ _ (fun k hk => ?_) (updIx y) ((lands_iff ix hix _ y).2 ⟨rfl, h⟩)
    rw [((lands_iff ix hix k y).1 hk).1, flat_apply, flatIx_updIx]
  · refine Eq.trans ?_ (if_neg h).symm
    exact Routing.scatter_set_miss scat _ _ _ _ fun k hk => h ((lands_iff ix hix k y).1 hk).2

end Cert.Proof

end
-- ==== Proof.TcValue.lean ====
/-
  The kernel's result at the ideal values: the TensorCore call's array, then the joined result, as the reference's value of the
  two arguments.
-/
module

public import proofs.«01_k».proof.Proof.TcBlock
public import proofs.«01_k».proof.Proof.Main
public import proofs.«01_k».proof.Proof.RefValue

@[expose] public section

set_option maxRecDepth 16384

noncomputable section

namespace Cert.Proof

open Idealize.ShloMosaic Idealize.ShloMosaic.TcCoe
open Idealize.ShloMosaic.ValueIdx
open Cert.KernelIdeal Cert.KernelIdeal.Gen
open Idealize.ShloMosaic.Pipeline (Dat)

/-! ## The windows' blocks -/

/-- Each window's block at a point: the plane of the point's batch and channel. -/
theorem idx_x : ∀ t : Fin cfg1.N, win1_0.index t (0 : Fin 4) = t.val / 96 ∧ win1_0.index t (1 : Fin 4) = t.val % 96
    ∧ win1_0.index t (2 : Fin 4) = 0 ∧ win1_0.index t (3 : Fin 4) = 0 := (by decide +kernel : ∀ t : Fin grid1.N, _)
theorem idx_i : ∀ t : Fin cfg1.N, win1_1.index t (0 : Fin 4) = t.val / 96 ∧ win1_1.index t (1 : Fin 4) = t.val % 96
    ∧ win1_1.index t (2 : Fin 4) = 0 ∧ win1_1.index t (3 : Fin 4) = 0 := (by decide +kernel : ∀ t : Fin grid1.N, _)
theorem idx_o : ∀ t : Fin cfg1.N, win1_2.index t (0 : Fin 4) = t.val / 96 ∧ win1_2.index t (1 : Fin 4) = t.val % 96
    ∧ win1_2.index t (2 : Fin 4) = 0 ∧ win1_2.index t (3 : Fin 4) = 0 := (by decide +kernel : ∀ t : Fin grid1.N, _)

theorem points : cfg1.N = 288 := (by decide +kernel : grid1.N = 288)

/-- A point's batch and channel. -/
def ptB (t : Fin cfg1.N) : Fin 3 := ⟨t.val / 96, by have h : t.val < 288 := lt_of_lt_of_eq t.isLt points; omega⟩
def ptC (t : Fin cfg1.N) : Fin 96 := ⟨t.val % 96, by omega⟩
/-- The batch as one of the arguments' four. -/
def wide (b : Fin 3) : Fin 4 := ⟨b.val, by omega⟩

theorem emb_x (t : Fin cfg1.N) (i k : Fin 192) :
    ((cfg1.win 0).blk t).view.emb (cellIx i k) = (ix4 (wide (ptB t)) (ptC t) i k : S4x96x192x192.Idx) := by
  obtain ⟨e0, e1, e2, e3⟩ := idx_x t
  funext a; apply Fin.ext
  match a with
  | ⟨0, _⟩ => show win1_0.index t (0 : Fin 4) * 1 + 1 * 0 = t.val / 96; omega
  | ⟨1, _⟩ => show win1_0.index t (1 : Fin 4) * 1 + 1 * 0 = t.val % 96; omega
  | ⟨2, _⟩ => show win1_0.index t (2 : Fin 4) * 192 + 1 * i.val = i.val; omega
  | ⟨3, _⟩ => show win1_0.index t (3 : Fin 4) * 192 + 1 * k.val = k.val; omega

theorem emb_i (t : Fin cfg1.N) (i k : Fin 192) :
    ((cfg1.win 1).blk t).view.emb (cellIx i k) = (ix4 (wide (ptB t)) (ptC t) i k : S4x96x192x192.Idx) := by
  obtain ⟨e0, e1, e2, e3⟩ := idx_i t
  funext a; apply Fin.ext
  match a with
  | ⟨0, _⟩ => show win1_1.index t (0 : Fin 4) * 1 + 1 * 0 = t.val / 96; omega
  | ⟨1, _⟩ => show win1_1.index t (1 : Fin 4) * 1 + 1 * 0 = t.val % 96; omega
  | ⟨2, _⟩ => show win1_1.index t (2 : Fin 4) * 192 + 1 * i.val = i.val; omega
  | ⟨3, _⟩ => show win1_1.index t (3 : Fin 4) * 192 + 1 * k.val = k.val; omega

theorem emb_o (t : Fin cfg1.N) (j : S1x1x384x384.Idx) :
    ((cfg1.win 2).blk t).view.emb j = (ix4 (ptB t) (ptC t) (j 2) (j 3) : S3x96x384x384.Idx) := by
  obtain ⟨e0, e1, e2, e3⟩ := idx_o t
  have h0 : (j 0).val < 1 := (j 0).isLt
  have h1 : (j 1).val < 1 := (j 1).isLt
  funext a; apply Fin.ext
  match a with
  | ⟨0, _⟩ => show win1_2.index t (0 : Fin 4) * 1 + 1 * (j 0).val = t.val / 96; omega
  | ⟨1, _⟩ => show win1_2.index t (1 : Fin 4) * 1 + 1 * (j 1).val = t.val % 96; omega
  | ⟨2, _⟩ => show win1_2.index t (2 : Fin 4) * 384 + 1 * (j 2).val = (j 2).val; omega
  | ⟨3, _⟩ => show win1_2.index t (3 : Fin 4) * 384 + 1 * (j 3).val = (j 3).val; omega

/-! ## The call's array -/

variable (m : (ℓ : Loc nD τ sig) → Buf (Elt Ideal) ℓ)

/-- The first three batches unpooled. -/
def firstOut (x : S4x96x192x192.Idx → Ideal .f32) (ix : S4x96x192x192.Idx → BitVec 32) : S3x96x384x384.Idx → Ideal .f32 :=
  fun y => unp x ix (wide (y 0)) (ix3 (y 1) (y 2) (y 3))

theorem zero_word : (z0 : Ideal .f32) = (0 : EReal) := Ideal.ofBits_zero_f32

/-- A point writes back its block of the first three batches unpooled. -/
theorem flushed_first (hpre : PreOK m) (d : Dev nD) (t : Fin cfg1.N) :
    (dat m d).flushed 2 t = ((cfg1.win 2).blk t).view.read (Elt Ideal) (firstOut (m (xLoc d)) (m (iLoc d))) := by
  funext j
  show tcOut (F := Ideal) (xBlk m d t) (iBlk m d t) j = firstOut (m (xLoc d)) (m (iLoc d)) (((cfg1.win 2).blk t).view.emb j)
  rw [emb_o]
  have ex (i k : Fin 192) : xBlk m d t (cellIx i k) = m (xLoc d) (ix4 (wide (ptB t)) (ptC t) i k : S4x96x192x192.Idx) :=
    congrArg (m (xLoc d)) (emb_x t i k)
  have ei (i k : Fin 192) : iBlk m d t (cellIx i k) = m (iLoc d) (ix4 (wide (ptB t)) (ptC t) i k : S4x96x192x192.Idx) :=
    congrArg (m (iLoc d)) (emb_i t i k)
  refine (tcOut_apply (xBlk m d t) (iBlk m d t) j (j 2) (j 3) rfl rfl ?_).trans ?_
  · rw [ei]
    exact hpre d (ix4 (wide (ptB t)) (ptC t) (half (j 2)) (half (j 3)))
  · rw [ei, ex, ← zero_word]
    rfl

/-- An element of the array is in its plane's block. -/
theorem first_mem (y : S3x96x384x384.Idx) (t : Fin cfg1.N) (ht : t.val = 96 * (y 0).val + (y 1).val) :
    y ∈ ((cfg1.win 2).blk t).view.set := by
  have h1 : (y 1).val < 96 := (y 1).isLt
  have h := ((cfg1.win 2).blk t).view.emb_mem_set (ix4 0 0 (y 2) (y 3) : S1x1x384x384.Idx)
  rw [emb_o] at h
  have e : (ix4 (ptB t) (ptC t) (y 2) (y 3) : S3x96x384x384.Idx) = y := by
    funext a; apply Fin.ext
    match a with
    | ⟨0, _⟩ => show t.val / 96 = (y 0).val; omega
    | ⟨1, _⟩ => show t.val % 96 = (y 1).val; omega
    | ⟨2, _⟩ => rfl
    | ⟨3, _⟩ => rfl
  exact e ▸ h

/-- A number below the count of points as a point. -/
theorem exists_point (n : ℕ) (h : n < 288) : ∃ t : Fin cfg1.N, t.val = n := ⟨⟨n, lt_of_lt_of_eq h points.symm⟩, rfl⟩

theorem first_covered (y : S3x96x384x384.Idx) : ∃ t : Fin cfg1.N, (cfg1.win 2).flush t = true ∧ y ∈ ((cfg1.win 2).blk t).view.set := by
  have h0 : (y 0).val < 3 := (y 0).isLt
  have h1 : (y 1).val < 96 := (y 1).isLt
  obtain ⟨t, ht⟩ := exists_point (96 * (y 0).val + (y 1).val) (by omega)
  exact ⟨t, flush1_2 t, first_mem y t ht⟩

theorem tcVal_eq (hpre : PreOK m) (d : Dev nD) : tcVal m d = firstOut (m (xLoc d)) (m (iLoc d)) :=
  (dat m d).arrAt_eq_of_cover 2 (firstOut (m (xLoc d)) (m (iLoc d))) (fun t _ => flushed_first m hpre d t) first_covered

/-! ## The joined result -/

/-- The result is the reference's value of the arguments. -/
theorem outVal_eq (hpre : PreOK m) (d : Dev nD) : outVal m d = refOut (F := Ideal) (m (xLoc d)) (m (iLoc d)) := by
  funext y
  have hy : ((y : S4x96x384x384.Idx) 0).val < 4 := ((y : S4x96x384x384.Idx) 0).isLt
  rw [refOut_eq _ _ (hpre d)]
  by_cases h : ((y : S4x96x384x384.Idx) 0).val < 3
  · refine (concatenate_pair_apply_left (0 : Fin 4) (tcVal m d) (lastVal m d) concatenates_S3x96x384x384_S1x96x384x384_S4x96x384x384_d0 y rfl
      (ix4 ⟨((y : S4x96x384x384.Idx) 0).val, h⟩ (y 1) (y 2) (y 3) : S3x96x384x384.Idx) ?_).trans ?_
    · intro a
      match a with
      | ⟨0, _⟩ => rfl
      | ⟨1, _⟩ => rfl
      | ⟨2, _⟩ => rfl
      | ⟨3, _⟩ => rfl
    · rw [tcVal_eq m hpre d]; rfl
  · refine (concatenate_pair_apply_right (0 : Fin 4) (tcVal m d) (lastVal m d) concatenates_S3x96x384x384_S1x96x384x384_S4x96x384x384_d0 y rfl rfl
      (ix4 0 (y 1) (y 2) (y 3) : S1x96x384x384.Idx) ?_ ?_).trans ?_
    · intro a ha
      match a with
      | ⟨0, _⟩ => exact absurd rfl ha
      | ⟨1, _⟩ => rfl
      | ⟨2, _⟩ => rfl
      | ⟨3, _⟩ => rfl
    · show 0 + 3 = ((y : S4x96x384x384.Idx) 0).val
      omega
    · refine (shapeCast_apply (lastOut m d) shapeCasts_S96x384x384_S1x96x384x384 _ (inPlane y) ?_).trans ?_
      · rw [Shape.rowMajor_val_three, Shape.rowMajor_val_four]
        show ((y 1).val * 384 + (y 2).val) * 384 + (y 3).val = ((0 * 96 + (y 1).val) * 384 + (y 2).val) * 384 + (y 3).val
        omega
      · show unp (F := Ideal) (m (xLoc d)) (m (iLoc d)) 3 (inPlane y) = _
        rw [show (3 : Fin 4) = y 0 from Fin.ext (by show 3 = ((y : S4x96x384x384.Idx) 0).val; omega)]

end Cert.Proof
-- ==== Proof.lean ====
/-
  The certificate. The kernel's run is `run_main` (Main.lean), at any float values; its frames at the hardware's floats and at the
  ideal ones are that run read at the two arguments and at the counters. The reference is host operations alone: its run is generated.
  The kernel's result at the ideal floats is the reference's value of the arguments, `outVal_eq` (TcValue.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Pre
public import proofs.«01_k».proof.Proof.Main
public import proofs.«01_k».proof.Proof.Same
public import proofs.«01_k».proof.Proof.TcValue
public import proofs.«01_k».proof.Proof.Gen.Pre_pooling_indices
public import Idealize.ShloMosaic.Adequacy
public import Idealize.ShloMosaic.Init

@[expose] public section

noncomputable section

namespace Cert.Proof

open Idealize.ShloMosaic Idealize.SL.Sem

/-- `Cert.quiescent_Kernel`: the run at the hardware's floats. -/
theorem frame_kernel : Cert.quiescent_Kernel := fun m ρ hpre => by
  rw [defs_eq]
  exact (θ_run Cert.KernelIdeal.defs _ _).mono (fun _ h => ⟨fun c => (h.1 c).2, h.2⟩)
    (run_main (F := Bits) m ρ fun d => inWindow_of_pre _ _ (hpre d))

/-- `Cert.quiescent_KernelIdeal`: the same run at the ideal floats. -/
theorem frame_kernelIdeal : Cert.quiescent_KernelIdeal := fun m ρ hpre =>
  (θ_run Cert.KernelIdeal.defs _ _).mono (fun _ h => ⟨fun c => (h.1 c).2, h.2⟩)
    (run_main (F := Ideal) m ρ fun d => inWindow_of_pre _ _ (hpre d))

/-- `Cert.quiescent_ReferenceIdeal`: the reference's run; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference_pre : Cert.quiescent_ReferenceIdeal_pre_pooling_indices := fun m ρ _ =>
  frame_reference m ρ trivial

/-- `Cert.algebraic_KernelIdeal_ReferenceIdeal`: both runs end at the reference's value of the kernel's arguments. -/
theorem value : Cert.algebraic_KernelIdeal_ReferenceIdeal := fun m g m' g' hpre hagree => by
  have hp : PreOK (F := Ideal) m := fun d => inWindow_of_pre _ _ (hpre d)
  refine ⟨fun c => outVal (F := Ideal) m c, ?_, ?_⟩
  · exact (θ_run Cert.KernelIdeal.defs _ _).mono (fun _ h => h.1) (run_main (F := Ideal) m g hp)
  · refine (θ_run Cert.ReferenceIdeal.defs _ _).mono (fun r h c => ⟨(h c).1.trans ?_, (h c).2⟩)
      (Cert.ReferenceIdeal.Value.run (F := Ideal) m' g')
    refine Eq.trans ?_ (outVal_eq m hp c).symm
    exact congrArg₂ (refOut (F := Ideal)) (hagree c).1 (hagree c).2

theorem claim : Cert.Claim :=
  ⟨Cert.Kernel.Gen.facts, Cert.KernelIdeal.Gen.facts, Cert.ReferenceIdeal.Gen.facts, Cert.Pre_pooling_indices.Gen.facts,
    frame_kernel, frame_kernelIdeal, frame_reference, frame_reference_pre, trivial, value⟩

end Cert.Proof

end
